-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_ProjRest (m : (ℓ : Loc Cert.ProjRest.nD Cert.ProjRest.τ Cert.ProjRest.sig) → Buf (Elt Bits) ℓ) : Prop :=
  True

def Pre_ProjRestIdeal (m : (ℓ : Loc Cert.ProjRestIdeal.nD Cert.ProjRestIdeal.τ Cert.ProjRestIdeal.sig) → Buf (Elt Ideal) ℓ) : Prop :=
  True

def Pre_ProjRestReferenceIdeal (m : (ℓ : Loc Cert.ProjRestReferenceIdeal.nD Cert.ProjRestReferenceIdeal.τ Cert.ProjRestReferenceIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownReferenceIdeal (m : (ℓ : Loc Cert.MlpDownReferenceIdeal.nD Cert.MlpDownReferenceIdeal.τ Cert.MlpDownReferenceIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpReferenceIdeal (m : (ℓ : Loc Cert.MlpUpReferenceIdeal.nD Cert.MlpUpReferenceIdeal.τ Cert.MlpUpReferenceIdeal.sig) → Buf (Elt Ideal) ℓ) : Prop :=
  True

def Pre_ProjOut (m : (ℓ : Loc Cert.ProjOut.nD Cert.ProjOut.τ Cert.ProjOut.sig) → Buf (Elt Bits) ℓ) : Prop :=
  True

def Pre_ProjOutIdeal (m : (ℓ : Loc Cert.ProjOutIdeal.nD Cert.ProjOutIdeal.τ Cert.ProjOutIdeal.sig) → Buf (Elt Ideal) ℓ) : Prop :=
  True

def Pre_ProjOutReferenceIdeal (m : (ℓ : Loc Cert.ProjOutReferenceIdeal.nD Cert.ProjOutReferenceIdeal.τ Cert.ProjOutReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_ProjQk (m : (ℓ : Loc Cert.ProjQk.nD Cert.ProjQk.τ Cert.ProjQk.sig) → Buf (Elt Bits) ℓ) : Prop :=
  True

def Pre_ProjQkIdeal (m : (ℓ : Loc Cert.ProjQkIdeal.nD Cert.ProjQkIdeal.τ Cert.ProjQkIdeal.sig) → Buf (Elt Ideal) ℓ) : Prop :=
  True

def Pre_ProjQkReferenceIdeal (m : (ℓ : Loc Cert.ProjQkReferenceIdeal.nD Cert.ProjQkReferenceIdeal.τ Cert.ProjQkReferenceIdeal.sig) → Buf (Elt Ideal) ℓ) : Prop :=
  True

def Pre_RowNorm (m : (ℓ : Loc Cert.RowNorm.nD Cert.RowNorm.τ Cert.RowNorm.sig) → Buf (Elt Bits) ℓ) : Prop :=
  True

def Pre_RowNormIdeal (m : (ℓ : Loc Cert.RowNormIdeal.nD Cert.RowNormIdeal.τ Cert.RowNormIdeal.sig) → Buf (Elt Ideal) ℓ) : Prop :=
  True

def Pre_RowNormReferenceIdeal (m : (ℓ : Loc Cert.RowNormReferenceIdeal.nD Cert.RowNormReferenceIdeal.τ Cert.RowNormReferenceIdeal.sig) → Buf (Elt Ideal) ℓ) : Prop :=
  True

def Pre_RotaryB (m : (ℓ : Loc Cert.RotaryB.nD Cert.RotaryB.τ Cert.RotaryB.sig) → Buf (Elt Bits) ℓ) : Prop :=
  True

def Pre_RotaryBIdeal (m : (ℓ : Loc Cert.RotaryBIdeal.nD Cert.RotaryBIdeal.τ Cert.RotaryBIdeal.sig) → Buf (Elt Ideal) ℓ) : Prop :=
  True

def Pre_RotaryBReferenceIdeal (m : (ℓ : Loc Cert.RotaryBReferenceIdeal.nD Cert.RotaryBReferenceIdeal.τ Cert.RotaryBReferenceIdeal.sig) → Buf (Elt Ideal) ℓ) : Prop :=
  True

def Pre_RotaryC (m : (ℓ : Loc Cert.RotaryC.nD Cert.RotaryC.τ Cert.RotaryC.sig) → Buf (Elt Bits) ℓ) : Prop :=
  True

def Pre_RotaryCIdeal (m : (ℓ : Loc Cert.RotaryCIdeal.nD Cert.RotaryCIdeal.τ Cert.RotaryCIdeal.sig) → Buf (Elt Ideal) ℓ) : Prop :=
  True

def Pre_RotaryCReferenceIdeal (m : (ℓ : Loc Cert.RotaryCReferenceIdeal.nD Cert.RotaryCReferenceIdeal.τ Cert.RotaryCReferenceIdeal.sig) → Buf (Elt Ideal) ℓ) : Prop :=
  True

def Pre_ValuesT (m : (ℓ : Loc Cert.ValuesT.nD Cert.ValuesT.τ Cert.ValuesT.sig) → Buf (Elt Bits) ℓ) : Prop :=
  True

def Pre_ValuesTIdeal (m : (ℓ : Loc Cert.ValuesTIdeal.nD Cert.ValuesTIdeal.τ Cert.ValuesTIdeal.sig) → Buf (Elt Ideal) ℓ) : Prop :=
  True

def Pre_ValuesTReferenceIdeal (m : (ℓ : Loc Cert.ValuesTReferenceIdeal.nD Cert.ValuesTReferenceIdeal.τ Cert.ValuesTReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ProjRest [hProjRest : Cert.ProjRest.Facts] : Prop :=
  ∀ (m : (ℓ : Loc Cert.ProjRest.nD Cert.ProjRest.τ Cert.ProjRest.sig) → Buf (Elt Bits) ℓ) (g : Dev Cert.ProjRest.nD → PrngReg), Pre_ProjRest m →
    θ_run (Cert.ProjRest.defs (F := Bits)) (onTc (τ := Cert.ProjRest.τ) (Cert.ProjRest.main (F := Bits))) ⟨m, fun _ => 0, g⟩ (fun r => (∀ c : Dev Cert.ProjRest.nD,
      r.2.mem ((c.tc : Thread Cert.ProjRest.nD Cert.ProjRest.τ).loc Cert.ProjRest.main_arg0) = m ((c.tc : Thread Cert.ProjRest.nD Cert.ProjRest.τ).loc Cert.ProjRest.main_arg0)
      ∧ r.2.mem ((c.tc : Thread Cert.ProjRest.nD Cert.ProjRest.τ).loc Cert.ProjRest.main_arg1) = m ((c.tc : Thread Cert.ProjRest.nD Cert.ProjRest.τ).loc Cert.ProjRest.main_arg1))
      ∧ r.2.sem = fun _ => 0)

def quiescent_ProjRestIdeal [hProjRestIdeal : Cert.ProjRestIdeal.Facts] : Prop :=
  ∀ (m : (ℓ : Loc Cert.ProjRestIdeal.nD Cert.ProjRestIdeal.τ Cert.ProjRestIdeal.sig) → Buf (Elt Ideal) ℓ) (g : Dev Cert.ProjRestIdeal.nD → PrngReg), Pre_ProjRestIdeal m →
    θ_run (Cert.ProjRestIdeal.defs (F := Ideal)) (onTc (τ := Cert.ProjRestIdeal.τ) (Cert.ProjRestIdeal.main (F := Ideal))) ⟨m, fun _ => 0, g⟩ (fun r => (∀ c : Dev Cert.ProjRestIdeal.nD,
      r.2.mem ((c.tc : Thread Cert.ProjRestIdeal.nD Cert.ProjRestIdeal.τ).loc Cert.ProjRestIdeal.main_arg0) = m ((c.tc : Thread Cert.ProjRestIdeal.nD Cert.ProjRestIdeal.τ).loc Cert.ProjRestIdeal.main_arg0)
      ∧ r.2.mem ((c.tc : Thread Cert.ProjRestIdeal.nD Cert.ProjRestIdeal.τ).loc Cert.ProjRestIdeal.main_arg1) = m ((c.tc : Thread Cert.ProjRestIdeal.nD Cert.ProjRestIdeal.τ).loc Cert.ProjRestIdeal.main_arg1))
      ∧ r.2.sem = fun _ => 0)

def quiescent_ProjRestReferenceIdeal [hProjRestReferenceIdeal : Cert.ProjRestReferenceIdeal.Facts] : Prop :=
  ∀ (m : (ℓ : Loc Cert.ProjRestReferenceIdeal.nD Cert.ProjRestReferenceIdeal.τ Cert.ProjRestReferenceIdeal.sig) → Buf (Elt Ideal) ℓ) (g : Dev Cert.ProjRestReferenceIdeal.nD → PrngReg), Pre_ProjRestReferenceIdeal m →
    θ_run (Cert.ProjRestReferenceIdeal.defs (F := Ideal)) (onTc (τ := Cert.ProjRestReferenceIdeal.τ) (Cert.ProjRestReferenceIdeal.main (F := Ideal))) ⟨m, fun _ => 0, g⟩ (fun r => (∀ c : Dev Cert.ProjRestReferenceIdeal.nD,
      r.2.mem ((c.tc : Thread Cert.ProjRestReferenceIdeal.nD Cert.ProjRestReferenceIdeal.τ).loc Cert.ProjRestReferenceIdeal.main_arg0) = m ((c.tc : Thread Cert.ProjRestReferenceIdeal.nD Cert.ProjRestReferenceIdeal.τ).loc Cert.ProjRestReferenceIdeal.main_arg0)
      ∧ r.2.mem ((c.tc : Thread Cert.ProjRestReferenceIdeal.nD Cert.ProjRestReferenceIdeal.τ).loc Cert.ProjRestReferenceIdeal.main_arg1) = m ((c.tc : Thread Cert.ProjRestReferenceIdeal.nD Cert.ProjRestReferenceIdeal.τ).loc Cert.ProjRestReferenceIdeal.main_arg1))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ r.2.sem = fun _ => 0)

def quiescent_MlpDownReferenceIdeal [hMlpDownReferenceIdeal : Cert.MlpDownReferenceIdeal.Facts] : Prop :=
  ∀ (m : (ℓ : Loc Cert.MlpDownReferenceIdeal.nD Cert.MlpDownReferenceIdeal.τ Cert.MlpDownReferenceIdeal.sig) → Buf (Elt Ideal) ℓ) (g : Dev Cert.MlpDownReferenceIdeal.nD → PrngReg), Pre_MlpDownReferenceIdeal m →
    θ_run (Cert.MlpDownReferenceIdeal.defs (F := Ideal)) (onTc (τ := Cert.MlpDownReferenceIdeal.τ) (Cert.MlpDownReferenceIdeal.main (F := Ideal))) ⟨m, fun _ => 0, g⟩ (fun r => (∀ c : Dev Cert.MlpDownReferenceIdeal.nD,
      r.2.mem ((c.tc : Thread Cert.MlpDownReferenceIdeal.nD Cert.MlpDownReferenceIdeal.τ).loc Cert.MlpDownReferenceIdeal.main_arg0) = m ((c.tc : Thread Cert.MlpDownReferenceIdeal.nD Cert.MlpDownReferenceIdeal.τ).loc Cert.MlpDownReferenceIdeal.main_arg0)
      ∧ r.2.mem ((c.tc : Thread Cert.MlpDownReferenceIdeal.nD Cert.MlpDownReferenceIdeal.τ).loc Cert.MlpDownReferenceIdeal.main_arg1) = m ((c.tc : Thread Cert.MlpDownReferenceIdeal.nD Cert.MlpDownReferenceIdeal.τ).loc Cert.MlpDownReferenceIdeal.main_arg1)
      ∧ r.2.mem ((c.tc : Thread Cert.MlpDownReferenceIdeal.nD Cert.MlpDownReferenceIdeal.τ).loc Cert.MlpDownReferenceIdeal.main_arg2) = m ((c.tc : Thread Cert.MlpDownReferenceIdeal.nD Cert.MlpDownReferenceIdeal.τ).loc Cert.MlpDownReferenceIdeal.main_arg2))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1)
      ∧ r.2.mem ((c.tc : Thread Cert.MlpUp.nD Cert.MlpUp.τ).loc Cert.MlpUp.main_arg2) = m ((c.tc : Thread Cert.MlpUp.nD Cert.MlpUp.τ).loc Cert.MlpUp.main_arg2))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1)
      ∧ r.2.mem ((c.tc : Thread Cert.MlpUpIdeal.nD Cert.MlpUpIdeal.τ).loc Cert.MlpUpIdeal.main_arg2) = m ((c.tc : Thread Cert.MlpUpIdeal.nD Cert.MlpUpIdeal.τ).loc Cert.MlpUpIdeal.main_arg2))
      ∧ r.2.sem = fun _ => 0)

def quiescent_MlpUpReferenceIdeal [hMlpUpReferenceIdeal : Cert.MlpUpReferenceIdeal.Facts] : Prop :=
  ∀ (m : (ℓ : Loc Cert.MlpUpReferenceIdeal.nD Cert.MlpUpReferenceIdeal.τ Cert.MlpUpReferenceIdeal.sig) → Buf (Elt Ideal) ℓ) (g : Dev Cert.MlpUpReferenceIdeal.nD → PrngReg), Pre_MlpUpReferenceIdeal m →
    θ_run (Cert.MlpUpReferenceIdeal.defs (F := Ideal)) (onTc (τ := Cert.MlpUpReferenceIdeal.τ) (Cert.MlpUpReferenceIdeal.main (F := Ideal))) ⟨m, fun _ => 0, g⟩ (fun r => (∀ c : Dev Cert.MlpUpReferenceIdeal.nD,
      r.2.mem ((c.tc : Thread Cert.MlpUpReferenceIdeal.nD Cert.MlpUpReferenceIdeal.τ).loc Cert.MlpUpReferenceIdeal.main_arg0) = m ((c.tc : Thread Cert.MlpUpReferenceIdeal.nD Cert.MlpUpReferenceIdeal.τ).loc Cert.MlpUpReferenceIdeal.main_arg0)
      ∧ r.2.mem ((c.tc : Thread Cert.MlpUpReferenceIdeal.nD Cert.MlpUpReferenceIdeal.τ).loc Cert.MlpUpReferenceIdeal.main_arg1) = m ((c.tc : Thread Cert.MlpUpReferenceIdeal.nD Cert.MlpUpReferenceIdeal.τ).loc Cert.MlpUpReferenceIdeal.main_arg1)
      ∧ r.2.mem ((c.tc : Thread Cert.MlpUpReferenceIdeal.nD Cert.MlpUpReferenceIdeal.τ).loc Cert.MlpUpReferenceIdeal.main_arg2) = m ((c.tc : Thread Cert.MlpUpReferenceIdeal.nD Cert.MlpUpReferenceIdeal.τ).loc Cert.MlpUpReferenceIdeal.main_arg2))
      ∧ r.2.sem = fun _ => 0)

def quiescent_ProjOut [hProjOut : Cert.ProjOut.Facts] : Prop :=
  ∀ (m : (ℓ : Loc Cert.ProjOut.nD Cert.ProjOut.τ Cert.ProjOut.sig) → Buf (Elt Bits) ℓ) (g : Dev Cert.ProjOut.nD → PrngReg), Pre_ProjOut m →
    θ_run (Cert.ProjOut.defs (F := Bits)) (onTc (τ := Cert.ProjOut.τ) (Cert.ProjOut.main (F := Bits))) ⟨m, fun _ => 0, g⟩ (fun r => (∀ c : Dev Cert.ProjOut.nD,
      r.2.mem ((c.tc : Thread Cert.ProjOut.nD Cert.ProjOut.τ).loc Cert.ProjOut.main_arg0) = m ((c.tc : Thread Cert.ProjOut.nD Cert.ProjOut.τ).loc Cert.ProjOut.main_arg0)
      ∧ r.2.mem ((c.tc : Thread Cert.ProjOut.nD Cert.ProjOut.τ).loc Cert.ProjOut.main_arg1) = m ((c.tc : Thread Cert.ProjOut.nD Cert.ProjOut.τ).loc Cert.ProjOut.main_arg1)
      ∧ r.2.mem ((c.tc : Thread Cert.ProjOut.nD Cert.ProjOut.τ).loc Cert.ProjOut.main_arg2) = m ((c.tc : Thread Cert.ProjOut.nD Cert.ProjOut.τ).loc Cert.ProjOut.main_arg2))
      ∧ r.2.sem = fun _ => 0)

def quiescent_ProjOutIdeal [hProjOutIdeal : Cert.ProjOutIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg), Pre_ProjOutIdeal m →
    θ_run (Cert.ProjOutIdeal.defs (F := Ideal)) (onTc (τ := Cert.ProjOutIdeal.τ) (Cert.ProjOutIdeal.main (F := Ideal))) ⟨m, fun _ => 0, g⟩ (fun r => (∀ c : Dev Cert.ProjOutIdeal.nD,
      r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
      ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
      ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2))
      ∧ r.2.sem = fun _ => 0)

def quiescent_ProjOutReferenceIdeal [hProjOutReferenceIdeal : Cert.ProjOutReferenceIdeal.Facts] : Prop :=
  ∀ (m : (ℓ : Loc Cert.ProjOutReferenceIdeal.nD Cert.ProjOutReferenceIdeal.τ Cert.ProjOutReferenceIdeal.sig) → Buf (Elt Ideal) ℓ) (g : Dev Cert.ProjOutReferenceIdeal.nD → PrngReg), Pre_ProjOutReferenceIdeal m →
    θ_run (Cert.ProjOutReferenceIdeal.defs (F := Ideal)) (onTc (τ := Cert.ProjOutReferenceIdeal.τ) (Cert.ProjOutReferenceIdeal.main (F := Ideal))) ⟨m, fun _ => 0, g⟩ (fun r => (∀ c : Dev Cert.ProjOutReferenceIdeal.nD,
      r.2.mem ((c.tc : Thread Cert.ProjOutReferenceIdeal.nD Cert.ProjOutReferenceIdeal.τ).loc Cert.ProjOutReferenceIdeal.main_arg0) = m ((c.tc : Thread Cert.ProjOutReferenceIdeal.nD Cert.ProjOutReferenceIdeal.τ).loc Cert.ProjOutReferenceIdeal.main_arg0)
      ∧ r.2.mem ((c.tc : Thread Cert.ProjOutReferenceIdeal.nD Cert.ProjOutReferenceIdeal.τ).loc Cert.ProjOutReferenceIdeal.main_arg1) = m ((c.tc : Thread Cert.ProjOutReferenceIdeal.nD Cert.ProjOutReferenceIdeal.τ).loc Cert.ProjOutReferenceIdeal.main_arg1)
      ∧ r.2.mem ((c.tc : Thread Cert.ProjOutReferenceIdeal.nD Cert.ProjOutReferenceIdeal.τ).loc Cert.ProjOutReferenceIdeal.main_arg2) = m ((c.tc : Thread Cert.ProjOutReferenceIdeal.nD Cert.ProjOutReferenceIdeal.τ).loc Cert.ProjOutReferenceIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0)

def quiescent_ProjQk [hProjQk : Cert.ProjQk.Facts] : Prop :=
  ∀ (m : (ℓ : Loc Cert.ProjQk.nD Cert.ProjQk.τ Cert.ProjQk.sig) → Buf (Elt Bits) ℓ) (g : Dev Cert.ProjQk.nD → PrngReg), Pre_ProjQk m →
    θ_run (Cert.ProjQk.defs (F := Bits)) (onTc (τ := Cert.ProjQk.τ) (Cert.ProjQk.main (F := Bits))) ⟨m, fun _ => 0, g⟩ (fun r => (∀ c : Dev Cert.ProjQk.nD,
      r.2.mem ((c.tc : Thread Cert.ProjQk.nD Cert.ProjQk.τ).loc Cert.ProjQk.main_arg0) = m ((c.tc : Thread Cert.ProjQk.nD Cert.ProjQk.τ).loc Cert.ProjQk.main_arg0)
      ∧ r.2.mem ((c.tc : Thread Cert.ProjQk.nD Cert.ProjQk.τ).loc Cert.ProjQk.main_arg1) = m ((c.tc : Thread Cert.ProjQk.nD Cert.ProjQk.τ).loc Cert.ProjQk.main_arg1)
      ∧ r.2.mem ((c.tc : Thread Cert.ProjQk.nD Cert.ProjQk.τ).loc Cert.ProjQk.main_arg2) = m ((c.tc : Thread Cert.ProjQk.nD Cert.ProjQk.τ).loc Cert.ProjQk.main_arg2))
      ∧ r.2.sem = fun _ => 0)

def quiescent_ProjQkIdeal [hProjQkIdeal : Cert.ProjQkIdeal.Facts] : Prop :=
  ∀ (m : (ℓ : Loc Cert.ProjQkIdeal.nD Cert.ProjQkIdeal.τ Cert.ProjQkIdeal.sig) → Buf (Elt Ideal) ℓ) (g : Dev Cert.ProjQkIdeal.nD → PrngReg), Pre_ProjQkIdeal m →
    θ_run (Cert.ProjQkIdeal.defs (F := Ideal)) (onTc (τ := Cert.ProjQkIdeal.τ) (Cert.ProjQkIdeal.main (F := Ideal))) ⟨m, fun _ => 0, g⟩ (fun r => (∀ c : Dev Cert.ProjQkIdeal.nD,
      r.2.mem ((c.tc : Thread Cert.ProjQkIdeal.nD Cert.ProjQkIdeal.τ).loc Cert.ProjQkIdeal.main_arg0) = m ((c.tc : Thread Cert.ProjQkIdeal.nD Cert.ProjQkIdeal.τ).loc Cert.ProjQkIdeal.main_arg0)
      ∧ r.2.mem ((c.tc : Thread Cert.ProjQkIdeal.nD Cert.ProjQkIdeal.τ).loc Cert.ProjQkIdeal.main_arg1) = m ((c.tc : Thread Cert.ProjQkIdeal.nD Cert.ProjQkIdeal.τ).loc Cert.ProjQkIdeal.main_arg1)
      ∧ r.2.mem ((c.tc : Thread Cert.ProjQkIdeal.nD Cert.ProjQkIdeal.τ).loc Cert.ProjQkIdeal.main_arg2) = m ((c.tc : Thread Cert.ProjQkIdeal.nD Cert.ProjQkIdeal.τ).loc Cert.ProjQkIdeal.main_arg2))
      ∧ r.2.sem = fun _ => 0)

def quiescent_ProjQkReferenceIdeal [hProjQkReferenceIdeal : Cert.ProjQkReferenceIdeal.Facts] : Prop :=
  ∀ (m : (ℓ : Loc Cert.ProjQkReferenceIdeal.nD Cert.ProjQkReferenceIdeal.τ Cert.ProjQkReferenceIdeal.sig) → Buf (Elt Ideal) ℓ) (g : Dev Cert.ProjQkReferenceIdeal.nD → PrngReg), Pre_ProjQkReferenceIdeal m →
    θ_run (Cert.ProjQkReferenceIdeal.defs (F := Ideal)) (onTc (τ := Cert.ProjQkReferenceIdeal.τ) (Cert.ProjQkReferenceIdeal.main (F := Ideal))) ⟨m, fun _ => 0, g⟩ (fun r => (∀ c : Dev Cert.ProjQkReferenceIdeal.nD,
      r.2.mem ((c.tc : Thread Cert.ProjQkReferenceIdeal.nD Cert.ProjQkReferenceIdeal.τ).loc Cert.ProjQkReferenceIdeal.main_arg0) = m ((c.tc : Thread Cert.ProjQkReferenceIdeal.nD Cert.ProjQkReferenceIdeal.τ).loc Cert.ProjQkReferenceIdeal.main_arg0)
      ∧ r.2.mem ((c.tc : Thread Cert.ProjQkReferenceIdeal.nD Cert.ProjQkReferenceIdeal.τ).loc Cert.ProjQkReferenceIdeal.main_arg1) = m ((c.tc : Thread Cert.ProjQkReferenceIdeal.nD Cert.ProjQkReferenceIdeal.τ).loc Cert.ProjQkReferenceIdeal.main_arg1)
      ∧ r.2.mem ((c.tc : Thread Cert.ProjQkReferenceIdeal.nD Cert.ProjQkReferenceIdeal.τ).loc Cert.ProjQkReferenceIdeal.main_arg2) = m ((c.tc : Thread Cert.ProjQkReferenceIdeal.nD Cert.ProjQkReferenceIdeal.τ).loc Cert.ProjQkReferenceIdeal.main_arg2))
      ∧ r.2.sem = fun _ => 0)

def quiescent_RowNorm [hRowNorm : Cert.RowNorm.Facts] : Prop :=
  ∀ (m : (ℓ : Loc Cert.RowNorm.nD Cert.RowNorm.τ Cert.RowNorm.sig) → Buf (Elt Bits) ℓ) (g : Dev Cert.RowNorm.nD → PrngReg), Pre_RowNorm m →
    θ_run (Cert.RowNorm.defs (F := Bits)) (onTc (τ := Cert.RowNorm.τ) (Cert.RowNorm.main (F := Bits))) ⟨m, fun _ => 0, g⟩ (fun r => (∀ c : Dev Cert.RowNorm.nD,
      r.2.mem ((c.tc : Thread Cert.RowNorm.nD Cert.RowNorm.τ).loc Cert.RowNorm.main_arg0) = m ((c.tc : Thread Cert.RowNorm.nD Cert.RowNorm.τ).loc Cert.RowNorm.main_arg0)
      ∧ r.2.mem ((c.tc : Thread Cert.RowNorm.nD Cert.RowNorm.τ).loc Cert.RowNorm.main_arg1) = m ((c.tc : Thread Cert.RowNorm.nD Cert.RowNorm.τ).loc Cert.RowNorm.main_arg1))
      ∧ r.2.sem = fun _ => 0)

def quiescent_RowNormIdeal [hRowNormIdeal : Cert.RowNormIdeal.Facts] : Prop :=
  ∀ (m : (ℓ : Loc Cert.RowNormIdeal.nD Cert.RowNormIdeal.τ Cert.RowNormIdeal.sig) → Buf (Elt Ideal) ℓ) (g : Dev Cert.RowNormIdeal.nD → PrngReg), Pre_RowNormIdeal m →
    θ_run (Cert.RowNormIdeal.defs (F := Ideal)) (onTc (τ := Cert.RowNormIdeal.τ) (Cert.RowNormIdeal.main (F := Ideal))) ⟨m, fun _ => 0, g⟩ (fun r => (∀ c : Dev Cert.RowNormIdeal.nD,
      r.2.mem ((c.tc : Thread Cert.RowNormIdeal.nD Cert.RowNormIdeal.τ).loc Cert.RowNormIdeal.main_arg0) = m ((c.tc : Thread Cert.RowNormIdeal.nD Cert.RowNormIdeal.τ).loc Cert.RowNormIdeal.main_arg0)
      ∧ r.2.mem ((c.tc : Thread Cert.RowNormIdeal.nD Cert.RowNormIdeal.τ).loc Cert.RowNormIdeal.main_arg1) = m ((c.tc : Thread Cert.RowNormIdeal.nD Cert.RowNormIdeal.τ).loc Cert.RowNormIdeal.main_arg1))
      ∧ r.2.sem = fun _ => 0)

def quiescent_RowNormReferenceIdeal [hRowNormReferenceIdeal : Cert.RowNormReferenceIdeal.Facts] : Prop :=
  ∀ (m : (ℓ : Loc Cert.RowNormReferenceIdeal.nD Cert.RowNormReferenceIdeal.τ Cert.RowNormReferenceIdeal.sig) → Buf (Elt Ideal) ℓ) (g : Dev Cert.RowNormReferenceIdeal.nD → PrngReg), Pre_RowNormReferenceIdeal m →
    θ_run (Cert.RowNormReferenceIdeal.defs (F := Ideal)) (onTc (τ := Cert.RowNormReferenceIdeal.τ) (Cert.RowNormReferenceIdeal.main (F := Ideal))) ⟨m, fun _ => 0, g⟩ (fun r => (∀ c : Dev Cert.RowNormReferenceIdeal.nD,
      r.2.mem ((c.tc : Thread Cert.RowNormReferenceIdeal.nD Cert.RowNormReferenceIdeal.τ).loc Cert.RowNormReferenceIdeal.main_arg0) = m ((c.tc : Thread Cert.RowNormReferenceIdeal.nD Cert.RowNormReferenceIdeal.τ).loc Cert.RowNormReferenceIdeal.main_arg0)
      ∧ r.2.mem ((c.tc : Thread Cert.RowNormReferenceIdeal.nD Cert.RowNormReferenceIdeal.τ).loc Cert.RowNormReferenceIdeal.main_arg1) = m ((c.tc : Thread Cert.RowNormReferenceIdeal.nD Cert.RowNormReferenceIdeal.τ).loc Cert.RowNormReferenceIdeal.main_arg1))
      ∧ r.2.sem = fun _ => 0)

def quiescent_RotaryB [hRotaryB : Cert.RotaryB.Facts] : Prop :=
  ∀ (m : (ℓ : Loc Cert.RotaryB.nD Cert.RotaryB.τ Cert.RotaryB.sig) → Buf (Elt Bits) ℓ) (g : Dev Cert.RotaryB.nD → PrngReg), Pre_RotaryB m →
    θ_run (Cert.RotaryB.defs (F := Bits)) (onTc (τ := Cert.RotaryB.τ) (Cert.RotaryB.main (F := Bits))) ⟨m, fun _ => 0, g⟩ (fun r => (∀ c : Dev Cert.RotaryB.nD,
      r.2.mem ((c.tc : Thread Cert.RotaryB.nD Cert.RotaryB.τ).loc Cert.RotaryB.main_arg0) = m ((c.tc : Thread Cert.RotaryB.nD Cert.RotaryB.τ).loc Cert.RotaryB.main_arg0)
      ∧ r.2.mem ((c.tc : Thread Cert.RotaryB.nD Cert.RotaryB.τ).loc Cert.RotaryB.main_arg1) = m ((c.tc : Thread Cert.RotaryB.nD Cert.RotaryB.τ).loc Cert.RotaryB.main_arg1)
      ∧ r.2.mem ((c.tc : Thread Cert.RotaryB.nD Cert.RotaryB.τ).loc Cert.RotaryB.main_arg2) = m ((c.tc : Thread Cert.RotaryB.nD Cert.RotaryB.τ).loc Cert.RotaryB.main_arg2))
      ∧ r.2.sem = fun _ => 0)

def quiescent_RotaryBIdeal [hRotaryBIdeal : Cert.RotaryBIdeal.Facts] : Prop :=
  ∀ (m : (ℓ : Loc Cert.RotaryBIdeal.nD Cert.RotaryBIdeal.τ Cert.RotaryBIdeal.sig) → Buf (Elt Ideal) ℓ) (g : Dev Cert.RotaryBIdeal.nD → PrngReg), Pre_RotaryBIdeal m →
    θ_run (Cert.RotaryBIdeal.defs (F := Ideal)) (onTc (τ := Cert.RotaryBIdeal.τ) (Cert.RotaryBIdeal.main (F := Ideal))) ⟨m, fun _ => 0, g⟩ (fun r => (∀ c : Dev Cert.RotaryBIdeal.nD,
      r.2.mem ((c.tc : Thread Cert.RotaryBIdeal.nD Cert.RotaryBIdeal.τ).loc Cert.RotaryBIdeal.main_arg0) = m ((c.tc : Thread Cert.RotaryBIdeal.nD Cert.RotaryBIdeal.τ).loc Cert.RotaryBIdeal.main_arg0)
      ∧ r.2.mem ((c.tc : Thread Cert.RotaryBIdeal.nD Cert.RotaryBIdeal.τ).loc Cert.RotaryBIdeal.main_arg1) = m ((c.tc : Thread Cert.RotaryBIdeal.nD Cert.RotaryBIdeal.τ).loc Cert.RotaryBIdeal.main_arg1)
      ∧ r.2.mem ((c.tc : Thread Cert.RotaryBIdeal.nD Cert.RotaryBIdeal.τ).loc Cert.RotaryBIdeal.main_arg2) = m ((c.tc : Thread Cert.RotaryBIdeal.nD Cert.RotaryBIdeal.τ).loc Cert.RotaryBIdeal.main_arg2))
      ∧ r.2.sem = fun _ => 0)

def quiescent_RotaryBReferenceIdeal [hRotaryBReferenceIdeal : Cert.RotaryBReferenceIdeal.Facts] : Prop :=
  ∀ (m : (ℓ : Loc Cert.RotaryBReferenceIdeal.nD Cert.RotaryBReferenceIdeal.τ Cert.RotaryBReferenceIdeal.sig) → Buf (Elt Ideal) ℓ) (g : Dev Cert.RotaryBReferenceIdeal.nD → PrngReg), Pre_RotaryBReferenceIdeal m →
    θ_run (Cert.RotaryBReferenceIdeal.defs (F := Ideal)) (onTc (τ := Cert.RotaryBReferenceIdeal.τ) (Cert.RotaryBReferenceIdeal.main (F := Ideal))) ⟨m, fun _ => 0, g⟩ (fun r => (∀ c : Dev Cert.RotaryBReferenceIdeal.nD,
      r.2.mem ((c.tc : Thread Cert.RotaryBReferenceIdeal.nD Cert.RotaryBReferenceIdeal.τ).loc Cert.RotaryBReferenceIdeal.main_arg0) = m ((c.tc : Thread Cert.RotaryBReferenceIdeal.nD Cert.RotaryBReferenceIdeal.τ).loc Cert.RotaryBReferenceIdeal.main_arg0)
      ∧ r.2.mem ((c.tc : Thread Cert.RotaryBReferenceIdeal.nD Cert.RotaryBReferenceIdeal.τ).loc Cert.RotaryBReferenceIdeal.main_arg1) = m ((c.tc : Thread Cert.RotaryBReferenceIdeal.nD Cert.RotaryBReferenceIdeal.τ).loc Cert.RotaryBReferenceIdeal.main_arg1)
      ∧ r.2.mem ((c.tc : Thread Cert.RotaryBReferenceIdeal.nD Cert.RotaryBReferenceIdeal.τ).loc Cert.RotaryBReferenceIdeal.main_arg2) = m ((c.tc : Thread Cert.RotaryBReferenceIdeal.nD Cert.RotaryBReferenceIdeal.τ).loc Cert.RotaryBReferenceIdeal.main_arg2))
      ∧ r.2.sem = fun _ => 0)

def quiescent_RotaryC [hRotaryC : Cert.RotaryC.Facts] : Prop :=
  ∀ (m : (ℓ : Loc Cert.RotaryC.nD Cert.RotaryC.τ Cert.RotaryC.sig) → Buf (Elt Bits) ℓ) (g : Dev Cert.RotaryC.nD → PrngReg), Pre_RotaryC m →
    θ_run (Cert.RotaryC.defs (F := Bits)) (onTc (τ := Cert.RotaryC.τ) (Cert.RotaryC.main (F := Bits))) ⟨m, fun _ => 0, g⟩ (fun r => (∀ c : Dev Cert.RotaryC.nD,
      r.2.mem ((c.tc : Thread Cert.RotaryC.nD Cert.RotaryC.τ).loc Cert.RotaryC.main_arg0) = m ((c.tc : Thread Cert.RotaryC.nD Cert.RotaryC.τ).loc Cert.RotaryC.main_arg0)
      ∧ r.2.mem ((c.tc : Thread Cert.RotaryC.nD Cert.RotaryC.τ).loc Cert.RotaryC.main_arg1) = m ((c.tc : Thread Cert.RotaryC.nD Cert.RotaryC.τ).loc Cert.RotaryC.main_arg1)
      ∧ r.2.mem ((c.tc : Thread Cert.RotaryC.nD Cert.RotaryC.τ).loc Cert.RotaryC.main_arg2) = m ((c.tc : Thread Cert.RotaryC.nD Cert.RotaryC.τ).loc Cert.RotaryC.main_arg2)
      ∧ r.2.mem ((c.tc : Thread Cert.RotaryC.nD Cert.RotaryC.τ).loc Cert.RotaryC.main_arg3) = m ((c.tc : Thread Cert.RotaryC.nD Cert.RotaryC.τ).loc Cert.RotaryC.main_arg3))
      ∧ r.2.sem = fun _ => 0)

def quiescent_RotaryCIdeal [hRotaryCIdeal : Cert.RotaryCIdeal.Facts] : Prop :=
  ∀ (m : (ℓ : Loc Cert.RotaryCIdeal.nD Cert.RotaryCIdeal.τ Cert.RotaryCIdeal.sig) → Buf (Elt Ideal) ℓ) (g : Dev Cert.RotaryCIdeal.nD → PrngReg), Pre_RotaryCIdeal m →
    θ_run (Cert.RotaryCIdeal.defs (F := Ideal)) (onTc (τ := Cert.RotaryCIdeal.τ) (Cert.RotaryCIdeal.main (F := Ideal))) ⟨m, fun _ => 0, g⟩ (fun r => (∀ c : Dev Cert.RotaryCIdeal.nD,
      r.2.mem ((c.tc : Thread Cert.RotaryCIdeal.nD Cert.RotaryCIdeal.τ).loc Cert.RotaryCIdeal.main_arg0) = m ((c.tc : Thread Cert.RotaryCIdeal.nD Cert.RotaryCIdeal.τ).loc Cert.RotaryCIdeal.main_arg0)
      ∧ r.2.mem ((c.tc : Thread Cert.RotaryCIdeal.nD Cert.RotaryCIdeal.τ).loc Cert.RotaryCIdeal.main_arg1) = m ((c.tc : Thread Cert.RotaryCIdeal.nD Cert.RotaryCIdeal.τ).loc Cert.RotaryCIdeal.main_arg1)
      ∧ r.2.mem ((c.tc : Thread Cert.RotaryCIdeal.nD Cert.RotaryCIdeal.τ).loc Cert.RotaryCIdeal.main_arg2) = m ((c.tc : Thread Cert.RotaryCIdeal.nD Cert.RotaryCIdeal.τ).loc Cert.RotaryCIdeal.main_arg2)
      ∧ r.2.mem ((c.tc : Thread Cert.RotaryCIdeal.nD Cert.RotaryCIdeal.τ).loc Cert.RotaryCIdeal.main_arg3) = m ((c.tc : Thread Cert.RotaryCIdeal.nD Cert.RotaryCIdeal.τ).loc Cert.RotaryCIdeal.main_arg3))
      ∧ r.2.sem = fun _ => 0)

def quiescent_RotaryCReferenceIdeal [hRotaryCReferenceIdeal : Cert.RotaryCReferenceIdeal.Facts] : Prop :=
  ∀ (m : (ℓ : Loc Cert.RotaryCReferenceIdeal.nD Cert.RotaryCReferenceIdeal.τ Cert.RotaryCReferenceIdeal.sig) → Buf (Elt Ideal) ℓ) (g : Dev Cert.RotaryCReferenceIdeal.nD → PrngReg), Pre_RotaryCReferenceIdeal m →
    θ_run (Cert.RotaryCReferenceIdeal.defs (F := Ideal)) (onTc (τ := Cert.RotaryCReferenceIdeal.τ) (Cert.RotaryCReferenceIdeal.main (F := Ideal))) ⟨m, fun _ => 0, g⟩ (fun r => (∀ c : Dev Cert.RotaryCReferenceIdeal.nD,
      r.2.mem ((c.tc : Thread Cert.RotaryCReferenceIdeal.nD Cert.RotaryCReferenceIdeal.τ).loc Cert.RotaryCReferenceIdeal.main_arg0) = m ((c.tc : Thread Cert.RotaryCReferenceIdeal.nD Cert.RotaryCReferenceIdeal.τ).loc Cert.RotaryCReferenceIdeal.main_arg0)
      ∧ r.2.mem ((c.tc : Thread Cert.RotaryCReferenceIdeal.nD Cert.RotaryCReferenceIdeal.τ).loc Cert.RotaryCReferenceIdeal.main_arg1) = m ((c.tc : Thread Cert.RotaryCReferenceIdeal.nD Cert.RotaryCReferenceIdeal.τ).loc Cert.RotaryCReferenceIdeal.main_arg1)
      ∧ r.2.mem ((c.tc : Thread Cert.RotaryCReferenceIdeal.nD Cert.RotaryCReferenceIdeal.τ).loc Cert.RotaryCReferenceIdeal.main_arg2) = m ((c.tc : Thread Cert.RotaryCReferenceIdeal.nD Cert.RotaryCReferenceIdeal.τ).loc Cert.RotaryCReferenceIdeal.main_arg2)
      ∧ r.2.mem ((c.tc : Thread Cert.RotaryCReferenceIdeal.nD Cert.RotaryCReferenceIdeal.τ).loc Cert.RotaryCReferenceIdeal.main_arg3) = m ((c.tc : Thread Cert.RotaryCReferenceIdeal.nD Cert.RotaryCReferenceIdeal.τ).loc Cert.RotaryCReferenceIdeal.main_arg3))
      ∧ r.2.sem = fun _ => 0)

def quiescent_ValuesT [hValuesT : Cert.ValuesT.Facts] : Prop :=
  ∀ (m : (ℓ : Loc Cert.ValuesT.nD Cert.ValuesT.τ Cert.ValuesT.sig) → Buf (Elt Bits) ℓ) (g : Dev Cert.ValuesT.nD → PrngReg), Pre_ValuesT m →
    θ_run (Cert.ValuesT.defs (F := Bits)) (onTc (τ := Cert.ValuesT.τ) (Cert.ValuesT.main (F := Bits))) ⟨m, fun _ => 0, g⟩ (fun r => (∀ c : Dev Cert.ValuesT.nD,
      r.2.mem ((c.tc : Thread Cert.ValuesT.nD Cert.ValuesT.τ).loc Cert.ValuesT.main_arg0) = m ((c.tc : Thread Cert.ValuesT.nD Cert.ValuesT.τ).loc Cert.ValuesT.main_arg0))
      ∧ r.2.sem = fun _ => 0)

def quiescent_ValuesTIdeal [hValuesTIdeal : Cert.ValuesTIdeal.Facts] : Prop :=
  ∀ (m : (ℓ : Loc Cert.ValuesTIdeal.nD Cert.ValuesTIdeal.τ Cert.ValuesTIdeal.sig) → Buf (Elt Ideal) ℓ) (g : Dev Cert.ValuesTIdeal.nD → PrngReg), Pre_ValuesTIdeal m →
    θ_run (Cert.ValuesTIdeal.defs (F := Ideal)) (onTc (τ := Cert.ValuesTIdeal.τ) (Cert.ValuesTIdeal.main (F := Ideal))) ⟨m, fun _ => 0, g⟩ (fun r => (∀ c : Dev Cert.ValuesTIdeal.nD,
      r.2.mem ((c.tc : Thread Cert.ValuesTIdeal.nD Cert.ValuesTIdeal.τ).loc Cert.ValuesTIdeal.main_arg0) = m ((c.tc : Thread Cert.ValuesTIdeal.nD Cert.ValuesTIdeal.τ).loc Cert.ValuesTIdeal.main_arg0))
      ∧ r.2.sem = fun _ => 0)

def quiescent_ValuesTReferenceIdeal [hValuesTReferenceIdeal : Cert.ValuesTReferenceIdeal.Facts] : Prop :=
  ∀ (m : (ℓ : Loc Cert.ValuesTReferenceIdeal.nD Cert.ValuesTReferenceIdeal.τ Cert.ValuesTReferenceIdeal.sig) → Buf (Elt Ideal) ℓ) (g : Dev Cert.ValuesTReferenceIdeal.nD → PrngReg), Pre_ValuesTReferenceIdeal m →
    θ_run (Cert.ValuesTReferenceIdeal.defs (F := Ideal)) (onTc (τ := Cert.ValuesTReferenceIdeal.τ) (Cert.ValuesTReferenceIdeal.main (F := Ideal))) ⟨m, fun _ => 0, g⟩ (fun r => (∀ c : Dev Cert.ValuesTReferenceIdeal.nD,
      r.2.mem ((c.tc : Thread Cert.ValuesTReferenceIdeal.nD Cert.ValuesTReferenceIdeal.τ).loc Cert.ValuesTReferenceIdeal.main_arg0) = m ((c.tc : Thread Cert.ValuesTReferenceIdeal.nD Cert.ValuesTReferenceIdeal.τ).loc Cert.ValuesTReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_ProjRest_ProjRestIdeal : Prop :=
  True

def algebraic_ProjRestIdeal_ProjRestReferenceIdeal [hProjRestIdeal : Cert.ProjRestIdeal.Facts] [hProjRestReferenceIdeal : Cert.ProjRestReferenceIdeal.Facts] : Prop :=
  ∀ (m : (ℓ : Loc Cert.ProjRestIdeal.nD Cert.ProjRestIdeal.τ Cert.ProjRestIdeal.sig) → Buf (Elt Ideal) ℓ) (g : Dev Cert.ProjRestIdeal.nD → PrngReg)
    (m' : (ℓ : Loc Cert.ProjRestReferenceIdeal.nD Cert.ProjRestReferenceIdeal.τ Cert.ProjRestReferenceIdeal.sig) → Buf (Elt Ideal) ℓ) (g' : Dev Cert.ProjRestReferenceIdeal.nD → PrngReg), Pre_ProjRestIdeal m →
    (∀ c : Dev Cert.ProjRestIdeal.nD,
      m' ((c.tc : Thread Cert.ProjRestReferenceIdeal.nD Cert.ProjRestReferenceIdeal.τ).loc Cert.ProjRestReferenceIdeal.main_arg0) = m ((c.tc : Thread Cert.ProjRestIdeal.nD Cert.ProjRestIdeal.τ).loc Cert.ProjRestIdeal.main_arg0)
      ∧ m' ((c.tc : Thread Cert.ProjRestReferenceIdeal.nD Cert.ProjRestReferenceIdeal.τ).loc Cert.ProjRestReferenceIdeal.main_arg1) = m ((c.tc : Thread Cert.ProjRestIdeal.nD Cert.ProjRestIdeal.τ).loc Cert.ProjRestIdeal.main_arg1)) →
    ∃ (v0 : (c : Dev Cert.ProjRestIdeal.nD) → Buf (Elt Ideal) ((c.tc : Thread Cert.ProjRestIdeal.nD Cert.ProjRestIdeal.τ).loc Cert.ProjRestIdeal.main_v0)),
      θ_run (Cert.ProjRestIdeal.defs (F := Ideal)) (onTc (τ := Cert.ProjRestIdeal.τ) (Cert.ProjRestIdeal.main (F := Ideal))) ⟨m, fun _ => 0, g⟩ (fun r => ∀ c : Dev Cert.ProjRestIdeal.nD,
          r.2.mem ((c.tc : Thread Cert.ProjRestIdeal.nD Cert.ProjRestIdeal.τ).loc Cert.ProjRestIdeal.main_v0) = v0 c
          ∧ r.2.mem ((c.tc : Thread Cert.ProjRestIdeal.nD Cert.ProjRestIdeal.τ).loc Cert.ProjRestIdeal.main_arg0) = m ((c.tc : Thread Cert.ProjRestIdeal.nD Cert.ProjRestIdeal.τ).loc Cert.ProjRestIdeal.main_arg0)
          ∧ r.2.mem ((c.tc : Thread Cert.ProjRestIdeal.nD Cert.ProjRestIdeal.τ).loc Cert.ProjRestIdeal.main_arg1) = m ((c.tc : Thread Cert.ProjRestIdeal.nD Cert.ProjRestIdeal.τ).loc Cert.ProjRestIdeal.main_arg1))
      ∧ θ_run (Cert.ProjRestReferenceIdeal.defs (F := Ideal)) (onTc (τ := Cert.ProjRestReferenceIdeal.τ) (Cert.ProjRestReferenceIdeal.main (F := Ideal))) ⟨m', fun _ => 0, g'⟩ (fun r => ∀ c : Dev Cert.ProjRestReferenceIdeal.nD,
          r.2.mem ((c.tc : Thread Cert.ProjRestReferenceIdeal.nD Cert.ProjRestReferenceIdeal.τ).loc Cert.ProjRestReferenceIdeal.main_v5) = v0 c
          ∧ r.2.mem ((c.tc : Thread Cert.ProjRestReferenceIdeal.nD Cert.ProjRestReferenceIdeal.τ).loc Cert.ProjRestReferenceIdeal.main_arg0) = m' ((c.tc : Thread Cert.ProjRestReferenceIdeal.nD Cert.ProjRestReferenceIdeal.τ).loc Cert.ProjRestReferenceIdeal.main_arg0)
          ∧ r.2.mem ((c.tc : Thread Cert.ProjRestReferenceIdeal.nD Cert.ProjRestReferenceIdeal.τ).loc Cert.ProjRestReferenceIdeal.main_arg1) = m' ((c.tc : Thread Cert.ProjRestReferenceIdeal.nD Cert.ProjRestReferenceIdeal.τ).loc Cert.ProjRestReferenceIdeal.main_arg1))

def preserves_MlpDown_MlpDownIdeal : Prop :=
  True

def algebraic_MlpDownIdeal_MlpDownReferenceIdeal [hMlpDownIdeal : Cert.MlpDownIdeal.Facts] [hMlpDownReferenceIdeal : Cert.MlpDownReferenceIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownReferenceIdeal.nD Cert.MlpDownReferenceIdeal.τ Cert.MlpDownReferenceIdeal.sig) → Buf (Elt Ideal) ℓ) (g' : Dev Cert.MlpDownReferenceIdeal.nD → PrngReg), Pre_MlpDownIdeal m →
    (∀ c : Dev Cert.MlpDownIdeal.nD,
      m' ((c.tc : Thread Cert.MlpDownReferenceIdeal.nD Cert.MlpDownReferenceIdeal.τ).loc Cert.MlpDownReferenceIdeal.main_arg0) = m ((c.tc : Thread Cert.MlpDownIdeal.nD Cert.MlpDownIdeal.τ).loc Cert.MlpDownIdeal.main_arg0)
      ∧ m' ((c.tc : Thread Cert.MlpDownReferenceIdeal.nD Cert.MlpDownReferenceIdeal.τ).loc Cert.MlpDownReferenceIdeal.main_arg1) = m ((c.tc : Thread Cert.MlpDownIdeal.nD Cert.MlpDownIdeal.τ).loc Cert.MlpDownIdeal.main_arg1)
      ∧ m' ((c.tc : Thread Cert.MlpDownReferenceIdeal.nD Cert.MlpDownReferenceIdeal.τ).loc Cert.MlpDownReferenceIdeal.main_arg2) = m ((c.tc : Thread Cert.MlpDownIdeal.nD Cert.MlpDownIdeal.τ).loc Cert.MlpDownIdeal.main_arg2)) →
    ∃ (v0 : (c : Dev Cert.MlpDownIdeal.nD) → Buf (Elt Ideal) ((c.tc : Thread Cert.MlpDownIdeal.nD Cert.MlpDownIdeal.τ).loc Cert.MlpDownIdeal.main_v0)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v0) = v0 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ θ_run (Cert.MlpDownReferenceIdeal.defs (F := Ideal)) (onTc (τ := Cert.MlpDownReferenceIdeal.τ) (Cert.MlpDownReferenceIdeal.main (F := Ideal))) ⟨m', fun _ => 0, g'⟩ (fun r => ∀ c : Dev Cert.MlpDownReferenceIdeal.nD,
          r.2.mem ((c.tc : Thread Cert.MlpDownReferenceIdeal.nD Cert.MlpDownReferenceIdeal.τ).loc Cert.MlpDownReferenceIdeal.main_v4) = v0 c
          ∧ r.2.mem ((c.tc : Thread Cert.MlpDownReferenceIdeal.nD Cert.MlpDownReferenceIdeal.τ).loc Cert.MlpDownReferenceIdeal.main_arg0) = m' ((c.tc : Thread Cert.MlpDownReferenceIdeal.nD Cert.MlpDownReferenceIdeal.τ).loc Cert.MlpDownReferenceIdeal.main_arg0)
          ∧ r.2.mem ((c.tc : Thread Cert.MlpDownReferenceIdeal.nD Cert.MlpDownReferenceIdeal.τ).loc Cert.MlpDownReferenceIdeal.main_arg1) = m' ((c.tc : Thread Cert.MlpDownReferenceIdeal.nD Cert.MlpDownReferenceIdeal.τ).loc Cert.MlpDownReferenceIdeal.main_arg1)
          ∧ r.2.mem ((c.tc : Thread Cert.MlpDownReferenceIdeal.nD Cert.MlpDownReferenceIdeal.τ).loc Cert.MlpDownReferenceIdeal.main_arg2) = m' ((c.tc : Thread Cert.MlpDownReferenceIdeal.nD Cert.MlpDownReferenceIdeal.τ).loc Cert.MlpDownReferenceIdeal.main_arg2))

def preserves_MlpUp_MlpUpIdeal : Prop :=
  True

def algebraic_MlpUpIdeal_MlpUpReferenceIdeal [hMlpUpIdeal : Cert.MlpUpIdeal.Facts] [hMlpUpReferenceIdeal : Cert.MlpUpReferenceIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpReferenceIdeal.nD Cert.MlpUpReferenceIdeal.τ Cert.MlpUpReferenceIdeal.sig) → Buf (Elt Ideal) ℓ) (g' : Dev Cert.MlpUpReferenceIdeal.nD → PrngReg), Pre_MlpUpIdeal m →
    (∀ c : Dev Cert.MlpUpIdeal.nD,
      m' ((c.tc : Thread Cert.MlpUpReferenceIdeal.nD Cert.MlpUpReferenceIdeal.τ).loc Cert.MlpUpReferenceIdeal.main_arg0) = m ((c.tc : Thread Cert.MlpUpIdeal.nD Cert.MlpUpIdeal.τ).loc Cert.MlpUpIdeal.main_arg0)
      ∧ m' ((c.tc : Thread Cert.MlpUpReferenceIdeal.nD Cert.MlpUpReferenceIdeal.τ).loc Cert.MlpUpReferenceIdeal.main_arg1) = m ((c.tc : Thread Cert.MlpUpIdeal.nD Cert.MlpUpIdeal.τ).loc Cert.MlpUpIdeal.main_arg1)
      ∧ m' ((c.tc : Thread Cert.MlpUpReferenceIdeal.nD Cert.MlpUpReferenceIdeal.τ).loc Cert.MlpUpReferenceIdeal.main_arg2) = m ((c.tc : Thread Cert.MlpUpIdeal.nD Cert.MlpUpIdeal.τ).loc Cert.MlpUpIdeal.main_arg2)) →
    ∃ (v0 : (c : Dev Cert.MlpUpIdeal.nD) → Buf (Elt Ideal) ((c.tc : Thread Cert.MlpUpIdeal.nD Cert.MlpUpIdeal.τ).loc Cert.MlpUpIdeal.main_v0)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v0) = v0 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1)
          ∧ r.2.mem ((c.tc : Thread Cert.MlpUpIdeal.nD Cert.MlpUpIdeal.τ).loc Cert.MlpUpIdeal.main_arg2) = m ((c.tc : Thread Cert.MlpUpIdeal.nD Cert.MlpUpIdeal.τ).loc Cert.MlpUpIdeal.main_arg2))
      ∧ θ_run (Cert.MlpUpReferenceIdeal.defs (F := Ideal)) (onTc (τ := Cert.MlpUpReferenceIdeal.τ) (Cert.MlpUpReferenceIdeal.main (F := Ideal))) ⟨m', fun _ => 0, g'⟩ (fun r => ∀ c : Dev Cert.MlpUpReferenceIdeal.nD,
          r.2.mem ((c.tc : Thread Cert.MlpUpReferenceIdeal.nD Cert.MlpUpReferenceIdeal.τ).loc Cert.MlpUpReferenceIdeal.main_v16) = v0 c
          ∧ r.2.mem ((c.tc : Thread Cert.MlpUpReferenceIdeal.nD Cert.MlpUpReferenceIdeal.τ).loc Cert.MlpUpReferenceIdeal.main_arg0) = m' ((c.tc : Thread Cert.MlpUpReferenceIdeal.nD Cert.MlpUpReferenceIdeal.τ).loc Cert.MlpUpReferenceIdeal.main_arg0)
          ∧ r.2.mem ((c.tc : Thread Cert.MlpUpReferenceIdeal.nD Cert.MlpUpReferenceIdeal.τ).loc Cert.MlpUpReferenceIdeal.main_arg1) = m' ((c.tc : Thread Cert.MlpUpReferenceIdeal.nD Cert.MlpUpReferenceIdeal.τ).loc Cert.MlpUpReferenceIdeal.main_arg1)
          ∧ r.2.mem ((c.tc : Thread Cert.MlpUpReferenceIdeal.nD Cert.MlpUpReferenceIdeal.τ).loc Cert.MlpUpReferenceIdeal.main_arg2) = m' ((c.tc : Thread Cert.MlpUpReferenceIdeal.nD Cert.MlpUpReferenceIdeal.τ).loc Cert.MlpUpReferenceIdeal.main_arg2))

def preserves_ProjOut_ProjOutIdeal : Prop :=
  True

def algebraic_ProjOutIdeal_ProjOutReferenceIdeal [hProjOutIdeal : Cert.ProjOutIdeal.Facts] [hProjOutReferenceIdeal : Cert.ProjOutReferenceIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg)
    (m' : (ℓ : Loc Cert.ProjOutReferenceIdeal.nD Cert.ProjOutReferenceIdeal.τ Cert.ProjOutReferenceIdeal.sig) → Buf (Elt Ideal) ℓ) (g' : Dev Cert.ProjOutReferenceIdeal.nD → PrngReg), Pre_ProjOutIdeal m →
    (∀ c : Dev Cert.ProjOutIdeal.nD,
      m' ((c.tc : Thread Cert.ProjOutReferenceIdeal.nD Cert.ProjOutReferenceIdeal.τ).loc Cert.ProjOutReferenceIdeal.main_arg0) = m ((c.tc : Thread Cert.ProjOutIdeal.nD Cert.ProjOutIdeal.τ).loc Cert.ProjOutIdeal.main_arg0)
      ∧ m' ((c.tc : Thread Cert.ProjOutReferenceIdeal.nD Cert.ProjOutReferenceIdeal.τ).loc Cert.ProjOutReferenceIdeal.main_arg1) = m ((c.tc : Thread Cert.ProjOutIdeal.nD Cert.ProjOutIdeal.τ).loc Cert.ProjOutIdeal.main_arg1)
      ∧ m' ((c.tc : Thread Cert.ProjOutReferenceIdeal.nD Cert.ProjOutReferenceIdeal.τ).loc Cert.ProjOutReferenceIdeal.main_arg2) = m ((c.tc : Thread Cert.ProjOutIdeal.nD Cert.ProjOutIdeal.τ).loc Cert.ProjOutIdeal.main_arg2)) →
    ∃ (v0 : (c : Dev Cert.ProjOutIdeal.nD) → Buf (Elt Ideal) ((c.tc : Thread Cert.ProjOutIdeal.nD Cert.ProjOutIdeal.τ).loc Cert.ProjOutIdeal.main_v0_0)) (v1 : (c : Dev Cert.ProjOutIdeal.nD) → Buf (Elt Ideal) ((c.tc : Thread Cert.ProjOutIdeal.nD Cert.ProjOutIdeal.τ).loc Cert.ProjOutIdeal.main_v0_1)) (v2 : (c : Dev Cert.ProjOutIdeal.nD) → Buf (Elt Ideal) ((c.tc : Thread Cert.ProjOutIdeal.nD Cert.ProjOutIdeal.τ).loc Cert.ProjOutIdeal.main_v0_2)),
      θ_run (Cert.ProjOutIdeal.defs (F := Ideal)) (onTc (τ := Cert.ProjOutIdeal.τ) (Cert.ProjOutIdeal.main (F := Ideal))) ⟨m, fun _ => 0, g⟩ (fun r => ∀ c : Dev Cert.ProjOutIdeal.nD,
          r.2.mem ((c.tc : Thread Cert.ProjOutIdeal.nD Cert.ProjOutIdeal.τ).loc Cert.ProjOutIdeal.main_v0_0) = v0 c
          ∧ r.2.mem ((c.tc : Thread Cert.ProjOutIdeal.nD Cert.ProjOutIdeal.τ).loc Cert.ProjOutIdeal.main_v0_1) = v1 c
          ∧ r.2.mem ((c.tc : Thread Cert.ProjOutIdeal.nD Cert.ProjOutIdeal.τ).loc Cert.ProjOutIdeal.main_v0_2) = v2 c
          ∧ r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
          ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
          ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2))
      ∧ θ_run (Cert.ProjOutReferenceIdeal.defs (F := Ideal)) (onTc (τ := Cert.ProjOutReferenceIdeal.τ) (Cert.ProjOutReferenceIdeal.main (F := Ideal))) ⟨m', fun _ => 0, g'⟩ (fun r => ∀ c : Dev Cert.ProjOutReferenceIdeal.nD,
          r.2.mem ((c.tc : Thread Cert.ProjOutReferenceIdeal.nD Cert.ProjOutReferenceIdeal.τ).loc Cert.ProjOutReferenceIdeal.main_v4) = v0 c
          ∧ r.2.mem ((c.tc : Thread Cert.ProjOutReferenceIdeal.nD Cert.ProjOutReferenceIdeal.τ).loc Cert.ProjOutReferenceIdeal.main_v9) = v1 c
          ∧ r.2.mem ((c.tc : Thread Cert.ProjOutReferenceIdeal.nD Cert.ProjOutReferenceIdeal.τ).loc Cert.ProjOutReferenceIdeal.main_v8) = v2 c
          ∧ r.2.mem ((c.tc : Thread Cert.ProjOutReferenceIdeal.nD Cert.ProjOutReferenceIdeal.τ).loc Cert.ProjOutReferenceIdeal.main_arg0) = m' ((c.tc : Thread Cert.ProjOutReferenceIdeal.nD Cert.ProjOutReferenceIdeal.τ).loc Cert.ProjOutReferenceIdeal.main_arg0)
          ∧ r.2.mem ((c.tc : Thread Cert.ProjOutReferenceIdeal.nD Cert.ProjOutReferenceIdeal.τ).loc Cert.ProjOutReferenceIdeal.main_arg1) = m' ((c.tc : Thread Cert.ProjOutReferenceIdeal.nD Cert.ProjOutReferenceIdeal.τ).loc Cert.ProjOutReferenceIdeal.main_arg1)
          ∧ r.2.mem ((c.tc : Thread Cert.ProjOutReferenceIdeal.nD Cert.ProjOutReferenceIdeal.τ).loc Cert.ProjOutReferenceIdeal.main_arg2) = m' ((c.tc : Thread Cert.ProjOutReferenceIdeal.nD Cert.ProjOutReferenceIdeal.τ).loc Cert.ProjOutReferenceIdeal.main_arg2))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v41) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6))

def preserves_ProjQk_ProjQkIdeal : Prop :=
  True

def algebraic_ProjQkIdeal_ProjQkReferenceIdeal [hProjQkIdeal : Cert.ProjQkIdeal.Facts] [hProjQkReferenceIdeal : Cert.ProjQkReferenceIdeal.Facts] : Prop :=
  ∀ (m : (ℓ : Loc Cert.ProjQkIdeal.nD Cert.ProjQkIdeal.τ Cert.ProjQkIdeal.sig) → Buf (Elt Ideal) ℓ) (g : Dev Cert.ProjQkIdeal.nD → PrngReg)
    (m' : (ℓ : Loc Cert.ProjQkReferenceIdeal.nD Cert.ProjQkReferenceIdeal.τ Cert.ProjQkReferenceIdeal.sig) → Buf (Elt Ideal) ℓ) (g' : Dev Cert.ProjQkReferenceIdeal.nD → PrngReg), Pre_ProjQkIdeal m →
    (∀ c : Dev Cert.ProjQkIdeal.nD,
      m' ((c.tc : Thread Cert.ProjQkReferenceIdeal.nD Cert.ProjQkReferenceIdeal.τ).loc Cert.ProjQkReferenceIdeal.main_arg0) = m ((c.tc : Thread Cert.ProjQkIdeal.nD Cert.ProjQkIdeal.τ).loc Cert.ProjQkIdeal.main_arg0)
      ∧ m' ((c.tc : Thread Cert.ProjQkReferenceIdeal.nD Cert.ProjQkReferenceIdeal.τ).loc Cert.ProjQkReferenceIdeal.main_arg1) = m ((c.tc : Thread Cert.ProjQkIdeal.nD Cert.ProjQkIdeal.τ).loc Cert.ProjQkIdeal.main_arg1)
      ∧ m' ((c.tc : Thread Cert.ProjQkReferenceIdeal.nD Cert.ProjQkReferenceIdeal.τ).loc Cert.ProjQkReferenceIdeal.main_arg2) = m ((c.tc : Thread Cert.ProjQkIdeal.nD Cert.ProjQkIdeal.τ).loc Cert.ProjQkIdeal.main_arg2)) →
    ∃ (v0 : (c : Dev Cert.ProjQkIdeal.nD) → Buf (Elt Ideal) ((c.tc : Thread Cert.ProjQkIdeal.nD Cert.ProjQkIdeal.τ).loc Cert.ProjQkIdeal.main_v0)),
      θ_run (Cert.ProjQkIdeal.defs (F := Ideal)) (onTc (τ := Cert.ProjQkIdeal.τ) (Cert.ProjQkIdeal.main (F := Ideal))) ⟨m, fun _ => 0, g⟩ (fun r => ∀ c : Dev Cert.ProjQkIdeal.nD,
          r.2.mem ((c.tc : Thread Cert.ProjQkIdeal.nD Cert.ProjQkIdeal.τ).loc Cert.ProjQkIdeal.main_v0) = v0 c
          ∧ r.2.mem ((c.tc : Thread Cert.ProjQkIdeal.nD Cert.ProjQkIdeal.τ).loc Cert.ProjQkIdeal.main_arg0) = m ((c.tc : Thread Cert.ProjQkIdeal.nD Cert.ProjQkIdeal.τ).loc Cert.ProjQkIdeal.main_arg0)
          ∧ r.2.mem ((c.tc : Thread Cert.ProjQkIdeal.nD Cert.ProjQkIdeal.τ).loc Cert.ProjQkIdeal.main_arg1) = m ((c.tc : Thread Cert.ProjQkIdeal.nD Cert.ProjQkIdeal.τ).loc Cert.ProjQkIdeal.main_arg1)
          ∧ r.2.mem ((c.tc : Thread Cert.ProjQkIdeal.nD Cert.ProjQkIdeal.τ).loc Cert.ProjQkIdeal.main_arg2) = m ((c.tc : Thread Cert.ProjQkIdeal.nD Cert.ProjQkIdeal.τ).loc Cert.ProjQkIdeal.main_arg2))
      ∧ θ_run (Cert.ProjQkReferenceIdeal.defs (F := Ideal)) (onTc (τ := Cert.ProjQkReferenceIdeal.τ) (Cert.ProjQkReferenceIdeal.main (F := Ideal))) ⟨m', fun _ => 0, g'⟩ (fun r => ∀ c : Dev Cert.ProjQkReferenceIdeal.nD,
          r.2.mem ((c.tc : Thread Cert.ProjQkReferenceIdeal.nD Cert.ProjQkReferenceIdeal.τ).loc Cert.ProjQkReferenceIdeal.main_v21) = v0 c
          ∧ r.2.mem ((c.tc : Thread Cert.ProjQkReferenceIdeal.nD Cert.ProjQkReferenceIdeal.τ).loc Cert.ProjQkReferenceIdeal.main_arg0) = m' ((c.tc : Thread Cert.ProjQkReferenceIdeal.nD Cert.ProjQkReferenceIdeal.τ).loc Cert.ProjQkReferenceIdeal.main_arg0)
          ∧ r.2.mem ((c.tc : Thread Cert.ProjQkReferenceIdeal.nD Cert.ProjQkReferenceIdeal.τ).loc Cert.ProjQkReferenceIdeal.main_arg1) = m' ((c.tc : Thread Cert.ProjQkReferenceIdeal.nD Cert.ProjQkReferenceIdeal.τ).loc Cert.ProjQkReferenceIdeal.main_arg1)
          ∧ r.2.mem ((c.tc : Thread Cert.ProjQkReferenceIdeal.nD Cert.ProjQkReferenceIdeal.τ).loc Cert.ProjQkReferenceIdeal.main_arg2) = m' ((c.tc : Thread Cert.ProjQkReferenceIdeal.nD Cert.ProjQkReferenceIdeal.τ).loc Cert.ProjQkReferenceIdeal.main_arg2))

def preserves_RowNorm_RowNormIdeal : Prop :=
  True

def algebraic_RowNormIdeal_RowNormReferenceIdeal [hRowNormIdeal : Cert.RowNormIdeal.Facts] [hRowNormReferenceIdeal : Cert.RowNormReferenceIdeal.Facts] : Prop :=
  ∀ (m : (ℓ : Loc Cert.RowNormIdeal.nD Cert.RowNormIdeal.τ Cert.RowNormIdeal.sig) → Buf (Elt Ideal) ℓ) (g : Dev Cert.RowNormIdeal.nD → PrngReg)
    (m' : (ℓ : Loc Cert.RowNormReferenceIdeal.nD Cert.RowNormReferenceIdeal.τ Cert.RowNormReferenceIdeal.sig) → Buf (Elt Ideal) ℓ) (g' : Dev Cert.RowNormReferenceIdeal.nD → PrngReg), Pre_RowNormIdeal m →
    (∀ c : Dev Cert.RowNormIdeal.nD,
      m' ((c.tc : Thread Cert.RowNormReferenceIdeal.nD Cert.RowNormReferenceIdeal.τ).loc Cert.RowNormReferenceIdeal.main_arg0) = m ((c.tc : Thread Cert.RowNormIdeal.nD Cert.RowNormIdeal.τ).loc Cert.RowNormIdeal.main_arg0)
      ∧ m' ((c.tc : Thread Cert.RowNormReferenceIdeal.nD Cert.RowNormReferenceIdeal.τ).loc Cert.RowNormReferenceIdeal.main_arg1) = m ((c.tc : Thread Cert.RowNormIdeal.nD Cert.RowNormIdeal.τ).loc Cert.RowNormIdeal.main_arg1)) →
    ∃ (v0 : (c : Dev Cert.RowNormIdeal.nD) → Buf (Elt Ideal) ((c.tc : Thread Cert.RowNormIdeal.nD Cert.RowNormIdeal.τ).loc Cert.RowNormIdeal.main_v1)),
      θ_run (Cert.RowNormIdeal.defs (F := Ideal)) (onTc (τ := Cert.RowNormIdeal.τ) (Cert.RowNormIdeal.main (F := Ideal))) ⟨m, fun _ => 0, g⟩ (fun r => ∀ c : Dev Cert.RowNormIdeal.nD,
          r.2.mem ((c.tc : Thread Cert.RowNormIdeal.nD Cert.RowNormIdeal.τ).loc Cert.RowNormIdeal.main_v1) = v0 c
          ∧ r.2.mem ((c.tc : Thread Cert.RowNormIdeal.nD Cert.RowNormIdeal.τ).loc Cert.RowNormIdeal.main_arg0) = m ((c.tc : Thread Cert.RowNormIdeal.nD Cert.RowNormIdeal.τ).loc Cert.RowNormIdeal.main_arg0)
          ∧ r.2.mem ((c.tc : Thread Cert.RowNormIdeal.nD Cert.RowNormIdeal.τ).loc Cert.RowNormIdeal.main_arg1) = m ((c.tc : Thread Cert.RowNormIdeal.nD Cert.RowNormIdeal.τ).loc Cert.RowNormIdeal.main_arg1))
      ∧ θ_run (Cert.RowNormReferenceIdeal.defs (F := Ideal)) (onTc (τ := Cert.RowNormReferenceIdeal.τ) (Cert.RowNormReferenceIdeal.main (F := Ideal))) ⟨m', fun _ => 0, g'⟩ (fun r => ∀ c : Dev Cert.RowNormReferenceIdeal.nD,
          r.2.mem ((c.tc : Thread Cert.RowNormReferenceIdeal.nD Cert.RowNormReferenceIdeal.τ).loc Cert.RowNormReferenceIdeal.main_v13) = v0 c
          ∧ r.2.mem ((c.tc : Thread Cert.RowNormReferenceIdeal.nD Cert.RowNormReferenceIdeal.τ).loc Cert.RowNormReferenceIdeal.main_arg0) = m' ((c.tc : Thread Cert.RowNormReferenceIdeal.nD Cert.RowNormReferenceIdeal.τ).loc Cert.RowNormReferenceIdeal.main_arg0)
          ∧ r.2.mem ((c.tc : Thread Cert.RowNormReferenceIdeal.nD Cert.RowNormReferenceIdeal.τ).loc Cert.RowNormReferenceIdeal.main_arg1) = m' ((c.tc : Thread Cert.RowNormReferenceIdeal.nD Cert.RowNormReferenceIdeal.τ).loc Cert.RowNormReferenceIdeal.main_arg1))

def preserves_RotaryB_RotaryBIdeal : Prop :=
  True

def algebraic_RotaryBIdeal_RotaryBReferenceIdeal [hRotaryBIdeal : Cert.RotaryBIdeal.Facts] [hRotaryBReferenceIdeal : Cert.RotaryBReferenceIdeal.Facts] : Prop :=
  ∀ (m : (ℓ : Loc Cert.RotaryBIdeal.nD Cert.RotaryBIdeal.τ Cert.RotaryBIdeal.sig) → Buf (Elt Ideal) ℓ) (g : Dev Cert.RotaryBIdeal.nD → PrngReg)
    (m' : (ℓ : Loc Cert.RotaryBReferenceIdeal.nD Cert.RotaryBReferenceIdeal.τ Cert.RotaryBReferenceIdeal.sig) → Buf (Elt Ideal) ℓ) (g' : Dev Cert.RotaryBReferenceIdeal.nD → PrngReg), Pre_RotaryBIdeal m →
    (∀ c : Dev Cert.RotaryBIdeal.nD,
      m' ((c.tc : Thread Cert.RotaryBReferenceIdeal.nD Cert.RotaryBReferenceIdeal.τ).loc Cert.RotaryBReferenceIdeal.main_arg0) = m ((c.tc : Thread Cert.RotaryBIdeal.nD Cert.RotaryBIdeal.τ).loc Cert.RotaryBIdeal.main_arg0)
      ∧ m' ((c.tc : Thread Cert.RotaryBReferenceIdeal.nD Cert.RotaryBReferenceIdeal.τ).loc Cert.RotaryBReferenceIdeal.main_arg1) = m ((c.tc : Thread Cert.RotaryBIdeal.nD Cert.RotaryBIdeal.τ).loc Cert.RotaryBIdeal.main_arg1)
      ∧ m' ((c.tc : Thread Cert.RotaryBReferenceIdeal.nD Cert.RotaryBReferenceIdeal.τ).loc Cert.RotaryBReferenceIdeal.main_arg2) = m ((c.tc : Thread Cert.RotaryBIdeal.nD Cert.RotaryBIdeal.τ).loc Cert.RotaryBIdeal.main_arg2)) →
    ∃ (v0 : (c : Dev Cert.RotaryBIdeal.nD) → Buf (Elt Ideal) ((c.tc : Thread Cert.RotaryBIdeal.nD Cert.RotaryBIdeal.τ).loc Cert.RotaryBIdeal.main_v7)),
      θ_run (Cert.RotaryBIdeal.defs (F := Ideal)) (onTc (τ := Cert.RotaryBIdeal.τ) (Cert.RotaryBIdeal.main (F := Ideal))) ⟨m, fun _ => 0, g⟩ (fun r => ∀ c : Dev Cert.RotaryBIdeal.nD,
          r.2.mem ((c.tc : Thread Cert.RotaryBIdeal.nD Cert.RotaryBIdeal.τ).loc Cert.RotaryBIdeal.main_v7) = v0 c
          ∧ r.2.mem ((c.tc : Thread Cert.RotaryBIdeal.nD Cert.RotaryBIdeal.τ).loc Cert.RotaryBIdeal.main_arg0) = m ((c.tc : Thread Cert.RotaryBIdeal.nD Cert.RotaryBIdeal.τ).loc Cert.RotaryBIdeal.main_arg0)
          ∧ r.2.mem ((c.tc : Thread Cert.RotaryBIdeal.nD Cert.RotaryBIdeal.τ).loc Cert.RotaryBIdeal.main_arg1) = m ((c.tc : Thread Cert.RotaryBIdeal.nD Cert.RotaryBIdeal.τ).loc Cert.RotaryBIdeal.main_arg1)
          ∧ r.2.mem ((c.tc : Thread Cert.RotaryBIdeal.nD Cert.RotaryBIdeal.τ).loc Cert.RotaryBIdeal.main_arg2) = m ((c.tc : Thread Cert.RotaryBIdeal.nD Cert.RotaryBIdeal.τ).loc Cert.RotaryBIdeal.main_arg2))
      ∧ θ_run (Cert.RotaryBReferenceIdeal.defs (F := Ideal)) (onTc (τ := Cert.RotaryBReferenceIdeal.τ) (Cert.RotaryBReferenceIdeal.main (F := Ideal))) ⟨m', fun _ => 0, g'⟩ (fun r => ∀ c : Dev Cert.RotaryBReferenceIdeal.nD,
          r.2.mem ((c.tc : Thread Cert.RotaryBReferenceIdeal.nD Cert.RotaryBReferenceIdeal.τ).loc Cert.RotaryBReferenceIdeal.main_v35) = v0 c
          ∧ r.2.mem ((c.tc : Thread Cert.RotaryBReferenceIdeal.nD Cert.RotaryBReferenceIdeal.τ).loc Cert.RotaryBReferenceIdeal.main_arg0) = m' ((c.tc : Thread Cert.RotaryBReferenceIdeal.nD Cert.RotaryBReferenceIdeal.τ).loc Cert.RotaryBReferenceIdeal.main_arg0)
          ∧ r.2.mem ((c.tc : Thread Cert.RotaryBReferenceIdeal.nD Cert.RotaryBReferenceIdeal.τ).loc Cert.RotaryBReferenceIdeal.main_arg1) = m' ((c.tc : Thread Cert.RotaryBReferenceIdeal.nD Cert.RotaryBReferenceIdeal.τ).loc Cert.RotaryBReferenceIdeal.main_arg1)
          ∧ r.2.mem ((c.tc : Thread Cert.RotaryBReferenceIdeal.nD Cert.RotaryBReferenceIdeal.τ).loc Cert.RotaryBReferenceIdeal.main_arg2) = m' ((c.tc : Thread Cert.RotaryBReferenceIdeal.nD Cert.RotaryBReferenceIdeal.τ).loc Cert.RotaryBReferenceIdeal.main_arg2))

def preserves_RotaryC_RotaryCIdeal : Prop :=
  True

def algebraic_RotaryCIdeal_RotaryCReferenceIdeal [hRotaryCIdeal : Cert.RotaryCIdeal.Facts] [hRotaryCReferenceIdeal : Cert.RotaryCReferenceIdeal.Facts] : Prop :=
  ∀ (m : (ℓ : Loc Cert.RotaryCIdeal.nD Cert.RotaryCIdeal.τ Cert.RotaryCIdeal.sig) → Buf (Elt Ideal) ℓ) (g : Dev Cert.RotaryCIdeal.nD → PrngReg)
    (m' : (ℓ : Loc Cert.RotaryCReferenceIdeal.nD Cert.RotaryCReferenceIdeal.τ Cert.RotaryCReferenceIdeal.sig) → Buf (Elt Ideal) ℓ) (g' : Dev Cert.RotaryCReferenceIdeal.nD → PrngReg), Pre_RotaryCIdeal m →
    (∀ c : Dev Cert.RotaryCIdeal.nD,
      m' ((c.tc : Thread Cert.RotaryCReferenceIdeal.nD Cert.RotaryCReferenceIdeal.τ).loc Cert.RotaryCReferenceIdeal.main_arg0) = m ((c.tc : Thread Cert.RotaryCIdeal.nD Cert.RotaryCIdeal.τ).loc Cert.RotaryCIdeal.main_arg0)
      ∧ m' ((c.tc : Thread Cert.RotaryCReferenceIdeal.nD Cert.RotaryCReferenceIdeal.τ).loc Cert.RotaryCReferenceIdeal.main_arg1) = m ((c.tc : Thread Cert.RotaryCIdeal.nD Cert.RotaryCIdeal.τ).loc Cert.RotaryCIdeal.main_arg1)
      ∧ m' ((c.tc : Thread Cert.RotaryCReferenceIdeal.nD Cert.RotaryCReferenceIdeal.τ).loc Cert.RotaryCReferenceIdeal.main_arg2) = m ((c.tc : Thread Cert.RotaryCIdeal.nD Cert.RotaryCIdeal.τ).loc Cert.RotaryCIdeal.main_arg2)
      ∧ m' ((c.tc : Thread Cert.RotaryCReferenceIdeal.nD Cert.RotaryCReferenceIdeal.τ).loc Cert.RotaryCReferenceIdeal.main_arg3) = m ((c.tc : Thread Cert.RotaryCIdeal.nD Cert.RotaryCIdeal.τ).loc Cert.RotaryCIdeal.main_arg3)) →
    ∃ (v0 : (c : Dev Cert.RotaryCIdeal.nD) → Buf (Elt Ideal) ((c.tc : Thread Cert.RotaryCIdeal.nD Cert.RotaryCIdeal.τ).loc Cert.RotaryCIdeal.main_v12)),
      θ_run (Cert.RotaryCIdeal.defs (F := Ideal)) (onTc (τ := Cert.RotaryCIdeal.τ) (Cert.RotaryCIdeal.main (F := Ideal))) ⟨m, fun _ => 0, g⟩ (fun r => ∀ c : Dev Cert.RotaryCIdeal.nD,
          r.2.mem ((c.tc : Thread Cert.RotaryCIdeal.nD Cert.RotaryCIdeal.τ).loc Cert.RotaryCIdeal.main_v12) = v0 c
          ∧ r.2.mem ((c.tc : Thread Cert.RotaryCIdeal.nD Cert.RotaryCIdeal.τ).loc Cert.RotaryCIdeal.main_arg0) = m ((c.tc : Thread Cert.RotaryCIdeal.nD Cert.RotaryCIdeal.τ).loc Cert.RotaryCIdeal.main_arg0)
          ∧ r.2.mem ((c.tc : Thread Cert.RotaryCIdeal.nD Cert.RotaryCIdeal.τ).loc Cert.RotaryCIdeal.main_arg1) = m ((c.tc : Thread Cert.RotaryCIdeal.nD Cert.RotaryCIdeal.τ).loc Cert.RotaryCIdeal.main_arg1)
          ∧ r.2.mem ((c.tc : Thread Cert.RotaryCIdeal.nD Cert.RotaryCIdeal.τ).loc Cert.RotaryCIdeal.main_arg2) = m ((c.tc : Thread Cert.RotaryCIdeal.nD Cert.RotaryCIdeal.τ).loc Cert.RotaryCIdeal.main_arg2)
          ∧ r.2.mem ((c.tc : Thread Cert.RotaryCIdeal.nD Cert.RotaryCIdeal.τ).loc Cert.RotaryCIdeal.main_arg3) = m ((c.tc : Thread Cert.RotaryCIdeal.nD Cert.RotaryCIdeal.τ).loc Cert.RotaryCIdeal.main_arg3))
      ∧ θ_run (Cert.RotaryCReferenceIdeal.defs (F := Ideal)) (onTc (τ := Cert.RotaryCReferenceIdeal.τ) (Cert.RotaryCReferenceIdeal.main (F := Ideal))) ⟨m', fun _ => 0, g'⟩ (fun r => ∀ c : Dev Cert.RotaryCReferenceIdeal.nD,
          r.2.mem ((c.tc : Thread Cert.RotaryCReferenceIdeal.nD Cert.RotaryCReferenceIdeal.τ).loc Cert.RotaryCReferenceIdeal.main_v55) = v0 c
          ∧ r.2.mem ((c.tc : Thread Cert.RotaryCReferenceIdeal.nD Cert.RotaryCReferenceIdeal.τ).loc Cert.RotaryCReferenceIdeal.main_arg0) = m' ((c.tc : Thread Cert.RotaryCReferenceIdeal.nD Cert.RotaryCReferenceIdeal.τ).loc Cert.RotaryCReferenceIdeal.main_arg0)
          ∧ r.2.mem ((c.tc : Thread Cert.RotaryCReferenceIdeal.nD Cert.RotaryCReferenceIdeal.τ).loc Cert.RotaryCReferenceIdeal.main_arg1) = m' ((c.tc : Thread Cert.RotaryCReferenceIdeal.nD Cert.RotaryCReferenceIdeal.τ).loc Cert.RotaryCReferenceIdeal.main_arg1)
          ∧ r.2.mem ((c.tc : Thread Cert.RotaryCReferenceIdeal.nD Cert.RotaryCReferenceIdeal.τ).loc Cert.RotaryCReferenceIdeal.main_arg2) = m' ((c.tc : Thread Cert.RotaryCReferenceIdeal.nD Cert.RotaryCReferenceIdeal.τ).loc Cert.RotaryCReferenceIdeal.main_arg2)
          ∧ r.2.mem ((c.tc : Thread Cert.RotaryCReferenceIdeal.nD Cert.RotaryCReferenceIdeal.τ).loc Cert.RotaryCReferenceIdeal.main_arg3) = m' ((c.tc : Thread Cert.RotaryCReferenceIdeal.nD Cert.RotaryCReferenceIdeal.τ).loc Cert.RotaryCReferenceIdeal.main_arg3))

def preserves_ValuesT_ValuesTIdeal : Prop :=
  True

def algebraic_ValuesTIdeal_ValuesTReferenceIdeal [hValuesTIdeal : Cert.ValuesTIdeal.Facts] [hValuesTReferenceIdeal : Cert.ValuesTReferenceIdeal.Facts] : Prop :=
  ∀ (m : (ℓ : Loc Cert.ValuesTIdeal.nD Cert.ValuesTIdeal.τ Cert.ValuesTIdeal.sig) → Buf (Elt Ideal) ℓ) (g : Dev Cert.ValuesTIdeal.nD → PrngReg)
    (m' : (ℓ : Loc Cert.ValuesTReferenceIdeal.nD Cert.ValuesTReferenceIdeal.τ Cert.ValuesTReferenceIdeal.sig) → Buf (Elt Ideal) ℓ) (g' : Dev Cert.ValuesTReferenceIdeal.nD → PrngReg), Pre_ValuesTIdeal m →
    (∀ c : Dev Cert.ValuesTIdeal.nD,
      m' ((c.tc : Thread Cert.ValuesTReferenceIdeal.nD Cert.ValuesTReferenceIdeal.τ).loc Cert.ValuesTReferenceIdeal.main_arg0) = m ((c.tc : Thread Cert.ValuesTIdeal.nD Cert.ValuesTIdeal.τ).loc Cert.ValuesTIdeal.main_arg0)) →
    ∃ (v0 : (c : Dev Cert.ValuesTIdeal.nD) → Buf (Elt Ideal) ((c.tc : Thread Cert.ValuesTIdeal.nD Cert.ValuesTIdeal.τ).loc Cert.ValuesTIdeal.main_v0)),
      θ_run (Cert.ValuesTIdeal.defs (F := Ideal)) (onTc (τ := Cert.ValuesTIdeal.τ) (Cert.ValuesTIdeal.main (F := Ideal))) ⟨m, fun _ => 0, g⟩ (fun r => ∀ c : Dev Cert.ValuesTIdeal.nD,
          r.2.mem ((c.tc : Thread Cert.ValuesTIdeal.nD Cert.ValuesTIdeal.τ).loc Cert.ValuesTIdeal.main_v0) = v0 c
          ∧ r.2.mem ((c.tc : Thread Cert.ValuesTIdeal.nD Cert.ValuesTIdeal.τ).loc Cert.ValuesTIdeal.main_arg0) = m ((c.tc : Thread Cert.ValuesTIdeal.nD Cert.ValuesTIdeal.τ).loc Cert.ValuesTIdeal.main_arg0))
      ∧ θ_run (Cert.ValuesTReferenceIdeal.defs (F := Ideal)) (onTc (τ := Cert.ValuesTReferenceIdeal.τ) (Cert.ValuesTReferenceIdeal.main (F := Ideal))) ⟨m', fun _ => 0, g'⟩ (fun r => ∀ c : Dev Cert.ValuesTReferenceIdeal.nD,
          r.2.mem ((c.tc : Thread Cert.ValuesTReferenceIdeal.nD Cert.ValuesTReferenceIdeal.τ).loc Cert.ValuesTReferenceIdeal.main_v1) = v0 c
          ∧ r.2.mem ((c.tc : Thread Cert.ValuesTReferenceIdeal.nD Cert.ValuesTReferenceIdeal.τ).loc Cert.ValuesTReferenceIdeal.main_arg0) = m' ((c.tc : Thread Cert.ValuesTReferenceIdeal.nD Cert.ValuesTReferenceIdeal.τ).loc Cert.ValuesTReferenceIdeal.main_arg0))

def Claim : Prop :=
  ∃ (hKernel : Cert.Kernel.Facts) (hKernelIdeal : Cert.KernelIdeal.Facts) (hReferenceIdeal : Cert.ReferenceIdeal.Facts) (hProjRest : Cert.ProjRest.Facts) (hProjRestIdeal : Cert.ProjRestIdeal.Facts) (hProjRestReferenceIdeal : Cert.ProjRestReferenceIdeal.Facts) (hMlpDown : Cert.MlpDown.Facts) (hMlpDownIdeal : Cert.MlpDownIdeal.Facts) (hMlpDownReferenceIdeal : Cert.MlpDownReferenceIdeal.Facts) (hMlpUp : Cert.MlpUp.Facts) (hMlpUpIdeal : Cert.MlpUpIdeal.Facts) (hMlpUpReferenceIdeal : Cert.MlpUpReferenceIdeal.Facts) (hProjOut : Cert.ProjOut.Facts) (hProjOutIdeal : Cert.ProjOutIdeal.Facts) (hProjOutReferenceIdeal : Cert.ProjOutReferenceIdeal.Facts) (hMerge : Cert.Merge.Facts) (hMergeIdeal : Cert.MergeIdeal.Facts) (hMergeReferenceIdeal : Cert.MergeReferenceIdeal.Facts) (hProjQk : Cert.ProjQk.Facts) (hProjQkIdeal : Cert.ProjQkIdeal.Facts) (hProjQkReferenceIdeal : Cert.ProjQkReferenceIdeal.Facts) (hRowNorm : Cert.RowNorm.Facts) (hRowNormIdeal : Cert.RowNormIdeal.Facts) (hRowNormReferenceIdeal : Cert.RowNormReferenceIdeal.Facts) (hRotaryB : Cert.RotaryB.Facts) (hRotaryBIdeal : Cert.RotaryBIdeal.Facts) (hRotaryBReferenceIdeal : Cert.RotaryBReferenceIdeal.Facts) (hRotaryC : Cert.RotaryC.Facts) (hRotaryCIdeal : Cert.RotaryCIdeal.Facts) (hRotaryCReferenceIdeal : Cert.RotaryCReferenceIdeal.Facts) (hValuesT : Cert.ValuesT.Facts) (hValuesTIdeal : Cert.ValuesTIdeal.Facts) (hValuesTReferenceIdeal : Cert.ValuesTReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_ProjRest (hProjRest := hProjRest)
    ∧ quiescent_ProjRestIdeal (hProjRestIdeal := hProjRestIdeal)
    ∧ quiescent_ProjRestReferenceIdeal (hProjRestReferenceIdeal := hProjRestReferenceIdeal)
    ∧ quiescent_MlpDown (hMlpDown := hMlpDown)
    ∧ quiescent_MlpDownIdeal (hMlpDownIdeal := hMlpDownIdeal)
    ∧ quiescent_MlpDownReferenceIdeal (hMlpDownReferenceIdeal := hMlpDownReferenceIdeal)
    ∧ quiescent_MlpUp (hMlpUp := hMlpUp)
    ∧ quiescent_MlpUpIdeal (hMlpUpIdeal := hMlpUpIdeal)
    ∧ quiescent_MlpUpReferenceIdeal (hMlpUpReferenceIdeal := hMlpUpReferenceIdeal)
    ∧ quiescent_ProjOut (hProjOut := hProjOut)
    ∧ quiescent_ProjOutIdeal (hProjOutIdeal := hProjOutIdeal)
    ∧ quiescent_ProjOutReferenceIdeal (hProjOutReferenceIdeal := hProjOutReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_ProjQk (hProjQk := hProjQk)
    ∧ quiescent_ProjQkIdeal (hProjQkIdeal := hProjQkIdeal)
    ∧ quiescent_ProjQkReferenceIdeal (hProjQkReferenceIdeal := hProjQkReferenceIdeal)
    ∧ quiescent_RowNorm (hRowNorm := hRowNorm)
    ∧ quiescent_RowNormIdeal (hRowNormIdeal := hRowNormIdeal)
    ∧ quiescent_RowNormReferenceIdeal (hRowNormReferenceIdeal := hRowNormReferenceIdeal)
    ∧ quiescent_RotaryB (hRotaryB := hRotaryB)
    ∧ quiescent_RotaryBIdeal (hRotaryBIdeal := hRotaryBIdeal)
    ∧ quiescent_RotaryBReferenceIdeal (hRotaryBReferenceIdeal := hRotaryBReferenceIdeal)
    ∧ quiescent_RotaryC (hRotaryC := hRotaryC)
    ∧ quiescent_RotaryCIdeal (hRotaryCIdeal := hRotaryCIdeal)
    ∧ quiescent_RotaryCReferenceIdeal (hRotaryCReferenceIdeal := hRotaryCReferenceIdeal)
    ∧ quiescent_ValuesT (hValuesT := hValuesT)
    ∧ quiescent_ValuesTIdeal (hValuesTIdeal := hValuesTIdeal)
    ∧ quiescent_ValuesTReferenceIdeal (hValuesTReferenceIdeal := hValuesTReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_ProjRest_ProjRestIdeal
    ∧ algebraic_ProjRestIdeal_ProjRestReferenceIdeal (hProjRestIdeal := hProjRestIdeal) (hProjRestReferenceIdeal := hProjRestReferenceIdeal)
    ∧ preserves_MlpDown_MlpDownIdeal
    ∧ algebraic_MlpDownIdeal_MlpDownReferenceIdeal (hMlpDownIdeal := hMlpDownIdeal) (hMlpDownReferenceIdeal := hMlpDownReferenceIdeal)
    ∧ preserves_MlpUp_MlpUpIdeal
    ∧ algebraic_MlpUpIdeal_MlpUpReferenceIdeal (hMlpUpIdeal := hMlpUpIdeal) (hMlpUpReferenceIdeal := hMlpUpReferenceIdeal)
    ∧ preserves_ProjOut_ProjOutIdeal
    ∧ algebraic_ProjOutIdeal_ProjOutReferenceIdeal (hProjOutIdeal := hProjOutIdeal) (hProjOutReferenceIdeal := hProjOutReferenceIdeal)
    ∧ preserves_Merge_MergeIdeal
    ∧ algebraic_MergeIdeal_MergeReferenceIdeal (hMergeIdeal := hMergeIdeal) (hMergeReferenceIdeal := hMergeReferenceIdeal)
    ∧ preserves_ProjQk_ProjQkIdeal
    ∧ algebraic_ProjQkIdeal_ProjQkReferenceIdeal (hProjQkIdeal := hProjQkIdeal) (hProjQkReferenceIdeal := hProjQkReferenceIdeal)
    ∧ preserves_RowNorm_RowNormIdeal
    ∧ algebraic_RowNormIdeal_RowNormReferenceIdeal (hRowNormIdeal := hRowNormIdeal) (hRowNormReferenceIdeal := hRowNormReferenceIdeal)
    ∧ preserves_RotaryB_RotaryBIdeal
    ∧ algebraic_RotaryBIdeal_RotaryBReferenceIdeal (hRotaryBIdeal := hRotaryBIdeal) (hRotaryBReferenceIdeal := hRotaryBReferenceIdeal)
    ∧ preserves_RotaryC_RotaryCIdeal
    ∧ algebraic_RotaryCIdeal_RotaryCReferenceIdeal (hRotaryCIdeal := hRotaryCIdeal) (hRotaryCReferenceIdeal := hRotaryCReferenceIdeal)
    ∧ preserves_ValuesT_ValuesTIdeal
    ∧ algebraic_ValuesTIdeal_ValuesTReferenceIdeal (hValuesTIdeal := hValuesTIdeal) (hValuesTReferenceIdeal := hValuesTReferenceIdeal)
-- ==== Pre_finite.lean ====
abbrev S1 : Shape := ⟨1, ![1]⟩
abbrev S16384x2048 : Shape := ⟨2, ![16384, 2048]⟩
abbrev S16384x19456 : Shape := ⟨2, ![16384, 19456]⟩
abbrev S1x128 : Shape := ⟨2, ![1, 128]⟩
abbrev S1x256 : Shape := ⟨2, ![1, 256]⟩
abbrev S16384x1024 : Shape := ⟨2, ![16384, 1024]⟩
abbrev S_ : Shape := ⟨0, ![]⟩

class Facts : Prop where
  slices_S16384x19456_S16384x1024_0_3584 : S16384x19456.Slices ![0, 3584] S16384x1024
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg5 : FVec F S1x128 .f32) (main_arg6 : FVec F S1x128 .f32) (main_v16 : IVec S_ 1) (main_v17 : FVec F S1x128 .f32) : IVec S_ 1 :=
  let main_cst_4 : FVec F S_ .f32 := constant S_ .f32 0x7F800000#32
  let main_v18 : FVec F S1x128 .f32 := broadcastInDim S1x128 ![] bcast_S_S1x128 main_cst_4
  let main_v19 : IVec S1x128 1 := cmpf .olt main_v17 main_v18
  let main_c_5 : IVec S_ 1 := constantI S_ 1 1#1
  let main_v20 : IVec S_ 1 := (fun x v => Host.reduce IntOp.andi x v reducesTo_S1x128_S_d0_1 h_S_) main_v19 main_c_5
  let main_v21 : IVec S_ 1 := andi main_v16 main_v20
  let main_v22 : FVec F S1x128 .f32 := Host.absf main_arg5
  let main_cst_6 : FVec F S_ .f32 := constant S_ .f32 0x7F800000#32
  let main_v23 : FVec F S1x128 .f32 := broadcastInDim S1x128 ![] bcast_S_S1x128 main_cst_6
  let main_v24 : IVec S1x128 1 := cmpf .olt main_v22 main_v23
  let main_c_7 : IVec S_ 1 := constantI S_ 1 1#1
  let main_v25 : IVec S_ 1 := (fun x v => Host.reduce IntOp.andi x v reducesTo_S1x128_S_d0_1 h_S_) main_v24 main_c_7
  let main_v26 : IVec S_ 1 := andi main_v21 main_v25
  let main_v27 : FVec F S1x128 .f32 := Host.absf main_arg6
  let main_cst_8 : FVec F S_ .f32 := constant S_ .f32 0x7F800000#32
  let main_v28 : FVec F S1x128 .f32 := broadcastInDim S1x128 ![] bcast_S_S1x128 main_cst_8
  let main_v29 : IVec S1x128 1 := cmpf .olt main_v27 main_v28
  let main_c_9 : IVec S_ 1 := constantI S_ 1 1#1
  let main_v30 : IVec S_ 1 := (fun x v => Host.reduce IntOp.andi x v reducesTo_S1x128_S_d0_1 h_S_) main_v29 main_c_9
  let main_v31 : IVec S_ 1 := andi main_v26 main_v30
  main_v31

def fn {F : FTy → Type} [FloatOps F] (main_arg0 : IVec S1 32) (main_arg1 : FVec F S16384x2048 .bf16) (main_arg2 : FVec F S16384x19456 .bf16) (main_arg3 : FVec F S1x128 .f32) (main_arg4 : FVec F S1x128 .f32) (main_arg5 : FVec F S1x128 .f32) (main_arg6 : FVec F S1x128 .f32) (main_arg7 : FVec F S1x256 .f32) : IVec S_ 1 :=
  let main_v0 : FVec F S16384x1024 .bf16 := (extractStridedSlice S16384x1024 ![0, 3584] · slices_S16384x19456_S16384x1024_0_3584) main_arg2
  let main_v1 : FVec F S16384x2048 .f32 := (extf .f32 · bitsLt_bf16_f32) main_arg1
  let main_v2 : FVec F S16384x2048 .f32 := Host.absf main_v1
  let main_cst : FVec F S_ .f32 := constant S_ .f32 0x7F800000#32
  let main_v3 : FVec F S16384x2048 .f32 := broadcastInDim S16384x2048 ![] bcast_S_S16384x2048 main_cst
  let main_v4 : IVec S16384x2048 1 := cmpf .olt main_v2 main_v3
  let main_c : IVec S_ 1 := constantI S_ 1 1#1
  let main_v5 : IVec S_ 1 := (fun x v => Host.reduce IntOp.andi x v reducesTo_S16384x2048_S_d0_1 h_S_) main_v4 main_c
  let main_v6 : FVec F S16384x1024 .f32 := (extf .f32 · bitsLt_bf16_f32) main_v0
  let main_v7 : FVec F S16384x1024 .f32 := Host.absf main_v6
  let main_cst_0 : FVec F S_ .f32 := constant S_ .f32 0x7F800000#32
  let main_v8 : FVec F S16384x1024 .f32 := broadcastInDim S16384x1024 ![] bcast_S_S16384x1024 main_cst_0
  let main_v9 : IVec S16384x1024 1 := cmpf .olt main_v7 main_v8
  let main_c_1 : IVec S_ 1 := constantI S_ 1 1#1
  let main_v10 : IVec S_ 1 := (fun x v => Host.reduce IntOp.andi x v reducesTo_S16384x1024_S_d0_1 h_S_) main_v9 main_c_1
  let main_v11 : IVec S_ 1 := andi main_v5 main_v10
  let main_v12 : FVec F S1x128 .f32 := Host.absf main_arg3
  let main_cst_2 : FVec F S_ .f32 := constant S_ .f32 0x7F800000#32
  let main_v13 : FVec F S1x128 .f32 := broadcastInDim S1x128 ![] bcast_S_S1x128 main_cst_2
  let main_v14 : IVec S1x128 1 := cmpf .olt main_v12 main_v13
  let main_c_3 : IVec S_ 1 := constantI S_ 1 1#1
  let main_v15 : IVec S_ 1 := (fun x v => Host.reduce IntOp.andi x v reducesTo_S1x128_S_d0_1 h_S_) main_v14 main_c_3
  let main_v16 : IVec S_ 1 := andi main_v11 main_v15
  let main_v17 : FVec F S1x128 .f32 := Host.absf main_arg4
  fn_part1 (F := F) main_arg5 main_arg6 main_v16 main_v17
-- ==== Kernel.lean ====
abbrev S1 : Shape := ⟨1, ![1]⟩
abbrev S16384x2048 : Shape := ⟨2, ![16384, 2048]⟩
abbrev S16384x19456 : Shape := ⟨2, ![16384, 19456]⟩
abbrev S1x128 : Shape := ⟨2, ![1, 128]⟩
abbrev S1x256 : Shape := ⟨2, ![1, 256]⟩
abbrev S_ : Shape := ⟨0, ![]⟩
abbrev S16384x1024 : Shape := ⟨2, ![16384, 1024]⟩
abbrev S512x256 : Shape := ⟨2, ![512, 256]⟩
abbrev S4096x256 : Shape := ⟨2, ![4096, 256]⟩
abbrev S1024x256 : Shape := ⟨2, ![1024, 256]⟩
abbrev S1024x128 : Shape := ⟨2, ![1024, 128]⟩
abbrev S512x128 : Shape := ⟨2, ![512, 128]⟩
abbrev S2048x256 : Shape := ⟨2, ![2048, 256]⟩
abbrev S2048x128 : Shape := ⟨2, ![2048, 128]⟩
abbrev S512x2048 : Shape := ⟨2, ![512, 2048]⟩
abbrev S1024x2048 : Shape := ⟨2, ![1024, 2048]⟩
abbrev S1024 : Shape := ⟨1, ![1024]⟩
abbrev S1024x1 : Shape := ⟨2, ![1024, 1]⟩
abbrev S1x1 : Shape := ⟨2, ![1, 1]⟩
abbrev S512 : Shape := ⟨1, ![512]⟩
abbrev S512x1 : Shape := ⟨2, ![512, 1]⟩

abbrev nBuf : Space → Nat
  | .hbm => 14
  | .vmem => 15
  | .smem => 1
  | _ => 0

abbrev bufTy : (tb : Table) → Fin (tcTables nBuf tb) → BufTy
  | .hbm, ⟨0, _⟩ => ⟨S1, .i32⟩
  | .hbm, ⟨1, _⟩ => ⟨S16384x2048, .bf16⟩
  | .hbm, ⟨2, _⟩ => ⟨S16384x19456, .bf16⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x256, .f32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S1, .i32⟩
  | .hbm, ⟨13, _⟩ => ⟨S16384x1024, .bf16⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x256, .f32⟩
  | .local _ .vmem, ⟨11, _⟩ => ⟨S512x256, .bf16⟩
  | .local _ .vmem, ⟨12, _⟩ => ⟨S512x256, .bf16⟩
  | .local _ .vmem, ⟨13, _⟩ => ⟨S1024x256, .f32⟩
  | .local _ .vmem, ⟨14, _⟩ => ⟨S1024x128, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨3, ![4, 4, 8], ![false, false, false]⟩

@[reducible] def k0_t1_loop : Scf.Loop 32 :=
  let c0_i32_12 : BitVec 32 := 0#32
  let c2_i32 : BitVec 32 := 2#32
  let v18 : BitVec 32 := Scalar.addi c0_i32_12 c2_i32
  let c1_i32 : BitVec 32 := 1#32
  ⟨c0_i32_12, v18, c1_i32⟩
def k0_mult1 (k0_t1 : Fin k0_t1_loop.trips) : BitVec 32 :=
  let c0_i32_12 : BitVec 32 := 0#32
  let c1_i32 : BitVec 32 := 1#32
  let arg15 : BitVec 32 := Scf.iv c0_i32_12 c1_i32 k0_t1
  let c2048_i32 : BitVec 32 := 2048#32
  let v62 : BitVec 32 := Scalar.muli arg15 c2048_i32
  v62
def k0_off1 (k0_t1 : Fin k0_t1_loop.trips) : Fin 2 → Nat :=
  let c0_i32_12 : BitVec 32 := 0#32
  let c1_i32 : BitVec 32 := 1#32
  let arg15 : BitVec 32 := Scf.iv c0_i32_12 c1_i32 k0_t1
  let c2048_i32 : BitVec 32 := 2048#32
  let v62 : BitVec 32 := Scalar.muli arg15 c2048_i32
  let v63 : BitVec 32 := v62
  let v64 : Index := Scalar.indexCast v63
  let c0_38 : Index := 0#32
  ![v64.toNat, 0]
@[reducible] def k0_t2_loop : Scf.Loop 32 :=
  let c0_i32_9 : BitVec 32 := 0#32
  let c2_i32 : BitVec 32 := 2#32
  let v13 : BitVec 32 := Scalar.addi c0_i32_9 c2_i32
  let c1_i32 : BitVec 32 := 1#32
  ⟨c0_i32_9, v13, c1_i32⟩
def k0_mult2 (k0_t2 : Fin k0_t2_loop.trips) : BitVec 32 :=
  let c0_i32_9 : BitVec 32 := 0#32
  let c1_i32 : BitVec 32 := 1#32
  let arg15 : BitVec 32 := Scf.iv c0_i32_9 c1_i32 k0_t2
  let c2048_i32 : BitVec 32 := 2048#32
  let v54 : BitVec 32 := Scalar.muli arg15 c2048_i32
  v54
def k0_off2 (k0_t2 : Fin k0_t2_loop.trips) : Fin 2 → Nat :=
  let c0_i32_9 : BitVec 32 := 0#32
  let c1_i32 : BitVec 32 := 1#32
  let arg15 : BitVec 32 := Scf.iv c0_i32_9 c1_i32 k0_t2
  let c2048_i32 : BitVec 32 := 2048#32
  let v54 : BitVec 32 := Scalar.muli arg15 c2048_i32
  let v55 : BitVec 32 := v54
  let v56 : Index := Scalar.indexCast v55
  let c0_30 : Index := 0#32
  ![v56.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c14_i32 : BitVec 32 := 14#32
  let v0 : BitVec 32 := Scalar.addi c14_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== ReferenceIdeal.lean ====
abbrev S1 : Shape := ⟨1, ![1]⟩
abbrev S16384x2048 : Shape := ⟨2, ![16384, 2048]⟩
abbrev S16384x19456 : Shape := ⟨2, ![16384, 19456]⟩
abbrev S1x128 : Shape := ⟨2, ![1, 128]⟩
abbrev S1x256 : Shape := ⟨2, ![1, 256]⟩
abbrev S16384x1024 : Shape := ⟨2, ![16384, 1024]⟩
abbrev S4x4096x8x128 : Shape := ⟨4, ![4, 4096, 8, 128]⟩
abbrev S4x4096x4x256 : Shape := ⟨4, ![4, 4096, 4, 256]⟩
abbrev S4x8x4096x4096 : Shape := ⟨4, ![4, 8, 4096, 4096]⟩
abbrev S_ : Shape := ⟨0, ![]⟩
abbrev S4x8x4096 : Shape := ⟨3, ![4, 8, 4096]⟩
abbrev S4x8x4096x1 : Shape := ⟨4, ![4, 8, 4096, 1]⟩
abbrev S4x4x2x4096x4096 : Shape := ⟨5, ![4, 4, 2, 4096, 4096]⟩
abbrev S4x4x1x4096x4096 : Shape := ⟨5, ![4, 4, 1, 4096, 4096]⟩
abbrev S4x4x4096x4096 : Shape := ⟨4, ![4, 4, 4096, 4096]⟩
abbrev S4x4x256x4096 : Shape := ⟨4, ![4, 4, 256, 4096]⟩
abbrev S4x4096x4 : Shape := ⟨3, ![4, 4096, 4]⟩
abbrev S4x4096x4x1 : Shape := ⟨4, ![4, 4096, 4, 1]⟩
abbrev S256 : Shape := ⟨1, ![256]⟩
abbrev S1x1x1x256 : Shape := ⟨4, ![1, 1, 1, 256]⟩

abbrev nBuf : Space → Nat
  | .hbm => 80
  | .vmem => 0
  | .smem => 0
  | _ => 0

abbrev bufTy : (tb : Table) → Fin (tcTables nBuf tb) → BufTy
  | .hbm, ⟨0, _⟩ => ⟨S1, .i32⟩
  | .hbm, ⟨1, _⟩ => ⟨S16384x2048, .bf16⟩
  | .hbm, ⟨2, _⟩ => ⟨S16384x19456, .bf16⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x256, .f32⟩
  | .hbm, ⟨8, _⟩ => ⟨S16384x1024, .bf16⟩
  | .hbm, ⟨9, _⟩ => ⟨S4x4096x8x128, .bf16⟩
  | .hbm, ⟨10, _⟩ => ⟨S4x4096x8x128, .f32⟩
  | .hbm, ⟨11, _⟩ => ⟨S16384x1024, .bf16⟩
  | .hbm, ⟨12, _⟩ => ⟨S4x4096x8x128, .bf16⟩
  | .hbm, ⟨13, _⟩ => ⟨S4x4096x8x128, .f32⟩
  | .hbm, ⟨14, _⟩ => ⟨S16384x1024, .bf16⟩
  | .hbm, ⟨15, _⟩ => ⟨S4x4096x4x256, .bf16⟩
  | .hbm, ⟨16, _⟩ => ⟨S4x4096x4x256, .f32⟩
  | .hbm, ⟨17, _⟩ => ⟨S4x8x4096x4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4x8x4096x4096, .f32⟩
  | .hbm, ⟨22, _⟩ => ⟨S4x8x4096x4096, .f32⟩
  | .hbm, ⟨23, _⟩ => ⟨S_, .f32⟩
  | .hbm, ⟨24, _⟩ => ⟨S4x8x4096, .f32⟩
  | .hbm, ⟨25, _⟩ => ⟨S_, .f32⟩
  | .hbm, ⟨26, _⟩ => ⟨S4x8x4096, .f32⟩
  | .hbm, ⟨27, _⟩ => ⟨S4x8x4096, .f32⟩
  | .hbm, ⟨28, _⟩ => ⟨S4x8x4096x1, .f32⟩
  | .hbm, ⟨29, _⟩ => ⟨S4x8x4096x4096, .f32⟩
  | .hbm, ⟨30, _⟩ => ⟨S4x8x4096x4096, .f32⟩
  | .hbm, ⟨31, _⟩ => ⟨S4x8x4096x4096, .f32⟩
  | .hbm, ⟨32, _⟩ => ⟨S_, .f32⟩
  | .hbm, ⟨33, _⟩ => ⟨S4x8x4096, .f32⟩
  | .hbm, ⟨34, _⟩ => ⟨S4x8x4096x1, .f32⟩
  | .hbm, ⟨35, _⟩ => ⟨S4x8x4096x4096, .f32⟩
  | .hbm, ⟨36, _⟩ => ⟨S4x8x4096x4096, .f32⟩
  | .hbm, ⟨37, _⟩ => ⟨S4x4x2x4096x4096, .f32⟩
  | .hbm, ⟨38, _⟩ => ⟨S1x128, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1x128, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S4x4x1x4096x4096, .f32⟩
  | .hbm, ⟨50, _⟩ => ⟨S4x4x4096x4096, .f32⟩
  | .hbm, ⟨51, _⟩ => ⟨S4x4x1x4096x4096, .f32⟩
  | .hbm, ⟨52, _⟩ => ⟨S4x4x4096x4096, .f32⟩
  | .hbm, ⟨53, _⟩ => ⟨S4x4x4096x4096, .f32⟩
  | .hbm, ⟨54, _⟩ => ⟨S4x4x4096x4096, .f32⟩
  | .hbm, ⟨55, _⟩ => ⟨S4x4x4096x4096, .f32⟩
  | .hbm, ⟨56, _⟩ => ⟨S4x4x256x4096, .f32⟩
  | .hbm, ⟨57, _⟩ => ⟨S4x4096x4x256, .f32⟩
  | .hbm, ⟨58, _⟩ => ⟨S4x4096x4x256, .f32⟩
  | .hbm, ⟨59, _⟩ => ⟨S_, .f32⟩
  | .hbm, ⟨60, _⟩ => ⟨S4x4096x4, .f32⟩
  | .hbm, ⟨61, _⟩ => ⟨S4x4096x4x1, .f32⟩
  | .hbm, ⟨62, _⟩ => ⟨S_, .f32⟩
  | .hbm, ⟨63, _⟩ => ⟨S4x4096x4x1, .f32⟩
  | .hbm, ⟨64, _⟩ => ⟨S4x4096x4x1, .f32⟩
  | .hbm, ⟨65, _⟩ => ⟨S_, .f32⟩
  | .hbm, ⟨66, _⟩ => ⟨S4x4096x4x1, .f32⟩
  | .hbm, ⟨67, _⟩ => ⟨S4x4096x4x1, .f32⟩
  | .hbm, ⟨68, _⟩ => ⟨S4x4096x4x1, .f32⟩
  | .hbm, ⟨69, _⟩ => ⟨S4x4096x4x256, .f32⟩
  | .hbm, ⟨70, _⟩ => ⟨S4x4096x4x256, .f32⟩
  | .hbm, ⟨71, _⟩ => ⟨S256, .f32⟩
  | .hbm, ⟨72, _⟩ => ⟨S1x1x1x256, .f32⟩
  | .hbm, ⟨73, _⟩ => ⟨S4x4096x4x256, .f32⟩
  | .hbm, ⟨74, _⟩ => ⟨S4x4096x4x256, .f32⟩
  | .hbm, ⟨75, _⟩ => ⟨S_, .f32⟩
  | .hbm, ⟨76, _⟩ => ⟨S4x4096x4x256, .f32⟩
  | .hbm, ⟨77, _⟩ => ⟨S4x4096x4x256, .f32⟩
  | .hbm, ⟨78, _⟩ => ⟨S16384x1024, .f32⟩
  | .hbm, ⟨79, _⟩ => ⟨S16384x1024, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_9 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩

abbrev nD : Nat := 1
abbrev τ : Topo := Topo.v7x

variable {F : FTy → Type} [FloatOps F]
-- ==== ProjRest.lean ====
abbrev S16384x4096 : Shape := ⟨2, ![16384, 4096]⟩
abbrev S1x4096x22528 : Shape := ⟨3, ![1, 4096, 22528]⟩
abbrev S16384x19456 : Shape := ⟨2, ![16384, 19456]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S1x4096x22528, .bf16⟩
  | .hbm, ⟨2, _⟩ => ⟨S16384x19456, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 19, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  let c0_i32_0 : BitVec 32 := 0#32
  ![c0_i32.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRestReferenceIdeal.lean ====
abbrev S16384x4096 : Shape := ⟨2, ![16384, 4096]⟩
abbrev S1x4096x22528 : Shape := ⟨3, ![1, 4096, 22528]⟩
abbrev S1x4096x19456 : Shape := ⟨3, ![1, 4096, 19456]⟩
abbrev S4096x19456 : Shape := ⟨2, ![4096, 19456]⟩
abbrev S16384x19456 : Shape := ⟨2, ![16384, 19456]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x22528, .bf16⟩
  | .hbm, ⟨2, _⟩ => ⟨S16384x4096, .f32⟩
  | .hbm, ⟨3, _⟩ => ⟨S1x4096x19456, .bf16⟩
  | .hbm, ⟨4, _⟩ => ⟨S4096x19456, .bf16⟩
  | .hbm, ⟨5, _⟩ => ⟨S4096x19456, .f32⟩
  | .hbm, ⟨6, _⟩ => ⟨S16384x19456, .f32⟩
  | .hbm, ⟨7, _⟩ => ⟨S16384x19456, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== MlpDown.lean ====
abbrev S16384x16384 : Shape := ⟨2, ![16384, 16384]⟩
abbrev S1x16384x4096 : Shape := ⟨3, ![1, 16384, 4096]⟩
abbrev S16384x4096 : Shape := ⟨2, ![16384, 4096]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x16384, .bf16⟩
  | .hbm, ⟨1, _⟩ => ⟨S1x16384x4096, .bf16⟩
  | .hbm, ⟨2, _⟩ => ⟨S16384x4096, .f32⟩
  | .hbm, ⟨3, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpDownReferenceIdeal.lean ====
abbrev S16384x16384 : Shape := ⟨2, ![16384, 16384]⟩
abbrev S1x16384x4096 : Shape := ⟨3, ![1, 16384, 4096]⟩
abbrev S16384x4096 : Shape := ⟨2, ![16384, 4096]⟩

abbrev nBuf : Space → Nat
  | .hbm => 8
  | .vmem => 0
  | .smem => 0
  | _ => 0

abbrev bufTy : (tb : Table) → Fin (tcTables nBuf tb) → BufTy
  | .hbm, ⟨0, _⟩ => ⟨S16384x16384, .bf16⟩
  | .hbm, ⟨1, _⟩ => ⟨S1x16384x4096, .bf16⟩
  | .hbm, ⟨2, _⟩ => ⟨S16384x4096, .f32⟩
  | .hbm, ⟨3, _⟩ => ⟨S16384x16384, .f32⟩
  | .hbm, ⟨4, _⟩ => ⟨S16384x4096, .bf16⟩
  | .hbm, ⟨5, _⟩ => ⟨S16384x4096, .f32⟩
  | .hbm, ⟨6, _⟩ => ⟨S16384x4096, .f32⟩
  | .hbm, ⟨7, _⟩ => ⟨S16384x4096, .f32⟩
  | _, _ => ⟨S16384x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MlpUp.lean ====
abbrev S16384x4096 : Shape := ⟨2, ![16384, 4096]⟩
abbrev S1x4096x16384 : Shape := ⟨3, ![1, 4096, 16384]⟩
abbrev S16384x512 : Shape := ⟨2, ![16384, 512]⟩
abbrev S16384x16384 : Shape := ⟨2, ![16384, 16384]⟩
abbrev S1024x4096 : Shape := ⟨2, ![1024, 4096]⟩
abbrev S1x4096x1024 : Shape := ⟨3, ![1, 4096, 1024]⟩
abbrev S1024x512 : Shape := ⟨2, ![1024, 512]⟩
abbrev S1024x1024 : Shape := ⟨2, ![1024, 1024]⟩
abbrev S4096x1024 : Shape := ⟨2, ![4096, 1024]⟩
abbrev S1024 : Shape := ⟨1, ![1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S1x4096x16384, .bf16⟩
  | .hbm, ⟨2, _⟩ => ⟨S16384x512, .f32⟩
  | .hbm, ⟨3, _⟩ => ⟨S16384x16384, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x512, .f32⟩
  | .local _ .vmem, ⟨5, _⟩ => ⟨S1024x512, .f32⟩
  | .local _ .vmem, ⟨6, _⟩ => ⟨S1024x1024, .bf16⟩
  | .local _ .vmem, ⟨7, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpUpReferenceIdeal.lean ====
abbrev S16384x4096 : Shape := ⟨2, ![16384, 4096]⟩
abbrev S1x4096x16384 : Shape := ⟨3, ![1, 4096, 16384]⟩
abbrev S16384x512 : Shape := ⟨2, ![16384, 512]⟩
abbrev S_ : Shape := ⟨0, ![]⟩
abbrev S16384 : Shape := ⟨1, ![16384]⟩
abbrev S16384x1 : Shape := ⟨2, ![16384, 1]⟩
abbrev S4096x16384 : Shape := ⟨2, ![4096, 16384]⟩
abbrev S16384x16384 : Shape := ⟨2, ![16384, 16384]⟩

abbrev nBuf : Space → Nat
  | .hbm => 24
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x16384, .bf16⟩
  | .hbm, ⟨2, _⟩ => ⟨S16384x512, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S16384x4096, .f32⟩
  | .hbm, ⟨10, _⟩ => ⟨S4096x16384, .bf16⟩
  | .hbm, ⟨11, _⟩ => ⟨S4096x16384, .f32⟩
  | .hbm, ⟨12, _⟩ => ⟨S16384x16384, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x16384, .f32⟩
  | .hbm, ⟨18, _⟩ => ⟨S16384x16384, .f32⟩
  | .hbm, ⟨19, _⟩ => ⟨S_, .f32⟩
  | .hbm, ⟨20, _⟩ => ⟨S16384x16384, .f32⟩
  | .hbm, ⟨21, _⟩ => ⟨S16384x16384, .f32⟩
  | .hbm, ⟨22, _⟩ => ⟨S16384x16384, .f32⟩
  | .hbm, ⟨23, _⟩ => ⟨S16384x16384, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== ProjOut.lean ====
abbrev S16384x4096 : Shape := ⟨2, ![16384, 4096]⟩
abbrev S1x4096x4096 : Shape := ⟨3, ![1, 4096, 4096]⟩
abbrev S16384x512 : Shape := ⟨2, ![16384, 512]⟩
abbrev S1024x4096 : Shape := ⟨2, ![1024, 4096]⟩
abbrev S1x4096x1024 : Shape := ⟨3, ![1, 4096, 1024]⟩
abbrev S1024x1024 : Shape := ⟨2, ![1024, 1024]⟩
abbrev S1024x128 : Shape := ⟨2, ![1024, 128]⟩
abbrev S4096x1024 : Shape := ⟨2, ![4096, 1024]⟩

abbrev nBuf : Space → Nat
  | .hbm => 6
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .bf16⟩
  | .hbm, ⟨2, _⟩ => ⟨S16384x4096, .f32⟩
  | .hbm, ⟨3, _⟩ => ⟨S16384x4096, .f32⟩
  | .hbm, ⟨4, _⟩ => ⟨S16384x4096, .bf16⟩
  | .hbm, ⟨5, _⟩ => ⟨S16384x512, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x128, .f32⟩
  | .local _ .vmem, ⟨11, _⟩ => ⟨S1024x128, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ProjOutReferenceIdeal.lean ====
abbrev S16384x4096 : Shape := ⟨2, ![16384, 4096]⟩
abbrev S1x4096x4096 : Shape := ⟨3, ![1, 4096, 4096]⟩
abbrev S4096x4096 : Shape := ⟨2, ![4096, 4096]⟩
abbrev S16384x4x8x128 : Shape := ⟨4, ![16384, 4, 8, 128]⟩
abbrev S_ : Shape := ⟨0, ![]⟩
abbrev S16384x4x128 : Shape := ⟨3, ![16384, 4, 128]⟩
abbrev S16384x512 : Shape := ⟨2, ![16384, 512]⟩

abbrev nBuf : Space → Nat
  | .hbm => 14
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .bf16⟩
  | .hbm, ⟨2, _⟩ => ⟨S16384x4096, .f32⟩
  | .hbm, ⟨3, _⟩ => ⟨S16384x4096, .f32⟩
  | .hbm, ⟨4, _⟩ => ⟨S4096x4096, .bf16⟩
  | .hbm, ⟨5, _⟩ => ⟨S4096x4096, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S16384x4x8x128, .f32⟩
  | .hbm, ⟨10, _⟩ => ⟨S_, .f32⟩
  | .hbm, ⟨11, _⟩ => ⟨S16384x4x128, .f32⟩
  | .hbm, ⟨12, _⟩ => ⟨S16384x512, .f32⟩
  | .hbm, ⟨13, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Merge.lean ====
abbrev S16384x1536 : Shape := ⟨2, ![16384, 1536]⟩
abbrev S16384x1024 : Shape := ⟨2, ![16384, 1024]⟩
abbrev S1x1536x4096 : Shape := ⟨3, ![1, 1536, 4096]⟩
abbrev S1x1024x4096 : Shape := ⟨3, ![1, 1024, 4096]⟩
abbrev S16384x19456 : Shape := ⟨2, ![16384, 19456]⟩
abbrev S16384x4096 : Shape := ⟨2, ![16384, 4096]⟩
abbrev S1024x1536 : Shape := ⟨2, ![1024, 1536]⟩
abbrev S1024x1024 : Shape := ⟨2, ![1024, 1024]⟩
abbrev S1x1536x1024 : Shape := ⟨3, ![1, 1536, 1024]⟩
abbrev S1x1024x1024 : Shape := ⟨3, ![1, 1024, 1024]⟩
abbrev S1536x1024 : Shape := ⟨2, ![1536, 1024]⟩

abbrev nBuf : Space → Nat
  | .hbm => 8
  | .vmem => 20
  | .smem => 0
  | _ => 0

abbrev bufTy : (tb : Table) → Fin (tcTables nBuf tb) → BufTy
  | .hbm, ⟨0, _⟩ => ⟨S16384x1536, .bf16⟩
  | .hbm, ⟨1, _⟩ => ⟨S16384x1024, .bf16⟩
  | .hbm, ⟨2, _⟩ => ⟨S16384x1536, .bf16⟩
  | .hbm, ⟨3, _⟩ => ⟨S1x1536x4096, .bf16⟩
  | .hbm, ⟨4, _⟩ => ⟨S1x1024x4096, .bf16⟩
  | .hbm, ⟨5, _⟩ => ⟨S1x1536x4096, .bf16⟩
  | .hbm, ⟨6, _⟩ => ⟨S16384x19456, .bf16⟩
  | .hbm, ⟨7, _⟩ => ⟨S16384x4096, .bf16⟩
  | .local _ .vmem, ⟨0, _⟩ => ⟨S1024x1536, .bf16⟩
  | .local _ .vmem, ⟨1, _⟩ => ⟨S1024x1536, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1536, .bf16⟩
  | .local _ .vmem, ⟨5, _⟩ => ⟨S1024x1536, .bf16⟩
  | .local _ .vmem, ⟨6, _⟩ => ⟨S1x1536x1024, .bf16⟩
  | .local _ .vmem, ⟨7, _⟩ => ⟨S1x1536x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1536x1024, .bf16⟩
  | .local _ .vmem, ⟨11, _⟩ => ⟨S1x1536x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg0
  let c0_i32 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1536x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1536x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeReferenceIdeal.lean ====
abbrev S16384x1536 : Shape := ⟨2, ![16384, 1536]⟩
abbrev S16384x1024 : Shape := ⟨2, ![16384, 1024]⟩
abbrev S1x1536x4096 : Shape := ⟨3, ![1, 1536, 4096]⟩
abbrev S1x1024x4096 : Shape := ⟨3, ![1, 1024, 4096]⟩
abbrev S16384x19456 : Shape := ⟨2, ![16384, 19456]⟩
abbrev S16384x4096 : Shape := ⟨2, ![16384, 4096]⟩
abbrev S_ : Shape := ⟨0, ![]⟩
abbrev S1536x4096 : Shape := ⟨2, ![1536, 4096]⟩
abbrev S1024x4096 : Shape := ⟨2, ![1024, 4096]⟩

abbrev nBuf : Space → Nat
  | .hbm => 55
  | .vmem => 0
  | .smem => 0
  | _ => 0

abbrev bufTy : (tb : Table) → Fin (tcTables nBuf tb) → BufTy
  | .hbm, ⟨0, _⟩ => ⟨S16384x1536, .bf16⟩
  | .hbm, ⟨1, _⟩ => ⟨S16384x1024, .bf16⟩
  | .hbm, ⟨2, _⟩ => ⟨S16384x1536, .bf16⟩
  | .hbm, ⟨3, _⟩ => ⟨S1x1536x4096, .bf16⟩
  | .hbm, ⟨4, _⟩ => ⟨S1x1024x4096, .bf16⟩
  | .hbm, ⟨5, _⟩ => ⟨S1x1536x4096, .bf16⟩
  | .hbm, ⟨6, _⟩ => ⟨S16384x19456, .bf16⟩
  | .hbm, ⟨7, _⟩ => ⟨S16384x4096, .bf16⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x1536, .f32⟩
  | .hbm, ⟨18, _⟩ => ⟨S1536x4096, .bf16⟩
  | .hbm, ⟨19, _⟩ => ⟨S1536x4096, .f32⟩
  | .hbm, ⟨20, _⟩ => ⟨S16384x4096, .f32⟩
  | .hbm, ⟨21, _⟩ => ⟨S16384x4096, .f32⟩
  | .hbm, ⟨22, _⟩ => ⟨S16384x4096, .bf16⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S_, .f32⟩
  | .hbm, ⟨27, _⟩ => ⟨S16384x4096, .f32⟩
  | .hbm, ⟨28, _⟩ => ⟨S16384x4096, .f32⟩
  | .hbm, ⟨29, _⟩ => ⟨S_, .f32⟩
  | .hbm, ⟨30, _⟩ => ⟨S16384x4096, .f32⟩
  | .hbm, ⟨31, _⟩ => ⟨S16384x4096, .f32⟩
  | .hbm, ⟨32, _⟩ => ⟨S16384x1024, .f32⟩
  | .hbm, ⟨33, _⟩ => ⟨S1024x4096, .bf16⟩
  | .hbm, ⟨34, _⟩ => ⟨S1024x4096, .f32⟩
  | .hbm, ⟨35, _⟩ => ⟨S16384x4096, .f32⟩
  | .hbm, ⟨36, _⟩ => ⟨S16384x4096, .f32⟩
  | .hbm, ⟨37, _⟩ => ⟨S16384x4096, .f32⟩
  | .hbm, ⟨38, _⟩ => ⟨S16384x4096, .bf16⟩
  | .hbm, ⟨39, _⟩ => ⟨S16384x4096, .f32⟩
  | .hbm, ⟨40, _⟩ => ⟨S16384x4096, .f32⟩
  | .hbm, ⟨41, _⟩ => ⟨S16384x4096, .f32⟩
  | .hbm, ⟨42, _⟩ => ⟨S_, .f32⟩
  | .hbm, ⟨43, _⟩ => ⟨S16384x4096, .f32⟩
  | .hbm, ⟨44, _⟩ => ⟨S16384x4096, .f32⟩
  | .hbm, ⟨45, _⟩ => ⟨S_, .f32⟩
  | .hbm, ⟨46, _⟩ => ⟨S16384x4096, .f32⟩
  | .hbm, ⟨47, _⟩ => ⟨S16384x4096, .f32⟩
  | .hbm, ⟨48, _⟩ => ⟨S16384x1536, .f32⟩
  | .hbm, ⟨49, _⟩ => ⟨S1536x4096, .bf16⟩
  | .hbm, ⟨50, _⟩ => ⟨S1536x4096, .f32⟩
  | .hbm, ⟨51, _⟩ => ⟨S16384x4096, .f32⟩
  | .hbm, ⟨52, _⟩ => ⟨S16384x4096, .f32⟩
  | .hbm, ⟨53, _⟩ => ⟨S16384x4096, .f32⟩
  | .hbm, ⟨54, _⟩ => ⟨S16384x4096, .bf16⟩
  | _, _ => ⟨S16384x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== ProjQk.lean ====
abbrev S16384x4096 : Shape := ⟨2, ![16384, 4096]⟩
abbrev S1x4096x22528 : Shape := ⟨3, ![1, 4096, 22528]⟩
abbrev S1x3072 : Shape := ⟨2, ![1, 3072]⟩
abbrev S16384x3072 : Shape := ⟨2, ![16384, 3072]⟩
abbrev S1024x4096 : Shape := ⟨2, ![1024, 4096]⟩
abbrev S1x4096x1024 : Shape := ⟨3, ![1, 4096, 1024]⟩
abbrev S1x1024 : Shape := ⟨2, ![1, 1024]⟩
abbrev S1024x1024 : Shape := ⟨2, ![1024, 1024]⟩
abbrev S4096x1024 : Shape := ⟨2, ![4096, 1024]⟩
abbrev S1024x128 : Shape := ⟨2, ![1024, 128]⟩
abbrev S1024 : Shape := ⟨1, ![1024]⟩
abbrev S1024x1 : Shape := ⟨2, ![1024, 1]⟩
abbrev S1x128 : Shape := ⟨2, ![1, 128]⟩

abbrev nBuf : Space → Nat
  | .hbm => 4
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S1x4096x22528, .bf16⟩
  | .hbm, ⟨2, _⟩ => ⟨S1x3072, .f32⟩
  | .hbm, ⟨3, _⟩ => ⟨S16384x3072, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjQkReferenceIdeal.lean ====
abbrev S16384x4096 : Shape := ⟨2, ![16384, 4096]⟩
abbrev S1x4096x22528 : Shape := ⟨3, ![1, 4096, 22528]⟩
abbrev S1x3072 : Shape := ⟨2, ![1, 3072]⟩
abbrev S1x4096x3072 : Shape := ⟨3, ![1, 4096, 3072]⟩
abbrev S4096x3072 : Shape := ⟨2, ![4096, 3072]⟩
abbrev S16384x3072 : Shape := ⟨2, ![16384, 3072]⟩
abbrev S16384x24x128 : Shape := ⟨3, ![16384, 24, 128]⟩
abbrev S_ : Shape := ⟨0, ![]⟩
abbrev S16384x24 : Shape := ⟨2, ![16384, 24]⟩
abbrev S16384x24x1 : Shape := ⟨3, ![16384, 24, 1]⟩
abbrev S24x128 : Shape := ⟨2, ![24, 128]⟩
abbrev S1x24x128 : Shape := ⟨3, ![1, 24, 128]⟩

abbrev nBuf : Space → Nat
  | .hbm => 28
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x22528, .bf16⟩
  | .hbm, ⟨2, _⟩ => ⟨S1x3072, .f32⟩
  | .hbm, ⟨3, _⟩ => ⟨S16384x4096, .f32⟩
  | .hbm, ⟨4, _⟩ => ⟨S1x4096x3072, .bf16⟩
  | .hbm, ⟨5, _⟩ => ⟨S4096x3072, .bf16⟩
  | .hbm, ⟨6, _⟩ => ⟨S4096x3072, .f32⟩
  | .hbm, ⟨7, _⟩ => ⟨S16384x3072, .f32⟩
  | .hbm, ⟨8, _⟩ => ⟨S16384x24x128, .f32⟩
  | .hbm, ⟨9, _⟩ => ⟨S16384x24x128, .f32⟩
  | .hbm, ⟨10, _⟩ => ⟨S_, .f32⟩
  | .hbm, ⟨11, _⟩ => ⟨S16384x24, .f32⟩
  | .hbm, ⟨12, _⟩ => ⟨S16384x24x1, .f32⟩
  | .hbm, ⟨13, _⟩ => ⟨S_, .f32⟩
  | .hbm, ⟨14, _⟩ => ⟨S16384x24x1, .f32⟩
  | .hbm, ⟨15, _⟩ => ⟨S16384x24x1, .f32⟩
  | .hbm, ⟨16, _⟩ => ⟨S_, .f32⟩
  | .hbm, ⟨17, _⟩ => ⟨S16384x24x1, .f32⟩
  | .hbm, ⟨18, _⟩ => ⟨S16384x24x1, .f32⟩
  | .hbm, ⟨19, _⟩ => ⟨S16384x24x1, .f32⟩
  | .hbm, ⟨20, _⟩ => ⟨S16384x24x128, .f32⟩
  | .hbm, ⟨21, _⟩ => ⟨S16384x24x128, .f32⟩
  | .hbm, ⟨22, _⟩ => ⟨S24x128, .f32⟩
  | .hbm, ⟨23, _⟩ => ⟨S1x24x128, .f32⟩
  | .hbm, ⟨24, _⟩ => ⟨S16384x24x128, .f32⟩
  | .hbm, ⟨25, _⟩ => ⟨S16384x24x128, .f32⟩
  | .hbm, ⟨26, _⟩ => ⟨S16384x3072, .f32⟩
  | .hbm, ⟨27, _⟩ => ⟨S16384x3072, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== RowNorm.lean ====
abbrev S16384x4096 : Shape := ⟨2, ![16384, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RowNormReferenceIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | .hbm, ⟨18, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== RotaryB.lean ====
abbrev S16384x19456 : Shape := ⟨2, ![16384, 19456]⟩
abbrev S1x2048 : Shape := ⟨2, ![1, 2048]⟩
abbrev S4096x64 : Shape := ⟨2, ![4096, 64]⟩
abbrev S4096x128 : Shape := ⟨2, ![4096, 128]⟩
abbrev S16384x2048 : Shape := ⟨2, ![16384, 2048]⟩
abbrev S1024x512 : Shape := ⟨2, ![1024, 512]⟩
abbrev S1x512 : Shape := ⟨2, ![1, 512]⟩
abbrev S1024x128 : Shape := ⟨2, ![1024, 128]⟩
abbrev S128x128 : Shape := ⟨2, ![128, 128]⟩
abbrev S1x128 : Shape := ⟨2, ![1, 128]⟩

abbrev nBuf : Space → Nat
  | .hbm => 11
  | .vmem => 10
  | .smem => 0
  | _ => 0

abbrev bufTy : (tb : Table) → Fin (tcTables nBuf tb) → BufTy
  | .hbm, ⟨0, _⟩ => ⟨S16384x19456, .bf16⟩
  | .hbm, ⟨1, _⟩ => ⟨S1x2048, .f32⟩
  | .hbm, ⟨2, _⟩ => ⟨S4096x64, .f32⟩
  | .hbm, ⟨3, _⟩ => ⟨S4096x64, .f32⟩
  | .hbm, ⟨4, _⟩ => ⟨S4096x64, .f32⟩
  | .hbm, ⟨5, _⟩ => ⟨S4096x128, .f32⟩
  | .hbm, ⟨6, _⟩ => ⟨S4096x64, .f32⟩
  | .hbm, ⟨7, _⟩ => ⟨S4096x64, .f32⟩
  | .hbm, ⟨8, _⟩ => ⟨S4096x64, .f32⟩
  | .hbm, ⟨9, _⟩ => ⟨S4096x128, .f32⟩
  | .hbm, ⟨10, _⟩ => ⟨S16384x2048, .bf16⟩
  | .local _ .vmem, ⟨0, _⟩ => ⟨S1024x512, .bf16⟩
  | .local _ .vmem, ⟨1, _⟩ => ⟨S1024x512, .bf16⟩
  | .local _ .vmem, ⟨2, _⟩ => ⟨S1x512, .f32⟩
  | .local _ .vmem, ⟨3, _⟩ => ⟨S1x512, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x512, .bf16⟩
  | .local _ .vmem, ⟨9, _⟩ => ⟨S1024x512, .bf16⟩
  | _, _ => ⟨S16384x19456, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RotaryBReferenceIdeal.lean ====
abbrev S16384x19456 : Shape := ⟨2, ![16384, 19456]⟩
abbrev S1x2048 : Shape := ⟨2, ![1, 2048]⟩
abbrev S4096x64 : Shape := ⟨2, ![4096, 64]⟩
abbrev S16384x2048 : Shape := ⟨2, ![16384, 2048]⟩
abbrev S4x4096x16x128 : Shape := ⟨4, ![4, 4096, 16, 128]⟩
abbrev S_ : Shape := ⟨0, ![]⟩
abbrev S4x4096x16 : Shape := ⟨3, ![4, 4096, 16]⟩
abbrev S4x4096x16x1 : Shape := ⟨4, ![4, 4096, 16, 1]⟩
abbrev S16x128 : Shape := ⟨2, ![16, 128]⟩
abbrev S1x1x16x128 : Shape := ⟨4, ![1, 1, 16, 128]⟩
abbrev S1x4096x1x64 : Shape := ⟨4, ![1, 4096, 1, 64]⟩
abbrev S4x4096x16x64 : Shape := ⟨4, ![4, 4096, 16, 64]⟩

abbrev nBuf : Space → Nat
  | .hbm => 42
  | .vmem => 0
  | .smem => 0
  | _ => 0

abbrev bufTy : (tb : Table) → Fin (tcTables nBuf tb) → BufTy
  | .hbm, ⟨0, _⟩ => ⟨S16384x19456, .bf16⟩
  | .hbm, ⟨1, _⟩ => ⟨S1x2048, .f32⟩
  | .hbm, ⟨2, _⟩ => ⟨S4096x64, .f32⟩
  | .hbm, ⟨3, _⟩ => ⟨S16384x2048, .bf16⟩
  | .hbm, ⟨4, _⟩ => ⟨S16384x2048, .f32⟩
  | .hbm, ⟨5, _⟩ => ⟨S4x4096x16x128, .f32⟩
  | .hbm, ⟨6, _⟩ => ⟨S4x4096x16x128, .f32⟩
  | .hbm, ⟨7, _⟩ => ⟨S_, .f32⟩
  | .hbm, ⟨8, _⟩ => ⟨S4x4096x16, .f32⟩
  | .hbm, ⟨9, _⟩ => ⟨S4x4096x16x1, .f32⟩
  | .hbm, ⟨10, _⟩ => ⟨S_, .f32⟩
  | .hbm, ⟨11, _⟩ => ⟨S4x4096x16x1, .f32⟩
  | .hbm, ⟨12, _⟩ => ⟨S4x4096x16x1, .f32⟩
  | .hbm, ⟨13, _⟩ => ⟨S_, .f32⟩
  | .hbm, ⟨14, _⟩ => ⟨S4x4096x16x1, .f32⟩
  | .hbm, ⟨15, _⟩ => ⟨S4x4096x16x1, .f32⟩
  | .hbm, ⟨16, _⟩ => ⟨S4x4096x16x1, .f32⟩
  | .hbm, ⟨17, _⟩ => ⟨S4x4096x16x128, .f32⟩
  | .hbm, ⟨18, _⟩ => ⟨S4x4096x16x128, .f32⟩
  | .hbm, ⟨19, _⟩ => ⟨S16x128, .f32⟩
  | .hbm, ⟨20, _⟩ => ⟨S1x1x16x128, .f32⟩
  | .hbm, ⟨21, _⟩ => ⟨S4x4096x16x128, .f32⟩
  | .hbm, ⟨22, _⟩ => ⟨S4x4096x16x128, .f32⟩
  | .hbm, ⟨23, _⟩ => ⟨S4096x64, .f32⟩
  | .hbm, ⟨24, _⟩ => ⟨S1x4096x1x64, .f32⟩
  | .hbm, ⟨25, _⟩ => ⟨S4096x64, .f32⟩
  | .hbm, ⟨26, _⟩ => ⟨S1x4096x1x64, .f32⟩
  | .hbm, ⟨27, _⟩ => ⟨S4x4096x16x64, .f32⟩
  | .hbm, ⟨28, _⟩ => ⟨S4x4096x16x64, .f32⟩
  | .hbm, ⟨29, _⟩ => ⟨S4x4096x16x64, .f32⟩
  | .hbm, ⟨30, _⟩ => ⟨S4x4096x16x64, .f32⟩
  | .hbm, ⟨31, _⟩ => ⟨S4x4096x16x64, .f32⟩
  | .hbm, ⟨32, _⟩ => ⟨S4x4096x16x64, .f32⟩
  | .hbm, ⟨33, _⟩ => ⟨S4x4096x16x64, .f32⟩
  | .hbm, ⟨34, _⟩ => ⟨S4x4096x16x64, .f32⟩
  | .hbm, ⟨35, _⟩ => ⟨S4x4096x16x64, .f32⟩
  | .hbm, ⟨36, _⟩ => ⟨S4x4096x16x64, .f32⟩
  | .hbm, ⟨37, _⟩ => ⟨S4x4096x16x64, .f32⟩
  | .hbm, ⟨38, _⟩ => ⟨S4x4096x16x64, .f32⟩
  | .hbm, ⟨39, _⟩ => ⟨S4x4096x16x128, .f32⟩
  | .hbm, ⟨40, _⟩ => ⟨S16384x2048, .f32⟩
  | .hbm, ⟨41, _⟩ => ⟨S16384x2048, .bf16⟩
  | _, _ => ⟨S16384x19456, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩

abbrev nD : Nat := 1
abbrev τ : Topo := Topo.v7x

variable {F : FTy → Type} [FloatOps F]
-- ==== RotaryC.lean ====
abbrev S16384x19456 : Shape := ⟨2, ![16384, 19456]⟩
abbrev S1x2048 : Shape := ⟨2, ![1, 2048]⟩
abbrev S4096x32 : Shape := ⟨2, ![4096, 32]⟩
abbrev S4096x128 : Shape := ⟨2, ![4096, 128]⟩
abbrev S16384x2048 : Shape := ⟨2, ![16384, 2048]⟩
abbrev S1024x512 : Shape := ⟨2, ![1024, 512]⟩
abbrev S1x512 : Shape := ⟨2, ![1, 512]⟩
abbrev S1024x128 : Shape := ⟨2, ![1024, 128]⟩
abbrev S128x128 : Shape := ⟨2, ![128, 128]⟩
abbrev S1x128 : Shape := ⟨2, ![1, 128]⟩

abbrev nBuf : Space → Nat
  | .hbm => 17
  | .vmem => 10
  | .smem => 0
  | _ => 0

abbrev bufTy : (tb : Table) → Fin (tcTables nBuf tb) → BufTy
  | .hbm, ⟨0, _⟩ => ⟨S16384x19456, .bf16⟩
  | .hbm, ⟨1, _⟩ => ⟨S1x2048, .f32⟩
  | .hbm, ⟨2, _⟩ => ⟨S4096x32, .f32⟩
  | .hbm, ⟨3, _⟩ => ⟨S4096x32, .f32⟩
  | .hbm, ⟨4, _⟩ => ⟨S4096x32, .f32⟩
  | .hbm, ⟨5, _⟩ => ⟨S4096x32, .f32⟩
  | .hbm, ⟨6, _⟩ => ⟨S4096x32, .f32⟩
  | .hbm, ⟨7, _⟩ => ⟨S4096x32, .f32⟩
  | .hbm, ⟨8, _⟩ => ⟨S4096x128, .f32⟩
  | .hbm, ⟨9, _⟩ => ⟨S4096x32, .f32⟩
  | .hbm, ⟨10, _⟩ => ⟨S4096x32, .f32⟩
  | .hbm, ⟨11, _⟩ => ⟨S4096x32, .f32⟩
  | .hbm, ⟨12, _⟩ => ⟨S4096x32, .f32⟩
  | .hbm, ⟨13, _⟩ => ⟨S4096x32, .f32⟩
  | .hbm, ⟨14, _⟩ => ⟨S4096x32, .f32⟩
  | .hbm, ⟨15, _⟩ => ⟨S4096x128, .f32⟩
  | .hbm, ⟨16, _⟩ => ⟨S16384x2048, .bf16⟩
  | .local _ .vmem, ⟨0, _⟩ => ⟨S1024x512, .bf16⟩
  | .local _ .vmem, ⟨1, _⟩ => ⟨S1024x512, .bf16⟩
  | .local _ .vmem, ⟨2, _⟩ => ⟨S1x512, .f32⟩
  | .local _ .vmem, ⟨3, _⟩ => ⟨S1x512, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x512, .bf16⟩
  | .local _ .vmem, ⟨9, _⟩ => ⟨S1024x512, .bf16⟩
  | _, _ => ⟨S16384x19456, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RotaryCReferenceIdeal.lean ====
abbrev S16384x19456 : Shape := ⟨2, ![16384, 19456]⟩
abbrev S1x2048 : Shape := ⟨2, ![1, 2048]⟩
abbrev S4096x32 : Shape := ⟨2, ![4096, 32]⟩
abbrev S16384x2048 : Shape := ⟨2, ![16384, 2048]⟩
abbrev S4x4096x16x128 : Shape := ⟨4, ![4, 4096, 16, 128]⟩
abbrev S_ : Shape := ⟨0, ![]⟩
abbrev S4x4096x16 : Shape := ⟨3, ![4, 4096, 16]⟩
abbrev S4x4096x16x1 : Shape := ⟨4, ![4, 4096, 16, 1]⟩
abbrev S16x128 : Shape := ⟨2, ![16, 128]⟩
abbrev S1x1x16x128 : Shape := ⟨4, ![1, 1, 16, 128]⟩
abbrev S4x4096x16x64 : Shape := ⟨4, ![4, 4096, 16, 64]⟩
abbrev S1x4096x1x32 : Shape := ⟨4, ![1, 4096, 1, 32]⟩
abbrev S4x4096x16x32 : Shape := ⟨4, ![4, 4096, 16, 32]⟩

abbrev nBuf : Space → Nat
  | .hbm => 63
  | .vmem => 0
  | .smem => 0
  | _ => 0

abbrev bufTy : (tb : Table) → Fin (tcTables nBuf tb) → BufTy
  | .hbm, ⟨0, _⟩ => ⟨S16384x19456, .bf16⟩
  | .hbm, ⟨1, _⟩ => ⟨S1x2048, .f32⟩
  | .hbm, ⟨2, _⟩ => ⟨S4096x32, .f32⟩
  | .hbm, ⟨3, _⟩ => ⟨S4096x32, .f32⟩
  | .hbm, ⟨4, _⟩ => ⟨S16384x2048, .bf16⟩
  | .hbm, ⟨5, _⟩ => ⟨S16384x2048, .f32⟩
  | .hbm, ⟨6, _⟩ => ⟨S4x4096x16x128, .f32⟩
  | .hbm, ⟨7, _⟩ => ⟨S4x4096x16x128, .f32⟩
  | .hbm, ⟨8, _⟩ => ⟨S_, .f32⟩
  | .hbm, ⟨9, _⟩ => ⟨S4x4096x16, .f32⟩
  | .hbm, ⟨10, _⟩ => ⟨S4x4096x16x1, .f32⟩
  | .hbm, ⟨11, _⟩ => ⟨S_, .f32⟩
  | .hbm, ⟨12, _⟩ => ⟨S4x4096x16x1, .f32⟩
  | .hbm, ⟨13, _⟩ => ⟨S4x4096x16x1, .f32⟩
  | .hbm, ⟨14, _⟩ => ⟨S_, .f32⟩
  | .hbm, ⟨15, _⟩ => ⟨S4x4096x16x1, .f32⟩
  | .hbm, ⟨16, _⟩ => ⟨S4x4096x16x1, .f32⟩
  | .hbm, ⟨17, _⟩ => ⟨S4x4096x16x1, .f32⟩
  | .hbm, ⟨18, _⟩ => ⟨S4x4096x16x128, .f32⟩
  | .hbm, ⟨19, _⟩ => ⟨S4x4096x16x128, .f32⟩
  | .hbm, ⟨20, _⟩ => ⟨S16x128, .f32⟩
  | .hbm, ⟨21, _⟩ => ⟨S1x1x16x128, .f32⟩
  | .hbm, ⟨22, _⟩ => ⟨S4x4096x16x128, .f32⟩
  | .hbm, ⟨23, _⟩ => ⟨S4x4096x16x128, .f32⟩
  | .hbm, ⟨24, _⟩ => ⟨S4x4096x16x64, .f32⟩
  | .hbm, ⟨25, _⟩ => ⟨S4096x32, .f32⟩
  | .hbm, ⟨26, _⟩ => ⟨S1x4096x1x32, .f32⟩
  | .hbm, ⟨27, _⟩ => ⟨S4096x32, .f32⟩
  | .hbm, ⟨28, _⟩ => ⟨S1x4096x1x32, .f32⟩
  | .hbm, ⟨29, _⟩ => ⟨S4x4096x16x32, .f32⟩
  | .hbm, ⟨30, _⟩ => ⟨S4x4096x16x32, .f32⟩
  | .hbm, ⟨31, _⟩ => ⟨S4x4096x16x32, .f32⟩
  | .hbm, ⟨32, _⟩ => ⟨S4x4096x16x32, .f32⟩
  | .hbm, ⟨33, _⟩ => ⟨S4x4096x16x32, .f32⟩
  | .hbm, ⟨34, _⟩ => ⟨S4x4096x16x32, .f32⟩
  | .hbm, ⟨35, _⟩ => ⟨S4x4096x16x32, .f32⟩
  | .hbm, ⟨36, _⟩ => ⟨S4x4096x16x32, .f32⟩
  | .hbm, ⟨37, _⟩ => ⟨S4x4096x16x32, .f32⟩
  | .hbm, ⟨38, _⟩ => ⟨S4x4096x16x32, .f32⟩
  | .hbm, ⟨39, _⟩ => ⟨S4x4096x16x32, .f32⟩
  | .hbm, ⟨40, _⟩ => ⟨S4x4096x16x32, .f32⟩
  | .hbm, ⟨41, _⟩ => ⟨S4x4096x16x64, .f32⟩
  | .hbm, ⟨42, _⟩ => ⟨S4x4096x16x64, .f32⟩
  | .hbm, ⟨43, _⟩ => ⟨S4096x32, .f32⟩
  | .hbm, ⟨44, _⟩ => ⟨S1x4096x1x32, .f32⟩
  | .hbm, ⟨45, _⟩ => ⟨S4096x32, .f32⟩
  | .hbm, ⟨46, _⟩ => ⟨S1x4096x1x32, .f32⟩
  | .hbm, ⟨47, _⟩ => ⟨S4x4096x16x32, .f32⟩
  | .hbm, ⟨48, _⟩ => ⟨S4x4096x16x32, .f32⟩
  | .hbm, ⟨49, _⟩ => ⟨S4x4096x16x32, .f32⟩
  | .hbm, ⟨50, _⟩ => ⟨S4x4096x16x32, .f32⟩
  | .hbm, ⟨51, _⟩ => ⟨S4x4096x16x32, .f32⟩
  | .hbm, ⟨52, _⟩ => ⟨S4x4096x16x32, .f32⟩
  | .hbm, ⟨53, _⟩ => ⟨S4x4096x16x32, .f32⟩
  | .hbm, ⟨54, _⟩ => ⟨S4x4096x16x32, .f32⟩
  | .hbm, ⟨55, _⟩ => ⟨S4x4096x16x32, .f32⟩
  | .hbm, ⟨56, _⟩ => ⟨S4x4096x16x32, .f32⟩
  | .hbm, ⟨57, _⟩ => ⟨S4x4096x16x32, .f32⟩
  | .hbm, ⟨58, _⟩ => ⟨S4x4096x16x32, .f32⟩
  | .hbm, ⟨59, _⟩ => ⟨S4x4096x16x64, .f32⟩
  | .hbm, ⟨60, _⟩ => ⟨S4x4096x16x128, .f32⟩
  | .hbm, ⟨61, _⟩ => ⟨S16384x2048, .f32⟩
  | .hbm, ⟨62, _⟩ => ⟨S16384x2048, .bf16⟩
  | _, _ => ⟨S16384x19456, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩

abbrev nD : Nat := 1
abbrev τ : Topo := Topo.v7x

variable {F : FTy → Type} [FloatOps F]
-- ==== ValuesT.lean ====
abbrev S16384x19456 : Shape := ⟨2, ![16384, 19456]⟩
abbrev S512x16384 : Shape := ⟨2, ![512, 16384]⟩
abbrev S1024x512 : Shape := ⟨2, ![1024, 512]⟩
abbrev S512x1024 : Shape := ⟨2, ![512, 1024]⟩

abbrev nBuf : Space → Nat
  | .hbm => 2
  | .vmem => 4
  | .smem => 0
  | _ => 0

abbrev bufTy : (tb : Table) → Fin (tcTables nBuf tb) → BufTy
  | .hbm, ⟨0, _⟩ => ⟨S16384x19456, .bf16⟩
  | .hbm, ⟨1, _⟩ => ⟨S512x16384, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | _, _ => ⟨S16384x19456, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ValuesTReferenceIdeal.lean ====
abbrev S16384x19456 : Shape := ⟨2, ![16384, 19456]⟩
abbrev S16384x512 : Shape := ⟨2, ![16384, 512]⟩
abbrev S512x16384 : Shape := ⟨2, ![512, 16384]⟩

abbrev nBuf : Space → Nat
  | .hbm => 3
  | .vmem => 0
  | .smem => 0
  | _ => 0

abbrev bufTy : (tb : Table) → Fin (tcTables nBuf tb) → BufTy
  | .hbm, ⟨0, _⟩ => ⟨S16384x19456, .bf16⟩
  | .hbm, ⟨1, _⟩ => ⟨S16384x512, .bf16⟩
  | .hbm, ⟨2, _⟩ => ⟨S512x16384, .bf16⟩
  | _, _ => ⟨S16384x19456, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Proof.DiffMath.lean ====
/-
  Facts about real numbers that the differential attention needs: powers of two, a weighted mean that a softmax takes, and
  the same mean taken in two halves with a running maximum.
-/
module

public import Idealize.ShloMosaic.PureOps.Ideal
public import Idealize.ShloMosaic.Lib.Pipeline.ValueKit

@[expose] public section

noncomputable section

namespace Cert.DiffMath

open Idealize.ShloMosaic
open scoped BigOperators

/-- Two to the power `r`. -/
def pow2 (r : ℝ) : ℝ := Real.rpow 2 r

theorem pow2_pos (r : ℝ) : 0 < pow2 r := Real.rpow_pos_of_pos two_pos r

theorem pow2_add (a b : ℝ) : pow2 (a + b) = pow2 a * pow2 b := Real.rpow_add two_pos a b

theorem pow2_sub (a b : ℝ) : pow2 (a - b) = pow2 a * pow2 (-b) := by rw [sub_eq_add_neg, pow2_add]

/-- The exponential of `r * log 2` is two to the power `r`. -/
theorem exp_log2 (r : ℝ) : Real.exp (r * Real.log 2) = pow2 r := by
  rw [mul_comm]; exact (Real.rpow_def_of_pos two_pos r).symm

/-- The coercion of the reals commutes with finite sums. -/
theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The maximum of finitely many reals and `⊥` is a real, where there is one. -/
theorem fold_max_coe {ι : Type*} [Fintype ι] [Nonempty ι] (f : ι → ℝ) :
    ∃ M : ℝ, Finset.univ.fold max (⊥ : EReal) (fun i => (f i : EReal)) = M := by
  classical
  have h : ∀ t : Finset ι, t.Nonempty → ∃ M : ℝ, t.fold max (⊥ : EReal) (fun i => (f i : EReal)) = M := by
    intro t
    induction t using Finset.induction_on with
    | empty => intro h; exact absurd h Finset.not_nonempty_empty
    | insert a t ha ih =>
      intro _
      rw [Finset.fold_insert ha]
      by_cases ht : t.Nonempty
      · obtain ⟨M, hM⟩ := ih ht
        exact ⟨max (f a) M, by rw [hM]; exact (EReal.coe_strictMono.monotone.map_max).symm⟩
      · rw [Finset.not_nonempty_iff_eq_empty.mp ht]
        exact ⟨f a, by simp⟩
  exact h _ Finset.univ_nonempty

/-- The mean of `v` under the weights `2 ^ s`. -/
def mean {n : ℕ} (s v : Fin n → ℝ) : ℝ := (∑ j, pow2 (s j) * v j) / ∑ j, pow2 (s j)

theorem weight_pos {n : ℕ} [NeZero n] (s : Fin n → ℝ) : 0 < ∑ j, pow2 (s j) :=
  Finset.sum_pos (fun _ _ => pow2_pos _) Finset.univ_nonempty

/-- A sum of `2 n` terms, by halves. -/
theorem sum_halves {α : Type*} [AddCommMonoid α] (n : ℕ) (f : Fin (n + n) → α) :
    ∑ j, f j = ∑ i : Fin n, f ⟨i, by omega⟩ + ∑ i : Fin n, f ⟨n + i, by omega⟩ :=
  Fin.sum_univ_add f

/-- A quotient of two real sums is their mean. -/
theorem div_mean {n : ℕ} [NeZero n] (s v : Fin n → ℝ) (c : ℝ) (hc : 0 < c) :
    Ideal.div ((c * ∑ j, pow2 (s j) * v j : ℝ) : EReal) ((c * ∑ j, pow2 (s j) : ℝ) : EReal) = (mean s v : EReal) := by
  have h := weight_pos s
  rw [Ideal.div_coe (mul_pos hc h).ne', ← EReal.coe_mul]
  congr 1
  unfold mean
  field_simp

/-- A difference of two softmaxes, the second scaled, applied to the values. -/
theorem sum_diff {n : ℕ} (s1 s2 v : Fin n → ℝ) (lam : ℝ) :
    ∑ j, (pow2 (s1 j) / (∑ i, pow2 (s1 i)) - lam * (pow2 (s2 j) / ∑ i, pow2 (s2 i))) * v j = mean s1 v - lam * mean s2 v := by
  unfold mean
  rw [Finset.sum_div, Finset.sum_div, Finset.mul_sum, ← Finset.sum_sub_distrib]
  exact Finset.sum_congr rfl fun j _ => by ring

/-- 2048 terms summed in 128 lanes of 16 terms each. -/
theorem sum_lanes (f : ℕ → ℝ) : ∑ l : Fin 128, ∑ i : Fin 16, f (i.val * 128 + l.val) = ∑ j : Fin 2048, f j.val := by
  rw [Finset.sum_comm]
  exact Fin.sum_univ_univ_mul_add 16 128 f

/-- The row of a block after normalisation: divided by the root of the mean square, times the gain and 0.8. -/
def normed (o : Fin 256 → EReal) (g : EReal) (d : Fin 256) : EReal :=
  o d * Ideal.rsqrt (Ideal.div (∑ x, o x * o x) (Ideal.ofBits .f32 0x43800000#32) + Ideal.ofBits .f32 0x358637BD#32) * g
    * Ideal.ofBits .f32 0x3F4CCCCD#32

/-- The weight of the second softmax. -/
def lambda (a b c d : Fin 128 → EReal) : EReal :=
  Ideal.exp (∑ x, a x * b x) - Ideal.exp (∑ x, c x * d x) + Ideal.ofBits .f32 0x3E4CCCCD#32

end Cert.DiffMath

end
-- ==== Proof.DiffSpec.lean ====
/-
  The differential attention over the reals: what each element of the result is, said once for the kernel and for the
  reference.
-/
module

public import proofs.«01_k».proof.Proof.DiffMath

@[expose] public section

noncomputable section

namespace Cert.DiffMath

open Idealize.ShloMosaic

/-- The sequence of a row of the result. -/
def seqOf (i : Fin 16384) : Fin 4 := ⟨i.val / 4096, by omega⟩

/-- The position in its sequence of a row of the result. -/
def posOf (i : Fin 16384) : Fin 4096 := ⟨i.val % 4096, by omega⟩

/-- The head of a column of the result. -/
def headOf (n : Fin 1024) : Fin 4 := ⟨n.val / 256, by omega⟩

/-- The place in its head of a column of the result. -/
def dimOf (n : Fin 1024) : Fin 256 := ⟨n.val % 256, by omega⟩

/-- The column of the projections that holds column `n` of the values. -/
def valueCol (n : Fin 1024) : Fin 19456 := ⟨3584 + n.val, by omega⟩

variable (Q : Fin 16384 → Fin 2048 → ℝ) (W : Fin 16384 → Fin 1024 → ℝ)

/-- The score of query row `s` and key row `j` of sequence `b` under the half head `g`. -/
def headScore (b : Fin 4) (g : Fin 8) (s j : Fin 4096) : ℝ :=
  ∑ y : Fin 128, Q ⟨b.val * 4096 + s.val, by omega⟩ ⟨g.val * 128 + y.val, by omega⟩
    * Q ⟨b.val * 4096 + j.val, by omega⟩ ⟨1024 + (g.val * 128 + y.val), by omega⟩

/-- The mean of column `x` of head `h`'s values under the softmax (base two) of the half head `g`'s scores. -/
def headMean (b : Fin 4) (g : Fin 8) (s : Fin 4096) (h : Fin 4) (x : Fin 256) : ℝ :=
  mean (headScore Q b g s) (fun j : Fin 4096 => W ⟨b.val * 4096 + j.val, by omega⟩ ⟨h.val * 256 + x.val, by omega⟩)

/-- One element of the result: the difference of the two softmax means of the head, normed. -/
def rowResult (lam : EReal) (gain : Fin 256 → EReal) (b : Fin 4) (s : Fin 4096) (h : Fin 4) (d : Fin 256) : EReal :=
  normed (fun x => (headMean Q W b ⟨2 * h.val + 0, by omega⟩ s h x : EReal)
      - lam * (headMean Q W b ⟨2 * h.val + 1, by omega⟩ s h x : EReal)) (gain d) d

end Cert.DiffMath

end
-- ==== Proof.DiffPre.lean ====
/-
  The precondition of the differential attention's value claim, read back: the queries, the keys, the values and the
  lambda vectors are reals.
-/
module

public import proofs.«01_k».proof.Defs
public import proofs.«01_k».proof.Proof.DiffSpec
public import Idealize.ShloMosaic.Lib.Pointwise
public import Idealize.ShloMosaic.Lib.ReduceAll

@[expose] public section

noncomputable section

namespace Cert.Pre_finite

open Idealize.ShloMosaic

/-- The precondition's side conditions hold. -/
instance facts : Facts where
  slices_S16384x19456_S16384x1024_0_3584 := by decide
  bitsLt_bf16_f32 := by decide
  bcast_S_S16384x2048 := by decide
  reducesTo_S16384x2048_S_d0_1 := by decide
  h_S_ := by decide
  bcast_S_S16384x1024 := by decide
  reducesTo_S16384x1024_S_d0_1 := by decide
  bcast_S_S1x128 := by decide
  reducesTo_S1x128_S_d0_1 := by decide

instance : Subsingleton S_.Idx := ⟨fun a b => funext fun x => x.elim0⟩

/-- An extended real whose absolute value is below infinity is a real. -/
theorem real_of_lt (x : EReal) (h : FloatOps.cmpf (F := Ideal) (φ := .f32) .olt (max x (-x) : EReal) (Ideal.ofBits .f32 0x7F800000#32) = 1#1) :
    ∃ r : ℝ, x = (r : EReal) := by
  have e : Ideal.ofBits .f32 0x7F800000#32 = ⊤ := by simp [Ideal.ofBits, Ideal.ieee]
  rw [e] at h
  have hlt : max x (-x) < ⊤ := by
    by_contra hn
    revert h
    show ¬ (Ideal.cmp .olt (max x (-x)) ⊤ = 1#1)
    simp [Ideal.cmp, hn]
  induction x with
  | bot => simp at hlt
  | top => simp at hlt
  | coe r => exact ⟨r, rfl⟩

/-- An array that passes the test is an array of reals. -/
theorem real_of_all {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant S_ .f32 0x7F800000#32))) (constantI S_ 1 1#1) hr hu j = 1#1)
    (i : s.Idx) : ∃ r : ℝ, x i = (r : EReal) :=
  real_of_lt (x i) (Host.reduce_andi_all _ _ hr hu j h i)

/-- What the precondition says: every query, key, value and lambda vector is a real. -/
theorem reals (x0 : IVec S1 32) (x1 : FVec Ideal S16384x2048 .bf16) (x2 : FVec Ideal S16384x19456 .bf16) (x3 x4 x5 x6 : FVec Ideal S1x128 .f32)
    (x7 : FVec Ideal S1x256 .f32) (h : fn (F := Ideal) x0 x1 x2 x3 x4 x5 x6 x7 = fun _ => 1#1) :
    (∀ i, ∃ r : ℝ, x1 i = (r : EReal))
    ∧ (∀ (i : Fin 16384) (n : Fin 1024), ∃ r : ℝ, x2 (ix2 i (Cert.DiffMath.valueCol n)) = (r : EReal))
    ∧ (∀ i, ∃ r : ℝ, x3 i = (r : EReal)) ∧ (∀ i, ∃ r : ℝ, x4 i = (r : EReal))
    ∧ (∀ i, ∃ r : ℝ, x5 i = (r : EReal)) ∧ (∀ i, ∃ r : ℝ, x6 i = (r : EReal)) := by
  have e := congrFun h ix0
  unfold fn fn_part1 at e
  dsimp only at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  refine ⟨fun i => real_of_all _ _ _ _ _ e1 i, fun i n => ?_, fun i => real_of_all _ _ _ _ _ e3 i, fun i => real_of_all _ _ _ _ _ e4 i,
    fun i => real_of_all _ _ _ _ _ e5 i, fun i => real_of_all _ _ _ _ _ e6 i⟩
  obtain ⟨r, hr⟩ := real_of_all _ _ _ _ _ e2 (ix2 i n)
  refine ⟨r, (?_ : _ = _).trans hr⟩
  unfold Cert.DiffMath.valueCol
  pointwise

end Cert.Pre_finite

end
-- ==== Proof.DiffRun.lean ====
/-
  One grid point of the differential attention kernel, run: both branches of its flag, with the pieces
  that it writes into its output block.
-/
module

public import proofs.«01_k».proof.Proof.Gen.KernelIdeal.Frame
public import proofs.«01_k».proof.Proof.Gen.KernelIdeal.Loops

@[expose] public section

set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra of the runs: the generated launch's. -/
local notation "𝕄" => MT nD τ sig Unit (Elt F) ℕ (UR sig nD τ) ℕ

/-- The kernel's first condition, at the flag word that it has read. -/
abbrev flagSet (w : BitVec 32) : Prop := Scalar.cmpi .ne (Scalar.extui (Scalar.cmpi .ne w 0#32) : BitVec 32) 0#32 = 1#1

/-- The kernel's second condition, at the flag word that it has read. -/
abbrev flagClear (w : BitVec 32) : Prop := Scalar.cmpi .ne (Scalar.extui (Scalar.cmpi .eq w 0#32) : BitVec 32) 0#32 = 1#1

/-- A store over a whole output block leaves no element out. -/
theorem cover_out (p : Vec F S512x256 .bf16) (y : S512x256.Idx) :
    ∃ pc ∈ ([⟨Rect.unit (s := S512x256) ![0, 0] S512x256.size inb_S512x256_S512x256_0_0, p⟩] : List (View.Piece (Elt F) S512x256 .bf16)), y ∈ pc.1.set :=
  View.cover_of_tiled [⟨Rect.unit (s := S512x256) ![0, 0] S512x256.size inb_S512x256_S512x256_0_0, p⟩] S512x256.size (by rfl) y

set_option maxHeartbeats 1000000 in
/-- The branch of a set flag (scores not rescaled): from the blocks read and any contents of the output block and of
  the two accumulators, the body ends with the pieces found here in the output block. -/
def runPlain (c : Dev nD) (i : grid0.Coords)
  (arg3 : Memref sig .tc .smem S1 .i32) (harg3 : arg3.IsWhole)
  (arg4 : Memref sig .tc .vmem S512x256 .bf16) (harg4 : arg4.IsWhole)
  (arg5 : Memref sig .tc .vmem S4096x256 .bf16) (harg5 : arg5.IsWhole)
  (arg6 : Memref sig .tc .vmem S4096x256 .bf16) (harg6 : arg6.IsWhole)
  (arg7 : Memref sig .tc .vmem S1x128 .f32) (harg7 : arg7.IsWhole)
  (arg8 : Memref sig .tc .vmem S1x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x256 .f32) (harg11 : arg11.IsWhole)
  (arg12 : Memref sig .tc .vmem S512x256 .bf16) (harg12 : arg12.IsWhole)
  (arg13 : Memref sig .tc .vmem S1024x256 .f32) (harg13 : arg13.IsWhole)
  (arg14 : Memref sig .tc .vmem S1024x128 .f32) (harg14 : arg14.IsWhole)
  (x0 : Vec F S1 .i32) (x1 : Vec F S512x256 .bf16) (x2 : Vec F S4096x256 .bf16) (x3 : Vec F S4096x256 .bf16) (x4 : Vec F S1x128 .f32) (x5 : Vec F S1x128 .f32) (x6 : Vec F S1x128 .f32) (x7 : Vec F S1x128 .f32) (x8 : Vec F S1x256 .f32)
  (g9 : BufTy.Contents (Elt F) arg12.view.ty) (g13 : BufTy.Contents (Elt F) arg13.view.ty) (g14 : BufTy.Contents (Elt F) arg14.view.ty)
  (hc0 : flagSet (arg3.view.readAt (Elt F) (Rect.unit (s := S1) ![0] S1.size inb_S1_S1_0).toLoadRect (harg3.unread x0) (Shape.Idx.first (numel1_S1.symm ▸ Nat.one_pos))))
  (hc1 : ¬flagClear (arg3.view.readAt (Elt F) (Rect.unit (s := S1) ![0] S1.size inb_S1_S1_0).toLoadRect (harg3.unread x0) (Shape.Idx.first (numel1_S1.symm ▸ Nat.one_pos)))) :
  { L : List (View.Piece (Elt F) S512x256 .bf16) // ∀ (E : Set ℕ) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (arg12.view.loc (c : Thread nD τ) ↦[arg12.view.set]{fullShare} g9) ∗ (arg13.view.loc (c : Thread nD τ) ↦[arg13.view.set]{fullShare} g13) ∗ (arg14.view.loc (c : Thread nD τ) ↦[arg14.view.set]{fullShare} g14)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare (View.canon L) ∗ (∃ d, owns (c : Thread nD τ) arg13 fullShare d) ∗ (∃ d, owns (c : Thread nD τ) arg14 fullShare d)) -∗ K ⟨⟩))
      ⊢ wp frame (wpE (defs₀ (F := F)) Variants.none c none) E (cc0_diff_attention i arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0_diff_attention_eq_skeleton]; unfold cc0_diff_attention_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, H9, HS0, HS1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; swap; · iexact H9
      ipureintro; exact View.read_writes_eq_canon _ _ _ (cover_out (F := F) _)
    isplitl [HS0]
    · iexists _, _; isplitr; swap; · iexact HS0
      ipureintro; rfl
    iexists _, _; isplitr; swap; · iexact HS1
    ipureintro; rfl

set_option maxHeartbeats 1000000 in
/-- The branch of a clear flag (running maximum): as `runPlain`. -/
def runOnline (c : Dev nD) (i : grid0.Coords)
  (arg3 : Memref sig .tc .smem S1 .i32) (harg3 : arg3.IsWhole)
  (arg4 : Memref sig .tc .vmem S512x256 .bf16) (harg4 : arg4.IsWhole)
  (arg5 : Memref sig .tc .vmem S4096x256 .bf16) (harg5 : arg5.IsWhole)
  (arg6 : Memref sig .tc .vmem S4096x256 .bf16) (harg6 : arg6.IsWhole)
  (arg7 : Memref sig .tc .vmem S1x128 .f32) (harg7 : arg7.IsWhole)
  (arg8 : Memref sig .tc .vmem S1x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x256 .f32) (harg11 : arg11.IsWhole)
  (arg12 : Memref sig .tc .vmem S512x256 .bf16) (harg12 : arg12.IsWhole)
  (arg13 : Memref sig .tc .vmem S1024x256 .f32) (harg13 : arg13.IsWhole)
  (arg14 : Memref sig .tc .vmem S1024x128 .f32) (harg14 : arg14.IsWhole)
  (x0 : Vec F S1 .i32) (x1 : Vec F S512x256 .bf16) (x2 : Vec F S4096x256 .bf16) (x3 : Vec F S4096x256 .bf16) (x4 : Vec F S1x128 .f32) (x5 : Vec F S1x128 .f32) (x6 : Vec F S1x128 .f32) (x7 : Vec F S1x128 .f32) (x8 : Vec F S1x256 .f32)
  (g9 : BufTy.Contents (Elt F) arg12.view.ty) (g13 : BufTy.Contents (Elt F) arg13.view.ty) (g14 : BufTy.Contents (Elt F) arg14.view.ty)
  (hc0 : ¬flagSet (arg3.view.readAt (Elt F) (Rect.unit (s := S1) ![0] S1.size inb_S1_S1_0).toLoadRect (harg3.unread x0) (Shape.Idx.first (numel1_S1.symm ▸ Nat.one_pos))))
  (hc1 : flagClear (arg3.view.readAt (Elt F) (Rect.unit (s := S1) ![0] S1.size inb_S1_S1_0).toLoadRect (harg3.unread x0) (Shape.Idx.first (numel1_S1.symm ▸ Nat.one_pos)))) :
  { L : List (View.Piece (Elt F) S512x256 .bf16) // ∀ (E : Set ℕ) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (arg12.view.loc (c : Thread nD τ) ↦[arg12.view.set]{fullShare} g9) ∗ (arg13.view.loc (c : Thread nD τ) ↦[arg13.view.set]{fullShare} g13) ∗ (arg14.view.loc (c : Thread nD τ) ↦[arg14.view.set]{fullShare} g14)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare (View.canon L) ∗ (∃ d, owns (c : Thread nD τ) arg13 fullShare d) ∗ (∃ d, owns (c : Thread nD τ) arg14 fullShare d)) -∗ K ⟨⟩))
      ⊢ wp frame (wpE (defs₀ (F := F)) Variants.none c none) E (cc0_diff_attention i arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0_diff_attention_eq_skeleton]; unfold cc0_diff_attention_skel
    simp only [k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, H9, HS0, HS1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; swap; · iexact H9
      ipureintro; exact View.read_writes_eq_canon _ _ _ (cover_out (F := F) _)
    isplitl [HS0]
    · iexists _, _; isplitr; swap; · iexact HS0
      ipureintro; rfl
    iexists _, _; isplitr; swap; · iexact HS1
    ipureintro; rfl

end Cert.KernelIdeal.Gen

end
-- ==== Proof.DiffBlock.lean ====
/-
  What one grid point of the differential attention kernel leaves in its output block, as a function of the blocks it
  reads: `outPlain` where the flag is set, `outOnline` where it is clear.
-/
module

public import proofs.«01_k».proof.Proof.DiffRun
public import Idealize.ShloMosaic.Lib.Pipeline.Value
public import Idealize.ShloMosaic.Lib.VecWindow

@[expose] public section

set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open Idealize.ShloMosaic.Pipeline (Dat)

variable {F : FTy → Type} [FloatOps F]

theorem hz2 : (![0, 0] : Fin 2 → Nat) = fun _ => 0 := funext fun a => by fin_cases a <;> rfl

/-- The first head's queries: the first 128 columns of the query block. -/
def qOne (x1 : Vec F S512x256 .bf16) : Vec F S512x128 .bf16 :=
  View.ld x1 (Rect.unit (s := S512x256) ![0, 0] S512x128.size inb_S512x256_S512x128_0_0)

/-- The second head's queries: the last 128 columns of the query block. -/
def qTwo (x1 : Vec F S512x256 .bf16) : Vec F S512x128 .bf16 :=
  View.ld x1 (Rect.unit (s := S512x256) ![0, 128] S512x128.size inb_S512x256_S512x128_0_128)

/-- Rows `2048 * k` and on of the keys or values: what trip `k` of the first loop loads. -/
def chunkA (x : Vec F S4096x256 .bf16) (k : Fin k0_t1_loop.trips) : Vec F S2048x256 .bf16 :=
  View.ld x (Rect.unit (s := S4096x256) (k0_off1 k) S2048x256.size (k0_off1_inb k))

/-- Rows `2048 * k` and on of the keys or values: what trip `k` of the second loop loads. -/
def chunkB (x : Vec F S4096x256 .bf16) (k : Fin k0_t2_loop.trips) : Vec F S2048x256 .bf16 :=
  View.ld x (Rect.unit (s := S4096x256) (k0_off2 k) S2048x256.size (k0_off2_inb k))

abbrev a0 : Fin k0_t1_loop.trips := ⟨0, by decide⟩
abbrev a1 : Fin k0_t1_loop.trips := ⟨1, by decide⟩
abbrev b0 : Fin k0_t2_loop.trips := ⟨0, by decide⟩
abbrev b1 : Fin k0_t2_loop.trips := ⟨1, by decide⟩

/-- The row sums that the loop without a running maximum leaves, 128 partial sums of each row. -/
def sumsPlain (v0 v1 : Vec F S512x128 .bf16) (x2 : Vec F S4096x256 .bf16) : Vec F S1024x128 .f32 :=
  k0_pay4 v0 v1 (chunkA x2 a1) (k0_pay4 v0 v1 (chunkA x2 a0) (k0_pay7 (F := F)))

/-- The weighted sums of the values that the loop without a running maximum leaves. -/
def accPlain (v0 v1 : Vec F S512x128 .bf16) (x2 x3 : Vec F S4096x256 .bf16) : Vec F S1024x256 .f32 :=
  k0_pay8 (chunkA x3 a1) (k0_pay5 v0 v1 (chunkA x2 a1)) (k0_pay8 (chunkA x3 a0) (k0_pay5 v0 v1 (chunkA x2 a0)) (k0_pay6 (F := F)))

/-- The output block where the flag is set. -/
def outPlain (x1 : Vec F S512x256 .bf16) (x2 x3 : Vec F S4096x256 .bf16) (x4 x5 x6 x7 : Vec F S1x128 .f32) (x8 : Vec F S1x256 .f32) :
    Vec F S512x256 .bf16 :=
  k0_pay1 (k0_pay9 (accPlain (qOne x1) (qTwo x1) x2 x3) (sumsPlain (qOne x1) (qTwo x1) x2)) (k0_pay10 x4 x5 x6 x7)
    (k0_pay11 (accPlain (qOne x1) (qTwo x1) x2 x3) (sumsPlain (qOne x1) (qTwo x1) x2)) x8

/-- One trip of the loop with a running maximum: the maximum, the row sums and the weighted sums after it. -/
def stepOnline (v0 v1 : Vec F S512x128 .bf16) (x2 x3 : Vec F S4096x256 .bf16) (k : Fin k0_t2_loop.trips)
    (s : FVec F S1024x1 .f32 × FVec F S1024x1 .f32 × FVec F S1024x256 .f32) :
    FVec F S1024x1 .f32 × FVec F S1024x1 .f32 × FVec F S1024x256 .f32 :=
  (k0_pay16 v0 v1 s.1 (chunkB x2 k), k0_pay19 v0 v1 s.1 s.2.1 (chunkB x2 k), k0_pay20 v0 v1 s.1 s.2.2 (chunkB x2 k) (chunkB x3 k))

/-- What the loop with a running maximum ends with. -/
def lastOnline (v0 v1 : Vec F S512x128 .bf16) (x2 x3 : Vec F S4096x256 .bf16) :
    FVec F S1024x1 .f32 × FVec F S1024x1 .f32 × FVec F S1024x256 .f32 :=
  stepOnline v0 v1 x2 x3 b1 (stepOnline v0 v1 x2 x3 b0 (k0_pay12 (F := F), k0_pay13 (F := F), k0_pay14 (F := F)))

/-- The output block where the flag is clear. -/
def outOnline (x1 : Vec F S512x256 .bf16) (x2 x3 : Vec F S4096x256 .bf16) (x4 x5 x6 x7 : Vec F S1x128 .f32) (x8 : Vec F S1x256 .f32) :
    Vec F S512x256 .bf16 :=
  k0_pay2 (k0_pay21 (lastOnline (qOne x1) (qTwo x1) x2 x3).2.1 (lastOnline (qOne x1) (qTwo x1) x2 x3).2.2 x4 x5 x6 x7) x8

section Pieces
variable (c : Dev nD) (i : grid0.Coords)
  (arg3 : Memref sig .tc .smem S1 .i32) (harg3 : arg3.IsWhole)
  (arg4 : Memref sig .tc .vmem S512x256 .bf16) (harg4 : arg4.IsWhole)
  (arg5 : Memref sig .tc .vmem S4096x256 .bf16) (harg5 : arg5.IsWhole)
  (arg6 : Memref sig .tc .vmem S4096x256 .bf16) (harg6 : arg6.IsWhole)
  (arg7 : Memref sig .tc .vmem S1x128 .f32) (harg7 : arg7.IsWhole)
  (arg8 : Memref sig .tc .vmem S1x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x256 .f32) (harg11 : arg11.IsWhole)
  (arg12 : Memref sig .tc .vmem S512x256 .bf16) (harg12 : arg12.IsWhole)
  (arg13 : Memref sig .tc .vmem S1024x256 .f32) (harg13 : arg13.IsWhole)
  (arg14 : Memref sig .tc .vmem S1024x128 .f32) (harg14 : arg14.IsWhole)

/-- One trip of the first loop: one store over each accumulator. -/
theorem trip_plain (v0 v1 : Vec F S512x128 .bf16) (x2 x3 : Vec F S4096x256 .bf16) (k : Fin k0_t1_loop.trips)
    (f13 : BufTy.Contents (Elt F) arg13.view.ty) (f14 : BufTy.Contents (Elt F) arg14.view.ty) :
    tripL_k0_t1 (F := F) Variants.none c none i arg3 harg3 arg4 harg4 arg5 harg5 arg6 harg6 arg7 harg7 arg8 harg8 arg9 harg9 arg10 harg10 arg11 harg11 arg12 harg12 arg13 harg13 arg14 harg14 v0 v1 (harg5.unread x2) (harg6.unread x3) k f13 f14
      = ([⟨Rect.unit (s := S1024x256) ![0, 0] S1024x256.size inb_S1024x256_S1024x256_0_0, k0_pay8 (chunkA x3 k) (k0_pay5 v0 v1 (chunkA x2 k)) (arg13.view.read (Elt F) f13)⟩],
         [⟨Rect.unit (s := S1024x128) ![0, 0] S1024x128.size inb_S1024x128_S1024x128_0_0, k0_pay4 v0 v1 (chunkA x2 k) (arg14.view.read (Elt F) f14)⟩]) := by
  unfold tripL_k0_t1 trip_k0_t1
  dsimp only
  sl_unfold_words
  simp only [View.readAt_eq_ld, harg5.read_unread, harg6.read_unread, View.ld_unit_zero (S := S1024x256) hz2, View.ld_unit_zero (S := S1024x128) hz2]
  rfl

/-- One trip of the second loop. -/
theorem trip_online (v0 v1 : Vec F S512x128 .bf16) (x2 x3 : Vec F S4096x256 .bf16) (k : Fin k0_t2_loop.trips)
    (s : FVec F S1024x1 .f32 × FVec F S1024x1 .f32 × FVec F S1024x256 .f32) :
    tripR_k0_t2 (F := F) Variants.none c none i arg3 harg3 arg4 harg4 arg5 harg5 arg6 harg6 arg7 harg7 arg8 harg8 arg9 harg9 arg10 harg10 arg11 harg11 arg12 harg12 arg13 harg13 arg14 harg14 v0 v1 (harg5.unread x2) (harg6.unread x3) k s = stepOnline v0 v1 x2 x3 k s := by
  unfold tripR_k0_t2 trip_k0_t2
  dsimp only
  sl_unfold_words
  simp only [View.readAt_eq_ld, harg5.read_unread, harg6.read_unread]
  rfl

/-- The two accumulators after both trips of the first loop, from zeros. -/
theorem pieces_plain (v0 v1 : Vec F S512x128 .bf16) (x2 x3 : Vec F S4096x256 .bf16)
    (G13 : BufTy.Contents (Elt F) arg13.view.ty) (G14 : BufTy.Contents (Elt F) arg14.view.ty)
    (h13 : arg13.view.read (Elt F) G13 = k0_pay6 (F := F)) (h14 : arg14.view.read (Elt F) G14 = k0_pay7 (F := F)) :
    ∃ L13 L14, pb_k0_t1 (F := F) Variants.none c none i arg3 harg3 arg4 harg4 arg5 harg5 arg6 harg6 arg7 harg7 arg8 harg8 arg9 harg9 arg10 harg10 arg11 harg11 arg12 harg12 arg13 harg13 arg14 harg14 v0 v1 (harg5.unread x2) (harg6.unread x3) G13 G14 2
      = (⟨Rect.unit (s := S1024x256) ![0, 0] S1024x256.size inb_S1024x256_S1024x256_0_0, accPlain v0 v1 x2 x3⟩ :: L13,
         ⟨Rect.unit (s := S1024x128) ![0, 0] S1024x128.size inb_S1024x128_S1024x128_0_0, sumsPlain v0 v1 x2⟩ :: L14) := by
  have e1 := pb_k0_t1_succ (F := F) Variants.none c none i arg3 harg3 arg4 harg4 arg5 harg5 arg6 harg6 arg7 harg7 arg8 harg8 arg9 harg9 arg10 harg10 arg11 harg11 arg12 harg12 arg13 harg13 arg14 harg14 v0 v1 (harg5.unread x2) (harg6.unread x3) G13 G14 a0
  have e2 := pb_k0_t1_succ (F := F) Variants.none c none i arg3 harg3 arg4 harg4 arg5 harg5 arg6 harg6 arg7 harg7 arg8 harg8 arg9 harg9 arg10 harg10 arg11 harg11 arg12 harg12 arg13 harg13 arg14 harg14 v0 v1 (harg5.unread x2) (harg6.unread x3) G13 G14 a1
  rw [trip_plain] at e1 e2
  have e0 : pb_k0_t1 (F := F) Variants.none c none i arg3 harg3 arg4 harg4 arg5 harg5 arg6 harg6 arg7 harg7 arg8 harg8 arg9 harg9 arg10 harg10 arg11 harg11 arg12 harg12 arg13 harg13 arg14 harg14 v0 v1 (harg5.unread x2) (harg6.unread x3) G13 G14 a0.val = ([], []) := rfl
  rw [e0] at e1
  simp only [View.writes_nil, h13, h14, List.append_nil] at e1
  rw [show a1.val = a0.val + 1 from rfl, e1] at e2
  refine ⟨[⟨Rect.unit (s := S1024x256) ![0, 0] S1024x256.size inb_S1024x256_S1024x256_0_0, k0_pay8 (chunkA x3 a0) (k0_pay5 v0 v1 (chunkA x2 a0)) (k0_pay6 (F := F))⟩],
    [⟨Rect.unit (s := S1024x128) ![0, 0] S1024x128.size inb_S1024x128_S1024x128_0_0, k0_pay4 v0 v1 (chunkA x2 a0) (k0_pay7 (F := F))⟩], e2.trans ?_⟩
  dsimp only
  rw [View.read_writes_full, View.read_writes_full]
  rfl

/-- What the second loop carries after both trips. -/
theorem state_online (v0 v1 : Vec F S512x128 .bf16) (x2 x3 : Vec F S4096x256 .bf16) :
    st_k0_t2 (F := F) Variants.none c none i arg3 harg3 arg4 harg4 arg5 harg5 arg6 harg6 arg7 harg7 arg8 harg8 arg9 harg9 arg10 harg10 arg11 harg11 arg12 harg12 arg13 harg13 arg14 harg14 v0 v1 (harg5.unread x2) (harg6.unread x3) (k0_pay12 (F := F), k0_pay13 (F := F), k0_pay14 (F := F)) 2
      = lastOnline v0 v1 x2 x3 := by
  have e1 := st_k0_t2_succ (F := F) Variants.none c none i arg3 harg3 arg4 harg4 arg5 harg5 arg6 harg6 arg7 harg7 arg8 harg8 arg9 harg9 arg10 harg10 arg11 harg11 arg12 harg12 arg13 harg13 arg14 harg14 v0 v1 (harg5.unread x2) (harg6.unread x3) (k0_pay12 (F := F), k0_pay13 (F := F), k0_pay14 (F := F)) b0
  have e2 := st_k0_t2_succ (F := F) Variants.none c none i arg3 harg3 arg4 harg4 arg5 harg5 arg6 harg6 arg7 harg7 arg8 harg8 arg9 harg9 arg10 harg10 arg11 harg11 arg12 harg12 arg13 harg13 arg14 harg14 v0 v1 (harg5.unread x2) (harg6.unread x3) (k0_pay12 (F := F), k0_pay13 (F := F), k0_pay14 (F := F)) b1
  rw [trip_online] at e1 e2
  rw [show b1.val = b0.val + 1 from rfl, e1] at e2
  exact e2
end Pieces

section Runs
variable (c : Dev nD) (i : grid0.Coords)
  (arg3 : Memref sig .tc .smem S1 .i32) (harg3 : arg3.IsWhole)
  (arg4 : Memref sig .tc .vmem S512x256 .bf16) (harg4 : arg4.IsWhole)
  (arg5 : Memref sig .tc .vmem S4096x256 .bf16) (harg5 : arg5.IsWhole)
  (arg6 : Memref sig .tc .vmem S4096x256 .bf16) (harg6 : arg6.IsWhole)
  (arg7 : Memref sig .tc .vmem S1x128 .f32) (harg7 : arg7.IsWhole)
  (arg8 : Memref sig .tc .vmem S1x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x256 .f32) (harg11 : arg11.IsWhole)
  (arg12 : Memref sig .tc .vmem S512x256 .bf16) (harg12 : arg12.IsWhole)
  (arg13 : Memref sig .tc .vmem S1024x256 .f32) (harg13 : arg13.IsWhole)
  (arg14 : Memref sig .tc .vmem S1024x128 .f32) (harg14 : arg14.IsWhole)
  (x0 : Vec F S1 .i32) (x1 : Vec F S512x256 .bf16) (x2 : Vec F S4096x256 .bf16) (x3 : Vec F S4096x256 .bf16) (x4 : Vec F S1x128 .f32) (x5 : Vec F S1x128 .f32) (x6 : Vec F S1x128 .f32) (x7 : Vec F S1x128 .f32) (x8 : Vec F S1x256 .f32)
  (g9 : BufTy.Contents (Elt F) arg12.view.ty) (g13 : BufTy.Contents (Elt F) arg13.view.ty) (g14 : BufTy.Contents (Elt F) arg14.view.ty)

/-- The branch of a set flag leaves `outPlain`. -/
theorem canon_plain (hc0 : flagSet (arg3.view.readAt (Elt F) (Rect.unit (s := S1) ![0] S1.size inb_S1_S1_0).toLoadRect (harg3.unread x0) (Shape.Idx.first (numel1_S1.symm ▸ Nat.one_pos)))) (hc1 : ¬flagClear (arg3.view.readAt (Elt F) (Rect.unit (s := S1) ![0] S1.size inb_S1_S1_0).toLoadRect (harg3.unread x0) (Shape.Idx.first (numel1_S1.symm ▸ Nat.one_pos)))) :
    View.canon (runPlain c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 g9 g13 g14 hc0 hc1).1 = outPlain x1 x2 x3 x4 x5 x6 x7 x8 := by
  unfold runPlain
  dsimp only
  sl_unfold_words
  rw [View.canon_unit_zero hz2]
  obtain ⟨L13, L14, e⟩ := pieces_plain c i arg3 harg3 arg4 harg4 arg5 harg5 arg6 harg6 arg7 harg7 arg8 harg8 arg9 harg9 arg10 harg10 arg11 harg11 arg12 harg12 arg13 harg13 arg14 harg14 (qOne x1) (qTwo x1) x2 x3
    (arg13.view.writes (Elt F) arg13.view.junk [⟨Rect.unit ![0, 0] S1024x256.size inb_S1024x256_S1024x256_0_0, k0_pay6⟩])
    (arg14.view.writes (Elt F) arg14.view.junk [⟨Rect.unit ![0, 0] S1024x128.size inb_S1024x128_S1024x128_0_0, k0_pay7⟩])
    (View.read_writes_full _ _ _ _ _) (View.read_writes_full _ _ _ _ _)
  rw [show Scf.trips k0_t1_loop.lb k0_t1_loop.ub k0_t1_loop.st = 2 from by decide]
  simp only [View.readAt_eq_ld, harg4.read_unread, harg7.read_unread, harg8.read_unread, harg9.read_unread, harg10.read_unread, harg11.read_unread]
  have hv0 : qOne x1 = View.ld x1 (Rect.unit ![0, 0] ![512, 128] inb_S512x256_S512x128_0_0) := rfl
  have hv1 : qTwo x1 = View.ld x1 (Rect.unit ![0, 128] ![512, 128] inb_S512x256_S512x128_0_128) := rfl
  rw [← hv0, ← hv1]
  have r13 : ∀ (w : Vec F S1024x256 .f32) L, arg13.view.readCov (⟨Rect.unit (s := S1024x256) ![0, 0] ![1024, 256] inb_S1024x256_S1024x256_0_0, w⟩ :: L)
      (Rect.unit (s := S1024x256) ![0, 0] ![1024, 256] inb_S1024x256_S1024x256_0_0).toLoadRect = w := fun w L => View.readCov_full (s := S1024x256) _ _ _ _ _
  have r14 : ∀ (w : Vec F S1024x128 .f32) L, arg14.view.readCov (⟨Rect.unit (s := S1024x128) ![0, 0] ![1024, 128] inb_S1024x128_S1024x128_0_0, w⟩ :: L)
      (Rect.unit (s := S1024x128) ![0, 0] ![1024, 128] inb_S1024x128_S1024x128_0_0).toLoadRect = w := fun w L => View.readCov_full (s := S1024x128) _ _ _ _ _
  simp only [e, List.cons_append, r13, r14, View.ld_unit_zero (S := S1x128) hz2, View.ld_unit_zero (S := S1x256) hz2]
  rfl

/-- The branch of a clear flag leaves `outOnline`. -/
theorem canon_online (hc0 : ¬flagSet (arg3.view.readAt (Elt F) (Rect.unit (s := S1) ![0] S1.size inb_S1_S1_0).toLoadRect (harg3.unread x0) (Shape.Idx.first (numel1_S1.symm ▸ Nat.one_pos)))) (hc1 : flagClear (arg3.view.readAt (Elt F) (Rect.unit (s := S1) ![0] S1.size inb_S1_S1_0).toLoadRect (harg3.unread x0) (Shape.Idx.first (numel1_S1.symm ▸ Nat.one_pos)))) :
    View.canon (runOnline c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 g9 g13 g14 hc0 hc1).1 = outOnline x1 x2 x3 x4 x5 x6 x7 x8 := by
  unfold runOnline
  dsimp only
  sl_unfold_words
  rw [View.canon_unit_zero hz2]
  rw [show Scf.trips k0_t2_loop.lb k0_t2_loop.ub k0_t2_loop.st = 2 from by decide]
  simp only [View.readAt_eq_ld, harg4.read_unread, harg7.read_unread, harg8.read_unread, harg9.read_unread, harg10.read_unread, harg11.read_unread]
  have hv0 : qOne x1 = View.ld x1 (Rect.unit ![0, 0] ![512, 128] inb_S512x256_S512x128_0_0) := rfl
  have hv1 : qTwo x1 = View.ld x1 (Rect.unit ![0, 128] ![512, 128] inb_S512x256_S512x128_0_128) := rfl
  rw [← hv0, ← hv1]
  rw [state_online c i arg3 harg3 arg4 harg4 arg5 harg5 arg6 harg6 arg7 harg7 arg8 harg8 arg9 harg9 arg10 harg10 arg11 harg11 arg12 harg12 arg13 harg13 arg14 harg14 (qOne x1) (qTwo x1) x2 x3]
  simp only [View.ld_unit_zero (S := S1x128) hz2, View.ld_unit_zero (S := S1x256) hz2]
  rfl
end Runs

end Cert.KernelIdeal.Gen

end
-- ==== Proof.DiffPay.lean ====
/-
  The values that the differential attention kernel computes from one block of queries and two halves of the keys and
  values, read element by element over the extended reals.
-/
module

public import proofs.«01_k».proof.Proof.DiffBlock
public import proofs.«01_k».proof.Proof.DiffMath
public import Idealize.ShloMosaic.Lib.Pointwise

@[expose] public section

set_option maxRecDepth 16384
set_option maxHeartbeats 4000000

noncomputable section

namespace Cert.KernelIdeal.Gen

open Idealize.ShloMosaic Cert.DiffMath
open scoped BigOperators

/-- A score: the product of query row `r` and key row `j` over the 128 columns from `o`. -/
def score {nq nk : ℕ} (q : Fin nq → Fin 256 → ℝ) (k : Fin nk → Fin 256 → ℝ) (o : ℕ) (ho : o + 128 ≤ 256) (r : Fin nq) (j : Fin nk) : ℝ :=
  ∑ x : Fin 128, q r ⟨o + x, by omega⟩ * k j ⟨o + x, by omega⟩

/-- The scores of both heads, the second head's rows below the first's. -/
def stacked {nk : ℕ} (q : Fin 512 → Fin 256 → ℝ) (k : Fin nk → Fin 256 → ℝ) (u : Fin 1024) (j : Fin nk) : ℝ :=
  if h : u.val < 512 then score q k 0 (by omega) ⟨u, h⟩ j else score q k 128 (by omega) ⟨u - 512, by omega⟩ j

theorem ofBits_neg_inf : Ideal.ofBits .f32 0xFF800000#32 = (⊥ : EReal) := by simp [Ideal.ofBits, Ideal.ieee]

section Parts
variable (v0 v1 : Vec Ideal S512x128 .bf16) (K V : Vec Ideal S2048x256 .bf16)

theorem pay3_eq : k0_pay3 v0 v1 K = exp2 (k0_pay15 v0 v1 K) := rfl

theorem score_apply (u : Fin 1024) (j : Fin 2048) :
    k0_pay15 v0 v1 K (ix2 u j) = if h : u.val < 512 then ∑ x : Fin 128, v0 (ix2 ⟨u, h⟩ x) * K (ix2 j ⟨x, by omega⟩)
      else ∑ x : Fin 128, v1 (ix2 ⟨u - 512, by omega⟩ x) * K (ix2 j ⟨128 + x, by omega⟩) := by
  pointwise [k0_pay15]

/-- The lanes of the partial row sums after one chunk. -/
theorem lanes_apply (p : ℕ → ℝ) (u : Fin 1024) (hp : ∀ j : Fin 2048, k0_pay3 v0 v1 K (ix2 u j) = (p j : EReal)) (l : Fin 128) (s : Vec Ideal S1024x128 .f32) :
    k0_pay4 v0 v1 K s (ix2 u l) = s (ix2 u l) + ((∑ i : Fin 16, p (i.val * 128 + l.val) : ℝ) : EReal) := by
  pointwise [k0_pay4]
  simp only [hp, ← EReal.coe_add, Fin.sum_univ_succ, Fin.sum_univ_zero]
  congr 2
  simp [Fin.succ, add_assoc]

theorem acc_apply (p : FVec Ideal S1024x2048 .bf16) (u : Fin 1024) (d : Fin 256) (s : Vec Ideal S1024x256 .f32) :
    k0_pay8 V p s (ix2 u d) = ∑ x, p (ix2 u x) * V (ix2 x d) + s (ix2 u d) := by
  pointwise [k0_pay8]

theorem quot_apply (u : Fin 1024) (d : Fin 256) (a : Vec Ideal S1024x256 .f32) (s : Vec Ideal S1024x128 .f32) :
    k0_pay9 a s (ix2 u d) = Ideal.div (a (ix2 u d)) (∑ x, s (ix2 u x)) := by
  pointwise [k0_pay9]

theorem top_apply (u : Fin 512) (d : Fin 256) (a : Vec Ideal S1024x256 .f32) (s : Vec Ideal S1024x128 .f32) :
    k0_pay11 a s (ix2 u d) = k0_pay9 a s (ix2 ⟨u, by omega⟩ d) := by
  pointwise [k0_pay11]

theorem lambda_apply (a b c d : Vec Ideal S1x128 .f32) :
    k0_pay10 a b c d (ix2 0 0) = lambda (fun x => a (ix2 0 x)) (fun x => b (ix2 0 x)) (fun x => c (ix2 0 x)) (fun x => d (ix2 0 x)) := by
  pointwise [k0_pay10, lambda]

theorem tail_apply (r : Fin 512) (d : Fin 256) (a : Vec Ideal S1024x256 .f32) (l : FVec Ideal S1x1 .f32) (b : Vec Ideal S512x256 .f32) (g : Vec Ideal S1x256 .f32) :
    k0_pay1 a l b g (ix2 r d) = normed (fun x => b (ix2 r x) - l (ix2 0 0) * a (ix2 ⟨512 + r, by omega⟩ x)) (g (ix2 0 d)) d := by
  pointwise [k0_pay1, normed]

/-- The end of the body with a running maximum. -/
theorem tail_online_apply (r : Fin 512) (d : Fin 256) (l : FVec Ideal S1024x1 .f32) (a : FVec Ideal S1024x256 .f32) (x4 x5 x6 x7 : Vec Ideal S1x128 .f32) (g : Vec Ideal S1x256 .f32) :
    k0_pay2 (k0_pay21 l a x4 x5 x6 x7) g (ix2 r d)
      = normed (fun x => Ideal.div (a (ix2 ⟨r, by omega⟩ x)) (l (ix2 ⟨r, by omega⟩ 0))
          - lambda (fun x => x4 (ix2 0 x)) (fun x => x5 (ix2 0 x)) (fun x => x6 (ix2 0 x)) (fun x => x7 (ix2 0 x))
            * Ideal.div (a (ix2 ⟨512 + r, by omega⟩ x)) (l (ix2 ⟨512 + r, by omega⟩ 0))) (g (ix2 0 d)) d := by
  pointwise [k0_pay2, k0_pay21, normed, lambda]

theorem max_apply (u : Fin 1024) (m : FVec Ideal S1024x1 .f32) :
    k0_pay16 v0 v1 m K (ix2 u 0) = max (m (ix2 u 0)) (Finset.univ.fold max (⊥ : EReal) (fun x => k0_pay15 v0 v1 K (ix2 u x))) := by
  pointwise [k0_pay16]
  rw [ofBits_neg_inf]

theorem sum_apply (u : Fin 1024) (m l : FVec Ideal S1024x1 .f32) :
    k0_pay19 v0 v1 m l K (ix2 u 0) = Ideal.exp2 (m (ix2 u 0) - k0_pay16 v0 v1 m K (ix2 u 0)) * l (ix2 u 0)
      + ∑ x : Fin 2048, Ideal.exp2 (k0_pay15 v0 v1 K (ix2 u x) - k0_pay16 v0 v1 m K (ix2 u 0)) := by
  pointwise [k0_pay19, k0_pay17, k0_pay18]
  rfl

theorem acc_online_apply (u : Fin 1024) (d : Fin 256) (m : FVec Ideal S1024x1 .f32) (a : FVec Ideal S1024x256 .f32) :
    k0_pay20 v0 v1 m a K V (ix2 u d) = Ideal.exp2 (m (ix2 u 0) - k0_pay16 v0 v1 m K (ix2 u 0)) * a (ix2 u d)
      + ∑ x : Fin 2048, Ideal.exp2 (k0_pay15 v0 v1 K (ix2 u x) - k0_pay16 v0 v1 m K (ix2 u 0)) * V (ix2 x d) := by
  pointwise [k0_pay20, k0_pay17, k0_pay18]
  rfl

theorem zeros_apply (u : Fin 1024) (d : Fin 256) : k0_pay6 (F := Ideal) (ix2 u d) = 0 := by pointwise [k0_pay6]
theorem zeros_lanes_apply (u : Fin 1024) (d : Fin 128) : k0_pay7 (F := Ideal) (ix2 u d) = 0 := by pointwise [k0_pay7]
theorem start_max_apply (u : Fin 1024) : k0_pay12 (F := Ideal) (ix2 u 0) = (⊥ : EReal) := by
  pointwise [k0_pay12]
  rw [ofBits_neg_inf]
theorem start_sum_apply (u : Fin 1024) : k0_pay13 (F := Ideal) (ix2 u 0) = 0 := by pointwise [k0_pay13]
theorem start_acc_apply (u : Fin 1024) (d : Fin 256) : k0_pay14 (F := Ideal) (ix2 u d) = 0 := by pointwise [k0_pay14]

end Parts

end Cert.KernelIdeal.Gen

end
-- ==== Proof.DiffFrame.lean ====
/-
  The launch of the differential attention kernel: at every grid point the output block holds `outBlock` of the blocks
  read, and every run ends with the arguments unchanged.
-/
module

public import proofs.«01_k».proof.Proof.DiffBlock
public import Idealize.ShloMosaic.Lib.Claim

@[expose] public section

set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the runs: the generated launch's. -/
local notation "𝕄" => MT nD τ sig Unit (Elt F) ℕ (UR sig nD τ) ℕ

theorem hz1 : (![0] : Fin 1 → Nat) = fun _ => 0 := funext fun a => by fin_cases a; rfl

/-- The flag that a grid point reads. -/
def flagWord (x0 : Vec F S1 .i32) : BitVec 32 := x0 (Shape.Idx.first (numel1_S1.symm ▸ Nat.one_pos))

/-- What a grid point leaves in its output block, from the blocks it reads. -/
def outBlock (x0 : Vec F S1 .i32) (x1 : Vec F S512x256 .bf16) (x2 x3 : Vec F S4096x256 .bf16) (x4 x5 x6 x7 : Vec F S1x128 .f32) (x8 : Vec F S1x256 .f32) :
    Vec F S512x256 .bf16 :=
  if flagWord x0 = 0#32 then outOnline x1 x2 x3 x4 x5 x6 x7 x8 else outPlain x1 x2 x3 x4 x5 x6 x7 x8

theorem flagSet_iff (w : BitVec 32) : flagSet w ↔ w ≠ 0#32 := by
  unfold flagSet Scalar.cmpi Scalar.extui
  by_cases h : w = 0#32
  · subst h; decide
  · simp only [IntOp.cmpi]
    first | rw [show (w != 0#32) = true from bne_iff_ne.mpr h] | rw [show (w == 0#32) = false from beq_eq_false_iff_ne.mpr h]
    simp [h]

theorem flagClear_iff (w : BitVec 32) : flagClear w ↔ w = 0#32 := by
  unfold flagClear Scalar.cmpi Scalar.extui
  by_cases h : w = 0#32
  · subst h; decide
  · simp only [IntOp.cmpi]
    first | rw [show (w != 0#32) = true from bne_iff_ne.mpr h] | rw [show (w == 0#32) = false from beq_eq_false_iff_ne.mpr h]
    simp [h]

section Block
variable (c : Dev nD) (i : grid0.Coords)
  (arg3 : Memref sig .tc .smem S1 .i32) (harg3 : arg3.IsWhole)
  (arg4 : Memref sig .tc .vmem S512x256 .bf16) (harg4 : arg4.IsWhole)
  (arg5 : Memref sig .tc .vmem S4096x256 .bf16) (harg5 : arg5.IsWhole)
  (arg6 : Memref sig .tc .vmem S4096x256 .bf16) (harg6 : arg6.IsWhole)
  (arg7 : Memref sig .tc .vmem S1x128 .f32) (harg7 : arg7.IsWhole)
  (arg8 : Memref sig .tc .vmem S1x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x256 .f32) (harg11 : arg11.IsWhole)
  (arg12 : Memref sig .tc .vmem S512x256 .bf16) (harg12 : arg12.IsWhole)
  (arg13 : Memref sig .tc .vmem S1024x256 .f32) (harg13 : arg13.IsWhole)
  (arg14 : Memref sig .tc .vmem S1024x128 .f32) (harg14 : arg14.IsWhole)
  (x0 : Vec F S1 .i32) (x1 : Vec F S512x256 .bf16) (x2 : Vec F S4096x256 .bf16) (x3 : Vec F S4096x256 .bf16) (x4 : Vec F S1x128 .f32) (x5 : Vec F S1x128 .f32) (x6 : Vec F S1x128 .f32) (x7 : Vec F S1x128 .f32) (x8 : Vec F S1x256 .f32)

/-- One grid point, run from any contents of what it writes: the output block ends at `outBlock`. -/
theorem run_block (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare (outBlock x0 x1 x2 x3 x4 x5 x6 x7 x8) ∗ (∃ d, owns (c : Thread nD τ) arg13 fullShare d) ∗ (∃ d, owns (c : Thread nD τ) arg14 fullShare d)) -∗ K ⟨⟩))
      ⊢ wp frame (wpE (defs₀ (F := F)) Variants.none c none) E (cc0_diff_attention i arg3 harg3 arg4 harg4 arg5 harg5 arg6 harg6 arg7 harg7 arg8 harg8 arg9 harg9 arg10 harg10 arg11 harg11 arg12 harg12 arg13 harg13 arg14 harg14) K := by
  have hw : (arg3.view.readAt (Elt F) (Rect.unit (s := S1) ![0] S1.size inb_S1_S1_0).toLoadRect (harg3.unread x0) (Shape.Idx.first (numel1_S1.symm ▸ Nat.one_pos))) = flagWord x0 := by
    rw [View.readAt_eq_ld, harg3.read_unread, View.ld_unit_zero (S := S1) hz1]
    rfl
  have hr : ∀ (g9 : BufTy.Contents (Elt F) arg12.view.ty) (g13 : BufTy.Contents (Elt F) arg13.view.ty) (g14 : BufTy.Contents (Elt F) arg14.view.ty),
      iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (arg12.view.loc (c : Thread nD τ) ↦[arg12.view.set]{fullShare} g9) ∗ (arg13.view.loc (c : Thread nD τ) ↦[arg13.view.set]{fullShare} g13) ∗ (arg14.view.loc (c : Thread nD τ) ↦[arg14.view.set]{fullShare} g14)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare (outBlock x0 x1 x2 x3 x4 x5 x6 x7 x8) ∗ (∃ d, owns (c : Thread nD τ) arg13 fullShare d) ∗ (∃ d, owns (c : Thread nD τ) arg14 fullShare d)) -∗ K ⟨⟩))
      ⊢ wp frame (wpE (defs₀ (F := F)) Variants.none c none) E (cc0_diff_attention i arg3 harg3 arg4 harg4 arg5 harg5 arg6 harg6 arg7 harg7 arg8 harg8 arg9 harg9 arg10 harg10 arg11 harg11 arg12 harg12 arg13 harg13 arg14 harg14) K := by
    intro g9 g13 g14
    by_cases h : flagWord x0 = 0#32
    · have h0 : ¬flagSet (arg3.view.readAt (Elt F) (Rect.unit (s := S1) ![0] S1.size inb_S1_S1_0).toLoadRect (harg3.unread x0) (Shape.Idx.first (numel1_S1.symm ▸ Nat.one_pos))) := by rw [hw, flagSet_iff]; exact not_not.mpr h
      have h1 : flagClear (arg3.view.readAt (Elt F) (Rect.unit (s := S1) ![0] S1.size inb_S1_S1_0).toLoadRect (harg3.unread x0) (Shape.Idx.first (numel1_S1.symm ▸ Nat.one_pos))) := by rw [hw, flagClear_iff]; exact h
      have hr := (runOnline c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 g9 g13 g14 h0 h1).2 E K
      rw [canon_online] at hr
      rw [outBlock, if_pos h]
      exact hr
    · have h0 : flagSet (arg3.view.readAt (Elt F) (Rect.unit (s := S1) ![0] S1.size inb_S1_S1_0).toLoadRect (harg3.unread x0) (Shape.Idx.first (numel1_S1.symm ▸ Nat.one_pos))) := by rw [hw, flagSet_iff]; exact h
      have h1 : ¬flagClear (arg3.view.readAt (Elt F) (Rect.unit (s := S1) ![0] S1.size inb_S1_S1_0).toLoadRect (harg3.unread x0) (Shape.Idx.first (numel1_S1.symm ▸ Nat.one_pos))) := by rw [hw, flagClear_iff]; exact h
      have hr := (runPlain c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 g9 g13 g14 h0 h1).2 E K
      rw [canon_plain] at hr
      rw [outBlock, if_neg h]
      exact hr
  unfold owns at hr ⊢
  iintro ⟨H0, H1, H2, H3, H4, H5, H6, H7, H8, ⟨%d9, %f9, -, H9⟩, ⟨%d13, %f13, -, HS0⟩, ⟨%d14, %f14, -, HS1⟩, Hk⟩
  iapply (hr f9 f13 f14)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  iexact Hk
end Block

variable (m : (ℓ : Loc nD τ sig) → Buf (Elt F) ℓ) (ρ : Dev nD → PrngReg)

/-- The launch's invariant, with the two accumulators as memrefs owned at some contents. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- The proof data of the pipeline: after the body at point `t` each input's buffer holds its block, and the output's
    holds `outBlock` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlock (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outBlock (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' buffers hold their blocks, so `run_block` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_block c (grid0.coords t) _ _ _ _ _ _ _ _ _ _ _ _ _ _ _ _ _ _ _ _ _ _ _ _  (iblk m c 0 t) (iblk m c 1 t) (iblk m c 2 t) (iblk m c 3 t) (iblk m c 4 t) (iblk m c 5 t) (iblk m c 6 t) (iblk m c 7 t) (iblk m c 8 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  iintro ⟨H0, H1, H2, H3, H4, H5, H6, H7, H8, H9, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every run ends with each array as the pipeline leaves it, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- Every run ends with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.KernelIdeal.Gen

end
-- ==== Proof.DiffReal.lean ====
/-
  One block of the differential attention over the extended reals: where its queries, keys and values are real numbers, both
  bodies of the kernel leave the normalised difference of two softmax means.
-/
module

public import proofs.«01_k».proof.Proof.DiffPay
public import proofs.«01_k».proof.Proof.DiffFrame
public import Idealize.ShloMosaic.Lib.Pipeline.ValueKit

@[expose] public section

set_option maxRecDepth 16384
set_option maxHeartbeats 4000000

noncomputable section

namespace Cert.KernelIdeal.Gen

open Idealize.ShloMosaic Cert.DiffMath
open scoped BigOperators

section Reads
variable (x : Vec Ideal S4096x256 .bf16) (y : Vec Ideal S512x256 .bf16)

theorem chunkA_apply (k : Fin k0_t1_loop.trips) (j : Fin 2048) (d : Fin 256) (h : 2048 * k.val + j < 4096) :
    chunkA x k (ix2 j d) = x (ix2 ⟨2048 * k.val + j, h⟩ d) := by
  refine View.ld_unit_apply_of x _ _ _ _ _ fun a => ?_
  rw [show k0_off1 k a = ![2048 * k.val, 0] a from congrFun (k0_off1_eq k) a]
  fin_cases a
  · rfl
  · exact (Nat.zero_add _).symm

theorem chunkB_apply (k : Fin k0_t2_loop.trips) (j : Fin 2048) (d : Fin 256) (h : 2048 * k.val + j < 4096) :
    chunkB x k (ix2 j d) = x (ix2 ⟨2048 * k.val + j, h⟩ d) := by
  refine View.ld_unit_apply_of x _ _ _ _ _ fun a => ?_
  rw [show k0_off2 k a = ![2048 * k.val, 0] a from congrFun (k0_off2_eq k) a]
  fin_cases a
  · rfl
  · exact (Nat.zero_add _).symm

theorem qOne_apply (r : Fin 512) (d : Fin 128) : qOne y (ix2 r d) = y (ix2 r ⟨0 + d, by omega⟩) := by
  refine View.ld_unit_apply_of y _ _ _ _ _ fun a => ?_
  fin_cases a
  · exact (Nat.zero_add _).symm
  · rfl

theorem qTwo_apply (r : Fin 512) (d : Fin 128) : qTwo y (ix2 r d) = y (ix2 r ⟨128 + d, by omega⟩) := by
  refine View.ld_unit_apply_of y _ _ _ _ _ fun a => ?_
  fin_cases a
  · exact (Nat.zero_add _).symm
  · rfl
end Reads

section Block
variable (q : Fin 512 → Fin 256 → ℝ) (k v : Fin 4096 → Fin 256 → ℝ)
  (x1 : Vec Ideal S512x256 .bf16) (hq : ∀ r x, x1 (ix2 r x) = (q r x : EReal))
  (K V : Vec Ideal S2048x256 .bf16) (o : ℕ) (ho : o + 2048 ≤ 4096)
  (hK : ∀ (j : Fin 2048) x, K (ix2 j x) = (k ⟨o + j, by omega⟩ x : EReal)) (hV : ∀ (j : Fin 2048) x, V (ix2 j x) = (v ⟨o + j, by omega⟩ x : EReal))

include hq hK in
/-- The scores of one chunk of keys. -/
theorem score_coe (u : Fin 1024) (j : Fin 2048) :
    k0_pay15 (qOne x1) (qTwo x1) K (ix2 u j) = (stacked q k u ⟨o + j, by omega⟩ : EReal) := by
  rw [score_apply]
  unfold stacked score
  split
  · rw [coe_sum]
    refine Finset.sum_congr rfl fun x _ => ?_
    have e : (⟨0 + x, by omega⟩ : Fin 256) = ⟨x, by omega⟩ := Fin.ext (Nat.zero_add _)
    rw [qOne_apply, hq, hK, EReal.coe_mul, e]
  · rw [coe_sum]
    refine Finset.sum_congr rfl fun x _ => ?_
    rw [qTwo_apply, hq, hK, EReal.coe_mul]

include hq hK in
theorem weight_coe (u : Fin 1024) (j : Fin 2048) :
    k0_pay3 (qOne x1) (qTwo x1) K (ix2 u j) = (pow2 (stacked q k u ⟨o + j, by omega⟩) : EReal) := by
  rw [pay3_eq]
  show Ideal.exp2 (k0_pay15 (qOne x1) (qTwo x1) K (ix2 u j)) = _
  rw [score_coe q k x1 hq K o ho hK u j]
  rfl

include hq hK in
/-- The partial row sums gain the weights of the chunk. -/
theorem lanes_coe (u : Fin 1024) (s : Vec Ideal S1024x128 .f32) (L : ℝ) (hs : ∑ l, s (ix2 u l) = (L : EReal)) :
    ∑ l, k0_pay4 (qOne x1) (qTwo x1) K s (ix2 u l) = ((L + ∑ j : Fin 2048, pow2 (stacked q k u ⟨o + j, by omega⟩) : ℝ) : EReal) := by
  have e : ∀ l, k0_pay4 (qOne x1) (qTwo x1) K s (ix2 u l) = _ := fun l =>
    lanes_apply (qOne x1) (qTwo x1) K (fun j => if h : j < 2048 then pow2 (stacked q k u ⟨o + j, by omega⟩) else 0) u
      (fun j => by rw [weight_coe q k x1 hq K o ho hK u j, dif_pos j.isLt]) l s
  rw [Finset.sum_congr rfl fun l _ => e l, Finset.sum_add_distrib, hs, ← coe_sum, ← EReal.coe_add]
  exact congrArg (fun z : ℝ => ((L + z : ℝ) : EReal))
    ((sum_lanes fun j => if h : j < 2048 then pow2 (stacked q k u ⟨o + j, by omega⟩) else 0).trans (Finset.sum_congr rfl fun j _ => dif_pos j.isLt))

include hq hK hV in
/-- The weighted sums gain the chunk's. -/
theorem acc_coe (u : Fin 1024) (d : Fin 256) (s : Vec Ideal S1024x256 .f32) (A : ℝ) (hs : s (ix2 u d) = (A : EReal)) :
    k0_pay8 V (k0_pay5 (qOne x1) (qTwo x1) K) s (ix2 u d)
      = ((A + ∑ j : Fin 2048, pow2 (stacked q k u ⟨o + j, by omega⟩) * v ⟨o + j, by omega⟩ d : ℝ) : EReal) := by
  rw [acc_apply, hs, add_comm, EReal.coe_add, coe_sum]
  refine congrArg (fun z : EReal => (A : EReal) + z) (Finset.sum_congr rfl fun j _ => ?_)
  rw [hV, EReal.coe_mul, ← weight_coe q k x1 hq K o ho hK u j]
  rfl

/-- What the running maximum, the sum and the weighted sum of a row satisfy: scaled by any later maximum they are the true
    sums, scaled. -/
def Carried (m l : EReal) (L : ℝ) : Prop := (m = ⊥ ∨ ∃ M : ℝ, m = M) ∧ ∀ M : ℝ, Ideal.exp2 (m - (M : EReal)) * l = ((pow2 (-M) * L : ℝ) : EReal)

theorem carried_start : Carried ⊥ 0 0 := ⟨.inl rfl, fun M => by simp⟩

theorem carried_of (M : ℝ) (m l : EReal) (L : ℝ) (hm : m = M) (h : l = ((pow2 (-M) * L : ℝ) : EReal)) : Carried m l L :=
  ⟨.inr ⟨M, hm⟩, fun M' => by
    rw [hm, h, ← EReal.coe_sub]
    show ((pow2 (M - M') : ℝ) : EReal) * _ = _
    rw [← EReal.coe_mul]
    congr 1
    rw [← mul_assoc, ← pow2_add]
    congr 2
    ring⟩

include hq hK hV in
/-- One trip with a running maximum. -/
theorem step_coe (u : Fin 1024) (d : Fin 256) (m l : FVec Ideal S1024x1 .f32) (a : FVec Ideal S1024x256 .f32) (L A : ℝ)
    (hl : Carried (m (ix2 u 0)) (l (ix2 u 0)) L) (ha : Carried (m (ix2 u 0)) (a (ix2 u d)) A) :
    ∃ M : ℝ, k0_pay16 (qOne x1) (qTwo x1) m K (ix2 u 0) = (M : EReal)
      ∧ k0_pay19 (qOne x1) (qTwo x1) m l K (ix2 u 0) = ((pow2 (-M) * (L + ∑ j : Fin 2048, pow2 (stacked q k u ⟨o + j, by omega⟩)) : ℝ) : EReal)
      ∧ k0_pay20 (qOne x1) (qTwo x1) m a K V (ix2 u d)
          = ((pow2 (-M) * (A + ∑ j : Fin 2048, pow2 (stacked q k u ⟨o + j, by omega⟩) * v ⟨o + j, by omega⟩ d) : ℝ) : EReal) := by
  have hs := score_coe q k x1 hq K o ho hK u
  obtain ⟨M0, hM0⟩ := fold_max_coe fun j : Fin 2048 => stacked q k u ⟨o + j, by omega⟩
  have hm : ∃ M : ℝ, k0_pay16 (qOne x1) (qTwo x1) m K (ix2 u 0) = (M : EReal) := by
    rw [max_apply]
    simp only [hs, hM0]
    rcases hl.1 with h | ⟨M, h⟩
    · exact ⟨M0, by rw [h]; simp⟩
    · exact ⟨max M M0, by rw [h]; exact (EReal.coe_strictMono.monotone.map_max).symm⟩
  obtain ⟨M, hM⟩ := hm
  have he : ∀ j : Fin 2048, Ideal.exp2 (k0_pay15 (qOne x1) (qTwo x1) K (ix2 u j) - (M : EReal))
      = ((pow2 (-M) * pow2 (stacked q k u ⟨o + j, by omega⟩) : ℝ) : EReal) := fun j => by
    rw [hs, ← EReal.coe_sub]
    show ((pow2 (_ - M) : ℝ) : EReal) = _
    rw [pow2_sub, mul_comm]
  refine ⟨M, hM, ?_, ?_⟩
  · rw [sum_apply, hM, hl.2 M, Finset.sum_congr rfl fun j _ => he j, ← coe_sum, ← EReal.coe_add, ← Finset.mul_sum, ← mul_add]
  · rw [acc_online_apply, hM, ha.2 M, Finset.sum_congr rfl fun j _ => by rw [he j, hV j d, ← EReal.coe_mul], ← coe_sum, ← EReal.coe_add]
    rw [mul_add, Finset.mul_sum]
    exact congrArg (fun z : ℝ => ((pow2 (-M) * A + z : ℝ) : EReal)) (Finset.sum_congr rfl fun j _ => mul_assoc _ _ _)

end Block

section Out
variable (q : Fin 512 → Fin 256 → ℝ) (k v : Fin 4096 → Fin 256 → ℝ)
  (x1 : Vec Ideal S512x256 .bf16) (hq : ∀ r x, x1 (ix2 r x) = (q r x : EReal))
  (x2 x3 : Vec Ideal S4096x256 .bf16) (hk : ∀ j x, x2 (ix2 j x) = (k j x : EReal)) (hv : ∀ j x, x3 (ix2 j x) = (v j x : EReal))

theorem halves (f : Fin 4096 → ℝ) : 0 + ∑ j : Fin 2048, f ⟨0 + j, by omega⟩ + ∑ j : Fin 2048, f ⟨2048 + j, by omega⟩ = ∑ j, f j := by
  rw [zero_add]
  refine Eq.trans ?_ (sum_halves 2048 f).symm
  exact congrArg (fun z : ℝ => z + ∑ j : Fin 2048, f ⟨2048 + j, by omega⟩) (Finset.sum_congr rfl fun j _ => congrArg f (Fin.ext (Nat.zero_add _)))

include hq hk hv in
/-- The quotient that the loop without a running maximum leaves. -/
theorem quot_plain (u : Fin 1024) (d : Fin 256) :
    k0_pay9 (accPlain (qOne x1) (qTwo x1) x2 x3) (sumsPlain (qOne x1) (qTwo x1) x2) (ix2 u d)
      = (mean (stacked q k u) (fun j => v j d) : EReal) := by
  have hK0 : ∀ (j : Fin 2048) x, chunkA x2 a0 (ix2 j x) = (k ⟨0 + j, by omega⟩ x : EReal) := fun j x => by rw [chunkA_apply x2 a0 j x (show 2048 * 0 + j.val < 4096 by omega), hk]; rfl
  have hK1 : ∀ (j : Fin 2048) x, chunkA x2 a1 (ix2 j x) = (k ⟨2048 + j, by omega⟩ x : EReal) := fun j x => by rw [chunkA_apply x2 a1 j x (show 2048 * 1 + j.val < 4096 by omega), hk]; rfl
  have hV0 : ∀ (j : Fin 2048) x, chunkA x3 a0 (ix2 j x) = (v ⟨0 + j, by omega⟩ x : EReal) := fun j x => by rw [chunkA_apply x3 a0 j x (show 2048 * 0 + j.val < 4096 by omega), hv]; rfl
  have hV1 : ∀ (j : Fin 2048) x, chunkA x3 a1 (ix2 j x) = (v ⟨2048 + j, by omega⟩ x : EReal) := fun j x => by rw [chunkA_apply x3 a1 j x (show 2048 * 1 + j.val < 4096 by omega), hv]; rfl
  have hl := lanes_coe q k x1 hq _ 2048 (by omega) hK1 u _ _
    (lanes_coe q k x1 hq _ 0 (by omega) hK0 u (k0_pay7 (F := Ideal)) 0 (by simp only [zeros_lanes_apply]; simp))
  have ha := acc_coe q k v x1 hq _ _ 2048 (by omega) hK1 hV1 u d _ _
    (acc_coe q k v x1 hq _ _ 0 (by omega) hK0 hV0 u d (k0_pay6 (F := Ideal)) 0 (by rw [zeros_apply]; simp))
  rw [halves fun j => pow2 (stacked q k u j)] at hl
  rw [halves fun j => pow2 (stacked q k u j) * v j d] at ha
  rw [quot_apply]
  unfold accPlain sumsPlain
  rw [hl, ha]
  have h := div_mean (stacked q k u) (fun j => v j d) 1 one_pos
  rwa [one_mul, one_mul] at h

include hq hk hv in
/-- The quotient that the loop with a running maximum leaves. -/
theorem quot_online (u : Fin 1024) (d : Fin 256) :
    Ideal.div ((lastOnline (qOne x1) (qTwo x1) x2 x3).2.2 (ix2 u d)) ((lastOnline (qOne x1) (qTwo x1) x2 x3).2.1 (ix2 u 0))
      = (mean (stacked q k u) (fun j => v j d) : EReal) := by
  have hK0 : ∀ (j : Fin 2048) x, chunkB x2 b0 (ix2 j x) = (k ⟨0 + j, by omega⟩ x : EReal) := fun j x => by rw [chunkB_apply x2 b0 j x (show 2048 * 0 + j.val < 4096 by omega), hk]; rfl
  have hK1 : ∀ (j : Fin 2048) x, chunkB x2 b1 (ix2 j x) = (k ⟨2048 + j, by omega⟩ x : EReal) := fun j x => by rw [chunkB_apply x2 b1 j x (show 2048 * 1 + j.val < 4096 by omega), hk]; rfl
  have hV0 : ∀ (j : Fin 2048) x, chunkB x3 b0 (ix2 j x) = (v ⟨0 + j, by omega⟩ x : EReal) := fun j x => by rw [chunkB_apply x3 b0 j x (show 2048 * 0 + j.val < 4096 by omega), hv]; rfl
  have hV1 : ∀ (j : Fin 2048) x, chunkB x3 b1 (ix2 j x) = (v ⟨2048 + j, by omega⟩ x : EReal) := fun j x => by rw [chunkB_apply x3 b1 j x (show 2048 * 1 + j.val < 4096 by omega), hv]; rfl
  obtain ⟨M0, hm0, hl0, ha0⟩ := step_coe q k v x1 hq _ _ 0 (by omega) hK0 hV0 u d (k0_pay12 (F := Ideal)) (k0_pay13 (F := Ideal)) (k0_pay14 (F := Ideal)) 0 0
    (by rw [start_max_apply, start_sum_apply]; exact carried_start) (by rw [start_max_apply, start_acc_apply]; exact carried_start)
  obtain ⟨M1, hm1, hl1, ha1⟩ := step_coe q k v x1 hq _ _ 2048 (by omega) hK1 hV1 u d _ _ _ _ _
    (carried_of M0 _ _ _ hm0 hl0) (carried_of M0 _ _ _ hm0 ha0)
  rw [halves fun j => pow2 (stacked q k u j)] at hl1
  rw [halves fun j => pow2 (stacked q k u j) * v j d] at ha1
  unfold lastOnline stepOnline
  dsimp only
  rw [hl1, ha1]
  exact div_mean (stacked q k u) (fun j => v j d) _ (pow2_pos _)

variable (x4 x5 x6 x7 : Vec Ideal S1x128 .f32) (x8 : Vec Ideal S1x256 .f32)

/-- One element of the output block: the normalised difference of the two heads' softmax means. -/
def blockAt (r : Fin 512) (d : Fin 256) : EReal :=
  normed (fun x => (mean (score q k 0 (by omega) r) (fun j => v j x) : EReal)
      - lambda (fun x => x4 (ix2 0 x)) (fun x => x5 (ix2 0 x)) (fun x => x6 (ix2 0 x)) (fun x => x7 (ix2 0 x))
        * (mean (score q k 128 (by omega) r) (fun j => v j x) : EReal)) (x8 (ix2 0 d)) d

theorem stacked_one (r : Fin 512) : stacked q k ⟨r, by omega⟩ = score q k 0 (by omega) r := by
  funext j; unfold stacked; rw [dif_pos r.isLt]

theorem stacked_two (r : Fin 512) : stacked q k ⟨512 + r, by omega⟩ = score q k 128 (by omega) r := by
  funext j; unfold stacked
  rw [dif_neg (by simp)]
  congr 1
  exact Fin.ext (Nat.add_sub_cancel_left _ _)

include hq hk hv in
theorem outPlain_apply (r : Fin 512) (d : Fin 256) : outPlain x1 x2 x3 x4 x5 x6 x7 x8 (ix2 r d) = blockAt q k v x4 x5 x6 x7 x8 r d := by
  unfold outPlain blockAt
  rw [tail_apply, lambda_apply]
  simp only [top_apply, quot_plain q k v x1 hq x2 x3 hk hv, stacked_one, stacked_two]

include hq hk hv in
theorem outOnline_apply (r : Fin 512) (d : Fin 256) : outOnline x1 x2 x3 x4 x5 x6 x7 x8 (ix2 r d) = blockAt q k v x4 x5 x6 x7 x8 r d := by
  unfold outOnline blockAt
  rw [tail_online_apply]
  simp only [quot_online q k v x1 hq x2 x3 hk hv, stacked_one, stacked_two]

include hq hk hv in
/-- Whatever the flag, an element of the output block is `blockAt`. -/
theorem outBlock_apply (x0 : Vec Ideal S1 .i32) (r : Fin 512) (d : Fin 256) :
    outBlock x0 x1 x2 x3 x4 x5 x6 x7 x8 (ix2 r d) = blockAt q k v x4 x5 x6 x7 x8 r d := by
  unfold outBlock
  split
  · exact outOnline_apply q k v x1 hq x2 x3 hk hv x4 x5 x6 x7 x8 r d
  · exact outPlain_apply q k v x1 hq x2 x3 hk hv x4 x5 x6 x7 x8 r d
end Out

end Cert.KernelIdeal.Gen

end
-- ==== Proof.DiffArray.lean ====
/-
  The array that the differential attention kernel leaves: at every index `rowResult` of the arguments.
-/
module

public import proofs.«01_k».proof.Proof.DiffSpec
public import proofs.«01_k».proof.Proof.DiffReal
public import Idealize.ShloMosaic.Lib.Pipeline.ValueKit

@[expose] public section

set_option maxRecDepth 16384
set_option maxHeartbeats 1000000

noncomputable section

namespace Cert.KernelIdeal.Gen

open Idealize.ShloMosaic Idealize.ShloMosaic.TcCoe Cert.DiffMath
open Idealize.ShloMosaic.Pipeline (Dat Cfg Window)

variable (m : (ℓ : Loc nD τ sig) → Buf (Elt Ideal) ℓ)

/-- The block indices at grid point (sequence, head, query tile). -/
theorem idx : ∀ t : Fin cfg0.N,
    win0_1.index t = ![(grid0.coords t 0).val * 8 + (grid0.coords t 2).val, (grid0.coords t 1).val]
    ∧ win0_2.index t = ![(grid0.coords t 0).val, 4 + (grid0.coords t 1).val]
    ∧ win0_3.index t = ![(grid0.coords t 0).val, 14 + (grid0.coords t 1).val]
    ∧ win0_4.index t = ![0, 0] ∧ win0_5.index t = ![0, 0] ∧ win0_6.index t = ![0, 0] ∧ win0_7.index t = ![0, 0] ∧ win0_8.index t = ![0, 0]
    ∧ win0_9.index t = ![(grid0.coords t 0).val * 8 + (grid0.coords t 2).val, (grid0.coords t 1).val] := by
  decide +kernel

variable (c : Dev nD)
variable (Q : Fin 16384 → Fin 2048 → ℝ) (hQ : ∀ i n, m ((c.tc : Thread nD τ).loc main_arg1) (ix2 i n) = (Q i n : EReal))
variable (W : Fin 16384 → Fin 1024 → ℝ)
  (hW : ∀ (i : Fin 16384) (n : Fin 1024), m ((c.tc : Thread nD τ).loc main_arg2) (ix2 i (valueCol n)) = (W i n : EReal))

/-- The weight of the second softmax, of the arguments. -/
def lamOf : EReal :=
  lambda (fun x => m ((c.tc : Thread nD τ).loc main_arg3) (ix2 0 x)) (fun x => m ((c.tc : Thread nD τ).loc main_arg4) (ix2 0 x))
    (fun x => m ((c.tc : Thread nD τ).loc main_arg5) (ix2 0 x)) (fun x => m ((c.tc : Thread nD τ).loc main_arg6) (ix2 0 x))

/-- The kernel's result at an index. -/
def resultAt (i : Fin 16384) (n : Fin 1024) : EReal :=
  rowResult Q W (lamOf m c) (fun d => m ((c.tc : Thread nD τ).loc main_arg7) (ix2 0 d))
    (seqOf i) (posOf i) (headOf n) (dimOf n)

variable (t : Fin cfg0.N)

theorem whole4 : iblk m c 4 t = m ((c.tc : Thread nD τ).loc main_arg3) := by
  funext y; blk_ext [iblk, V_main_arg3, idx t]
theorem whole5 : iblk m c 5 t = m ((c.tc : Thread nD τ).loc main_arg4) := by
  funext y; blk_ext [iblk, V_main_arg4, idx t]
theorem whole6 : iblk m c 6 t = m ((c.tc : Thread nD τ).loc main_arg5) := by
  funext y; blk_ext [iblk, V_main_arg5, idx t]
theorem whole7 : iblk m c 7 t = m ((c.tc : Thread nD τ).loc main_arg6) := by
  funext y; blk_ext [iblk, V_main_arg6, idx t]
theorem whole8 : iblk m c 8 t = m ((c.tc : Thread nD τ).loc main_arg7) := by
  funext y; blk_ext [iblk, V_main_arg7, idx t]

theorem lt0 : (grid0.coords t 0).val < 4 := (grid0.coords t 0).isLt
theorem lt1 : (grid0.coords t 1).val < 4 := (grid0.coords t 1).isLt
theorem lt2 : (grid0.coords t 2).val < 8 := (grid0.coords t 2).isLt

/-- The query block of a grid point. -/
theorem query_read (r : Fin 512) (x : Fin 256) :
    iblk m c 1 t (ix2 r x) = m ((c.tc : Thread nD τ).loc main_arg1)
      (ix2 ⟨(grid0.coords t 0).val * 4096 + ((grid0.coords t 2).val * 512 + r.val), by have := lt0 t; have := lt2 t; omega⟩
        ⟨(grid0.coords t 1).val * 256 + x.val, by have := lt1 t; omega⟩) := by
  blk_ext [iblk, V_main_arg1, idx t]

/-- The key block. -/
theorem key_read (j : Fin 4096) (x : Fin 256) :
    iblk m c 2 t (ix2 j x) = m ((c.tc : Thread nD τ).loc main_arg1)
      (ix2 ⟨(grid0.coords t 0).val * 4096 + j.val, by have := lt0 t; omega⟩
        ⟨1024 + ((grid0.coords t 1).val * 256 + x.val), by have := lt1 t; omega⟩) := by
  blk_ext [iblk, V_main_arg1, idx t]

/-- The value block. -/
theorem value_read (j : Fin 4096) (x : Fin 256) :
    iblk m c 3 t (ix2 j x) = m ((c.tc : Thread nD τ).loc main_arg2)
      (ix2 ⟨(grid0.coords t 0).val * 4096 + j.val, by have := lt0 t; omega⟩
        ⟨3584 + ((grid0.coords t 1).val * 256 + x.val), by have := lt1 t; omega⟩) := by
  blk_ext [iblk, V_main_arg2, idx t]

include hQ hW in
/-- The output block of a grid point, at its place in the result. -/
theorem block_eq (r : Fin 512) (d : Fin 256) (i : Fin 16384) (n : Fin 1024)
    (hi : i.val = (grid0.coords t 0).val * 4096 + ((grid0.coords t 2).val * 512 + r.val))
    (hn : n.val = (grid0.coords t 1).val * 256 + d.val) :
    outBlock (iblk m c 0 t) (iblk m c 1 t) (iblk m c 2 t) (iblk m c 3 t) (iblk m c 4 t) (iblk m c 5 t) (iblk m c 6 t) (iblk m c 7 t) (iblk m c 8 t) (ix2 r d)
      = resultAt m c Q W i n := by
  have h0 := lt0 t
  have h1 := lt1 t
  have h2 := lt2 t
  rw [outBlock_apply
    (fun r x => Q ⟨(grid0.coords t 0).val * 4096 + ((grid0.coords t 2).val * 512 + r.val), by omega⟩ ⟨(grid0.coords t 1).val * 256 + x.val, by omega⟩)
    (fun j x => Q ⟨(grid0.coords t 0).val * 4096 + j.val, by omega⟩ ⟨1024 + ((grid0.coords t 1).val * 256 + x.val), by omega⟩)
    (fun j x => W ⟨(grid0.coords t 0).val * 4096 + j.val, by omega⟩ ⟨(grid0.coords t 1).val * 256 + x.val, by omega⟩)
    (iblk m c 1 t) (fun r x => (query_read m c t r x).trans (hQ _ _)) (iblk m c 2 t) (iblk m c 3 t)
    (fun j x => (key_read m c t j x).trans (hQ _ _))
    (fun j x => (value_read m c t j x).trans (hW ⟨_, by omega⟩ ⟨(grid0.coords t 1).val * 256 + x.val, by omega⟩))]
  rw [whole4, whole5, whole6, whole7, whole8]
  unfold resultAt
  rw [show seqOf i = ⟨(grid0.coords t 0).val, h0⟩ from Fin.ext (by show i.val / 4096 = (grid0.coords t 0).val; omega),
    show posOf i = ⟨(grid0.coords t 2).val * 512 + r.val, by omega⟩ from Fin.ext (by show i.val % 4096 = (grid0.coords t 2).val * 512 + r.val; omega),
    show headOf n = ⟨(grid0.coords t 1).val, h1⟩ from Fin.ext (by show n.val / 256 = (grid0.coords t 1).val; omega),
    show dimOf n = d from Fin.ext (by show n.val % 256 = d.val; omega)]
  unfold blockAt rowResult headMean lamOf
  have e : ∀ (o : ℕ) (ho : o + 128 ≤ 256) (g : Fin 8), g.val * 128 = (grid0.coords t 1).val * 256 + o →
      score (fun (r : Fin 512) (x : Fin 256) => Q ⟨(grid0.coords t 0).val * 4096 + ((grid0.coords t 2).val * 512 + r.val), by omega⟩ ⟨(grid0.coords t 1).val * 256 + x.val, by omega⟩)
        (fun (j : Fin 4096) (x : Fin 256) => Q ⟨(grid0.coords t 0).val * 4096 + j.val, by omega⟩ ⟨1024 + ((grid0.coords t 1).val * 256 + x.val), by omega⟩) o ho r
      = headScore Q ⟨(grid0.coords t 0).val, h0⟩ g ⟨(grid0.coords t 2).val * 512 + r.val, by omega⟩ := by
    intro o ho g hg
    funext j
    unfold score headScore
    refine Finset.sum_congr rfl fun y _ => congrArg₂ (· * ·) (congrArg _ (Fin.ext ?_)) (congrArg _ (Fin.ext ?_))
    · show (grid0.coords t 1).val * 256 + (o + y.val) = g.val * 128 + y.val; omega
    · show 1024 + ((grid0.coords t 1).val * 256 + (o + y.val)) = 1024 + (g.val * 128 + y.val); omega
  rw [e 0 (by omega) ⟨2 * (grid0.coords t 1).val + 0, by omega⟩ (by show (2 * (grid0.coords t 1).val + 0) * 128 = _; omega),
    e 128 (by omega) ⟨2 * (grid0.coords t 1).val + 1, by omega⟩ (by show (2 * (grid0.coords t 1).val + 1) * 128 = _; omega)]

include hQ hW in
/-- The result array after the run. -/
theorem array_eq : (dats m 0 c).arrAt 9 cfg0.N = fun y => resultAt m c Q W (y 0) (y 1) := by
  refine (dats m 0 c).arrAt_eq_of_covers 9 _ (by decide +kernel) fun t hf y => ?_
  blk_simp
  rw [after0_9]
  idx_vars y
  refine block_eq m c Q hQ W hW t _ _ _ _ ?_ ?_ <;> blk_simp [idx t] <;> omega

end Cert.KernelIdeal.Gen

end
-- ==== Proof.DiffRefRead.lean ====
/-
  The reference of the differential attention, read at an index: the steps that the general reading does not take.
-/
module

public import proofs.«01_k».proof.Proof.DiffMath
public import proofs.«01_k».proof.Proof.Gen.ReferenceIdeal.Read
public import Idealize.ShloMosaic.Lib.Pointwise

@[expose] public section

set_option maxRecDepth 16384
set_option maxHeartbeats 4000000

noncomputable section

namespace Cert.ReferenceIdeal.Read

open Idealize.ShloMosaic

variable (x1 : (⟨S16384x2048, .bf16⟩ : BufTy).Contents (Elt Ideal)) (x2 : (⟨S16384x19456, .bf16⟩ : BufTy).Contents (Elt Ideal)) (x3 x4 x5 x6 : (⟨S1x128, .f32⟩ : BufTy).Contents (Elt Ideal)) (x7 : (⟨S1x256, .f32⟩ : BufTy).Contents (Elt Ideal))

/-- The running maximum over the last axis of an array of reals is a real. -/
theorem reduce_max_real (x : S4x8x4096x4096.Idx → EReal) (f : S4x8x4096x4096.Idx → ℝ) (hx : ∀ i, x i = (f i : EReal))
    (init : S_.Idx → EReal) (hi : ∀ i, init i = ⊥)
    (h : S4x8x4096x4096.ReducesTo [3] S4x8x4096) (hu : 0 < S_.numel) (j : S4x8x4096.Idx) :
    ∃ M : ℝ, Host.reduce (fun a b : EReal => max a b) x init h hu j = (M : EReal) := by
  have hr : S4x8x4096x4096.Reduces [3] S4x8x4096 := ⟨rfl, Nat.one_pos.trans (by decide), h.2⟩
  rw [Host.reduce_eq_fold_single _ x init h hr hu j, hi]
  haveI : Nonempty (Fin (S4x8x4096x4096.size 3)) := ⟨(0 : Fin 4096)⟩
  obtain ⟨M, hM⟩ := Cert.DiffMath.fold_max_coe (fun k => f (hr.lift j k))
  exact ⟨M, (Finset.fold_congr fun k _ => hx _).trans hM⟩

/-- The reference's row maximum is a real where the scores are. -/
theorem max_real (f : S4x8x4096x4096.Idx → ℝ) (hx : ∀ i, val_main_v13 (F := Ideal) x1 i = (f i : EReal)) (j : S4x8x4096.Idx) :
    ∃ M : ℝ, val_main_v16 (F := Ideal) x1 j = (M : EReal) := by
  obtain ⟨M, hM⟩ := reduce_max_real (val_main_v13 (F := Ideal) x1) f hx (val_main_cst_0 (F := Ideal))
    (fun i => by rw [val_main_cst_0_apply]; simp [Ideal.ofBits, Ideal.ieee]) Gen.reducesTo_S4x8x4096x4096_S4x8x4096_d3 Gen.h_S_ j
  refine ⟨M, ?_⟩
  rw [val_main_v16_apply, show val_main_v14 (F := Ideal) x1 j = (M : EReal) from hM, val_main_v15_apply, val_main_cst_1_apply]
  show max (Ideal.ofBits .f32 0xFF800000#32) (M : EReal) = _
  rw [show Ideal.ofBits .f32 0xFF800000#32 = ⊥ by simp [Ideal.ofBits, Ideal.ieee]]
  exact max_eq_right bot_le

theorem half_idx (b g : Fin 4) (s k : Fin 4096) : idx_main_v35 (ix4 b g s k) = ix5 b g 0 s k := by
  funext a
  have hb := b.isLt
  have hg := g.isLt
  have hs := s.isLt
  have hk := k.isLt
  match a with
  | ⟨0, _⟩ => apply Fin.ext; show (((b.val * 4 + g.val) * 4096 + s.val) * 4096 + k.val) / 67108864 = b.val; omega
  | ⟨1, _⟩ => apply Fin.ext; show (((b.val * 4 + g.val) * 4096 + s.val) * 4096 + k.val) / 16777216 % 4 = g.val; omega
  | ⟨2, _⟩ => rfl
  | ⟨3, _⟩ => apply Fin.ext; show (((b.val * 4 + g.val) * 4096 + s.val) * 4096 + k.val) / 4096 % 4096 = s.val; omega
  | ⟨4, _⟩ => apply Fin.ext; show (((b.val * 4 + g.val) * 4096 + s.val) * 4096 + k.val) % 4096 = k.val; omega

theorem half_idx' (b g : Fin 4) (s k : Fin 4096) : idx_main_v37 (ix4 b g s k) = ix5 b g 0 s k := half_idx b g s k

theorem pair_idx (b g : Fin 4) (t : Fin 2) (s k : Fin 4096) : idx_main_v25 (ix5 b g t s k) = ix4 b ⟨2 * g.val + t.val, by omega⟩ s k := by
  funext a
  have hb := b.isLt
  have hg := g.isLt
  have hs := s.isLt
  have hk := k.isLt
  have ht := t.isLt
  match a with
  | ⟨0, _⟩ => apply Fin.ext; show ((((b.val * 4 + g.val) * 2 + t.val) * 4096 + s.val) * 4096 + k.val) / 134217728 = b.val; omega
  | ⟨1, _⟩ => apply Fin.ext; show ((((b.val * 4 + g.val) * 2 + t.val) * 4096 + s.val) * 4096 + k.val) / 16777216 % 8 = 2 * g.val + t.val; omega
  | ⟨2, _⟩ => apply Fin.ext; show ((((b.val * 4 + g.val) * 2 + t.val) * 4096 + s.val) * 4096 + k.val) / 4096 % 4096 = s.val; omega
  | ⟨3, _⟩ => apply Fin.ext; show ((((b.val * 4 + g.val) * 2 + t.val) * 4096 + s.val) * 4096 + k.val) % 4096 = k.val; omega

/-- The first half of the weights of head `g`: the softmax of head pair `g`'s first member. -/
theorem first_apply (b g : Fin 4) (s k : Fin 4096) :
    val_main_v35 (F := Ideal) x1 (ix4 b g s k) = val_main_v24 (F := Ideal) x1 (ix4 b ⟨2 * g.val + 0, by omega⟩ s k) := by
  rw [val_main_v35_apply, half_idx, val_main_v34_apply, val_main_v25_apply]
  exact congrArg _ (pair_idx b g 0 s k)

/-- The second half. -/
theorem second_apply (b g : Fin 4) (s k : Fin 4096) :
    val_main_v37 (F := Ideal) x1 (ix4 b g s k) = val_main_v24 (F := Ideal) x1 (ix4 b ⟨2 * g.val + 1, by omega⟩ s k) := by
  rw [val_main_v37_apply, half_idx', val_main_v36_apply, val_main_v25_apply]
  exact congrArg _ (pair_idx b g 1 s k)

/-- The queries. -/
theorem q_apply (b : Fin 4) (s : Fin 4096) (g : Fin 8) (d : Fin 128) :
    val_main_v2 (F := Ideal) x1 (ix4 b s g d) = x1 (ix2 ⟨b.val * 4096 + s.val, by omega⟩ ⟨g.val * 128 + d.val, by omega⟩) := by
  pointwise [val_main_v2, val_main_v1, val_main_v0]

/-- The keys. -/
theorem k_apply (b : Fin 4) (s : Fin 4096) (g : Fin 8) (d : Fin 128) :
    val_main_v5 (F := Ideal) x1 (ix4 b s g d) = x1 (ix2 ⟨b.val * 4096 + s.val, by omega⟩ ⟨1024 + (g.val * 128 + d.val), by omega⟩) := by
  pointwise [val_main_v5, val_main_v4, val_main_v3]

/-- The values. -/
theorem v_apply (b : Fin 4) (s : Fin 4096) (g : Fin 4) (d : Fin 256) :
    val_main_v8 (F := Ideal) x2 (ix4 b s g d) = x2 (ix2 ⟨b.val * 4096 + s.val, by omega⟩ ⟨3584 + (g.val * 256 + d.val), by omega⟩) := by
  pointwise [val_main_v8, val_main_v7, val_main_v6]

/-- The scores, in nats. -/
theorem score_apply (b : Fin 4) (s k : Fin 4096) (g : Fin 8) :
    val_main_v13 (F := Ideal) x1 (ix4 b g s k)
      = (∑ x, val_main_v2 (F := Ideal) x1 (ix4 b s g x) * val_main_v5 (F := Ideal) x1 (ix4 b k g x))
        * Ideal.log (Ideal.ofBits .f32 0x40000000#32) := by
  pointwise [val_main_v13, val_main_v12, val_main_v11, val_main_v10, val_main_v9, val_main_cst]
  rfl

/-- The softmax weights. -/
theorem weight_apply (b : Fin 4) (s k : Fin 4096) (g : Fin 8) :
    val_main_v24 (F := Ideal) x1 (ix4 b g s k)
      = Ideal.div (Ideal.exp (val_main_v13 (F := Ideal) x1 (ix4 b g s k) - val_main_v16 (F := Ideal) x1 (ix3 b g s)))
          (∑ x, Ideal.exp (val_main_v13 (F := Ideal) x1 (ix4 b g s x) - val_main_v16 (F := Ideal) x1 (ix3 b g s))) := by
  pointwise [val_main_v24, val_main_v23, val_main_v22, val_main_v21, val_main_v20, val_main_v19, val_main_v18, val_main_v17, val_main_cst_2]

/-- The weight of the second softmax. -/
theorem lam_apply (i : S_.Idx) :
    val_main_v33 (F := Ideal) x3 x4 x5 x6 i
      = Cert.DiffMath.lambda (fun x => x3 (ix2 0 x)) (fun x => x4 (ix2 0 x)) (fun x => x5 (ix2 0 x)) (fun x => x6 (ix2 0 x)) := by
  obtain rfl : i = ix0 := funext fun a => a.elim0
  pointwise [val_main_v33, val_main_v32, val_main_v31, val_main_v30, val_main_v29, val_main_v28, val_main_v27, val_main_v26, val_main_cst_3, val_main_cst_4, val_main_cst_5]
  simp only [Fin.sum_univ_one, Cert.DiffMath.lambda]
  done

/-- The difference of the two softmaxes. -/
theorem diff_apply (b g : Fin 4) (s k : Fin 4096) :
    val_main_v40 (F := Ideal) x1 x3 x4 x5 x6 (ix4 b g s k)
      = val_main_v24 (F := Ideal) x1 (ix4 b ⟨2 * g.val + 0, by omega⟩ s k)
        - Cert.DiffMath.lambda (fun x => x3 (ix2 0 x)) (fun x => x4 (ix2 0 x)) (fun x => x5 (ix2 0 x)) (fun x => x6 (ix2 0 x))
          * val_main_v24 (F := Ideal) x1 (ix4 b ⟨2 * g.val + 1, by omega⟩ s k) := by
  rw [val_main_v40_apply, val_main_v39_apply, val_main_v38_apply, first_apply, second_apply, lam_apply]
  rfl

/-- The attention's product with the values. -/
theorem out_apply (b : Fin 4) (s : Fin 4096) (g : Fin 4) (d : Fin 256) :
    val_main_v42 (F := Ideal) x1 x2 x3 x4 x5 x6 (ix4 b s g d)
      = ∑ x, val_main_v8 (F := Ideal) x2 (ix4 b x g d) * val_main_v40 (F := Ideal) x1 x3 x4 x5 x6 (ix4 b g s x) := by
  pointwise [val_main_v42, val_main_v41]

/-- The result: each row of each head normed by its root mean square. -/
theorem res_apply (i : Fin 16384) (n : Fin 1024) :
    val_main_v60 (F := Ideal) x1 x2 x3 x4 x5 x6 x7 (ix2 i n)
      = Cert.DiffMath.normed (fun x => val_main_v42 (F := Ideal) x1 x2 x3 x4 x5 x6 (ix4 ⟨i.val / 4096, by omega⟩ ⟨i.val % 4096, by omega⟩ ⟨n.val / 256, by omega⟩ x))
          (x7 (ix2 0 ⟨n.val % 256, by omega⟩)) ⟨n.val % 256, by omega⟩ := by
  unfold Cert.DiffMath.normed
  pointwise [val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_cst_6, val_main_cst_7, val_main_cst_8, val_main_cst_9]

end Cert.ReferenceIdeal.Read
-- ==== Proof.DiffRef.lean ====
/-
  The reference of the differential attention at an index, where the arguments are reals.
-/
module

public import proofs.«01_k».proof.Proof.DiffSpec
public import proofs.«01_k».proof.Proof.DiffRefRead

@[expose] public section

set_option maxHeartbeats 1000000

noncomputable section

namespace Cert.ReferenceIdeal.Read

open Idealize.ShloMosaic Cert.DiffMath

variable (x1 : (⟨S16384x2048, .bf16⟩ : BufTy).Contents (Elt Ideal)) (x2 : (⟨S16384x19456, .bf16⟩ : BufTy).Contents (Elt Ideal)) (x3 x4 x5 x6 : (⟨S1x128, .f32⟩ : BufTy).Contents (Elt Ideal)) (x7 : (⟨S1x256, .f32⟩ : BufTy).Contents (Elt Ideal))
variable (Q : Fin 16384 → Fin 2048 → ℝ) (hQ : ∀ i n, x1 (ix2 i n) = (Q i n : EReal))

/-- The logarithm of the literal two is `log 2`. -/
theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee, -EReal.coe_mul]; norm_num
  rw [h, Ideal.log_coe, if_neg (by norm_num)]

include hQ in
/-- The scores, in nats. -/
theorem score_real (b : Fin 4) (g : Fin 8) (s k : Fin 4096) :
    val_main_v13 (F := Ideal) x1 (ix4 b g s k) = ((headScore Q b g s k * Real.log 2 : ℝ) : EReal) := by
  rw [score_apply, log_two, EReal.coe_mul]
  unfold headScore
  rw [coe_sum]
  refine congrArg (fun z : EReal => z * ((Real.log 2 : ℝ) : EReal)) (Finset.sum_congr rfl fun y _ => ?_)
  rw [q_apply, k_apply, hQ, hQ, EReal.coe_mul]

/-- The softmax of reals in nats is the softmax of base two. -/
theorem softmax_real (f : Fin 4096 → ℝ) (M : ℝ) (k : Fin 4096) :
    Ideal.div (Ideal.exp (((f k * Real.log 2 : ℝ) : EReal) - (M : EReal))) (∑ x, Ideal.exp (((f x * Real.log 2 : ℝ) : EReal) - (M : EReal)))
      = ((pow2 (f k) / ∑ x, pow2 (f x) : ℝ) : EReal) := by
  have e : ∀ x, Ideal.exp (((f x * Real.log 2 : ℝ) : EReal) - (M : EReal)) = ((pow2 (f x) * Real.exp (-M) : ℝ) : EReal) := fun x => by
    rw [← EReal.coe_sub, Ideal.exp_coe, sub_eq_add_neg, Real.exp_add, exp_log2]
  simp only [e]
  have hp := weight_pos f
  have hM := Real.exp_pos (-M)
  rw [← coe_sum, ← Finset.sum_mul, Ideal.div_coe (mul_pos hp hM).ne', ← EReal.coe_mul]
  congr 1
  field_simp

include hQ in
/-- The softmax weights. -/
theorem weight_real (b : Fin 4) (g : Fin 8) (s k : Fin 4096) :
    val_main_v24 (F := Ideal) x1 (ix4 b g s k) = ((pow2 (headScore Q b g s k) / ∑ j, pow2 (headScore Q b g s j) : ℝ) : EReal) := by
  obtain ⟨M, hM⟩ := max_real x1 (fun i => headScore Q (i 0) (i 1) (i 2) (i 3) * Real.log 2)
    (fun i => (congrArg _ (eq_ix4 i)).trans (score_real x1 Q hQ _ _ _ _)) (ix3 b g s)
  rw [weight_apply, hM]
  simp only [score_real x1 Q hQ]
  exact softmax_real (headScore Q b g s) M k

variable (W : Fin 16384 → Fin 1024 → ℝ) (hW : ∀ (i : Fin 16384) (n : Fin 1024), x2 (ix2 i (valueCol n)) = (W i n : EReal))
variable (L : ℝ) (hL : lambda (fun x => x3 (ix2 0 x)) (fun x => x4 (ix2 0 x)) (fun x => x5 (ix2 0 x)) (fun x => x6 (ix2 0 x)) = (L : EReal))

include hQ hW hL in
/-- The attention before the norm. -/
theorem out_real (b : Fin 4) (s : Fin 4096) (h : Fin 4) (d : Fin 256) :
    val_main_v42 (F := Ideal) x1 x2 x3 x4 x5 x6 (ix4 b s h d)
      = (headMean Q W b ⟨2 * h.val + 0, by omega⟩ s h d : EReal) - (L : EReal) * (headMean Q W b ⟨2 * h.val + 1, by omega⟩ s h d : EReal) := by
  rw [out_apply]
  simp only [v_apply, diff_apply, hL, weight_real x1 Q hQ]
  rw [← EReal.coe_mul, ← EReal.coe_sub]
  unfold headMean
  rw [← sum_diff, coe_sum]
  refine Finset.sum_congr rfl fun j _ => ?_
  have e := hW ⟨b.val * 4096 + j.val, by omega⟩ ⟨h.val * 256 + d.val, by omega⟩
  unfold valueCol at e
  rw [← EReal.coe_mul, ← EReal.coe_sub, e, ← EReal.coe_mul, mul_comm]

include hQ hW hL in
/-- The reference's result at an index. -/
theorem res_real (i : Fin 16384) (n : Fin 1024) :
    val_main_v60 (F := Ideal) x1 x2 x3 x4 x5 x6 x7 (ix2 i n)
      = rowResult Q W (lambda (fun x => x3 (ix2 0 x)) (fun x => x4 (ix2 0 x)) (fun x => x5 (ix2 0 x)) (fun x => x6 (ix2 0 x)))
          (fun d => x7 (ix2 0 d)) (seqOf i) (posOf i) (headOf n) (dimOf n) := by
  rw [res_apply, hL]
  unfold rowResult
  refine congrArg (fun o => normed o _ _) (funext fun x => ?_)
  exact out_real x1 x2 x3 x4 x5 x6 Q hQ W hW L hL _ _ _ _

end Cert.ReferenceIdeal.Read

end
-- ==== Proof.DiffClaim.lean ====
/-
  The value claim of the differential attention: the kernel's result and the reference's are the same extended reals.
-/
module

public import proofs.«01_k».proof.Proof.DiffPre
public import proofs.«01_k».proof.Proof.DiffArray
public import proofs.«01_k».proof.Proof.DiffRef
public import Idealize.ShloMosaic.Lib.Claim

@[expose] public section

set_option maxHeartbeats 1000000

noncomputable section

namespace Cert.Proof.Diff

open Idealize.ShloMosaic Idealize.ShloMosaic.TcCoe Idealize.SL.Sem Cert.DiffMath

/-- The weight of the second softmax is a real where the lambda vectors are. -/
theorem lambda_real (a b c d : Fin 128 → EReal) (ha : ∀ x, ∃ r : ℝ, a x = (r : EReal)) (hb : ∀ x, ∃ r : ℝ, b x = (r : EReal))
    (hc : ∀ x, ∃ r : ℝ, c x = (r : EReal)) (hd : ∀ x, ∃ r : ℝ, d x = (r : EReal)) : ∃ L : ℝ, lambda a b c d = (L : EReal) := by
  choose a' ha using ha
  choose b' hb using hb
  choose c' hc using hc
  choose d' hd using hd
  obtain ⟨k, hk⟩ : ∃ k : ℝ, Ideal.ofBits .f32 0x3E4CCCCD#32 = (k : EReal) :=
    ⟨_, by simp [Ideal.ofBits, Ideal.ieee, -EReal.coe_mul]; rfl⟩
  refine ⟨Real.exp (∑ x, a' x * b' x) - Real.exp (∑ x, c' x * d' x) + k, ?_⟩
  unfold lambda
  simp only [ha, hb, hc, hd, hk]
  simp only [← EReal.coe_mul]
  rw [← coe_sum, ← coe_sum, Ideal.exp_coe, Ideal.exp_coe, ← EReal.coe_sub, ← EReal.coe_add]

/-- The kernel and the reference end with the same result. -/
theorem algebraic : Cert.algebraic_KernelIdeal_ReferenceIdeal_pre_finite := by
  pair_intro
  · run_from Cert.KernelIdeal.Gen.run_main m g
  · run_from Cert.ReferenceIdeal.Value.run m' g'
    obtain ⟨h1, h2, h3, h4, h5, h6⟩ := Cert.Pre_finite.reals _ _ _ _ _ _ _ _ (hpre c)
    choose Q hQ using fun (i : Fin 16384) (n : Fin 2048) => h1 (ix2 i n)
    choose W hW using h2
    obtain ⟨L, hL⟩ := lambda_real _ _ _ _ (fun x => h3 (ix2 0 x)) (fun x => h4 (ix2 0 x)) (fun x => h5 (ix2 0 x)) (fun x => h6 (ix2 0 x))
    obtain ⟨-, a1, a2, a3, a4, a5, a6, a7⟩ := hagree c
    refine Eq.trans ?_ (Cert.KernelIdeal.Gen.array_eq m c Q hQ W hW).symm
    rw [Cert.ReferenceIdeal.Read.val_main_v60_eq, a1, a2, a3, a4, a5, a6, a7]
    funext y
    refine (congrArg _ (eq_ix2 y)).trans ?_
    exact Cert.ReferenceIdeal.Read.res_real _ _ _ _ _ _ _ Q hQ W hW L hL _ _

/-- The reference ends with its arguments unchanged and every semaphore at zero. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Proof.Diff

end
-- ==== Proof.ProjRestClaim.lean ====
/-
  The value claim of the projection of the values and the gates: at every index the kernel's result and the reference's
  are the sum over the model's width of the normed row times the weight's column.
-/
module

public import proofs.«01_k».proof.Defs
public import proofs.«01_k».proof.Proof.Gen.ProjRestIdeal.Value
public import proofs.«01_k».proof.Proof.Gen.ProjRestReferenceIdeal.Read
public import Idealize.ShloMosaic.Lib.Pipeline.ValueKit
public import Idealize.ShloMosaic.Lib.Pipeline.Covers
public import Idealize.ShloMosaic.Lib.Claim

@[expose] public section

set_option maxRecDepth 16384
set_option maxHeartbeats 1000000

noncomputable section

namespace Cert.ProjRestIdeal.Gen

open Idealize.ShloMosaic Idealize.ShloMosaic.TcCoe Idealize.SL.Sem
open Idealize.ShloMosaic.Pipeline (Dat Cfg Window)

/-- The weight's column at the result's column `j`: the query and key columns of the first mixer come before. -/
def weightCol (j : Fin 19456) : Fin 22528 := ⟨3072 + j.val, by omega⟩

/-- The result at row `i` and column `j`. -/
def resultAt (a : S16384x4096.Idx → EReal) (b : S1x4096x22528.Idx → EReal) (i : Fin 16384) (j : Fin 19456) : EReal :=
  ∑ k : Fin 4096, a (ix2 i k) * b (ix3 0 k (weightCol j))

/-- The block indices at a grid point. -/
theorem idx : ∀ t : Fin cfg0.N,
    win0_0.index t = ![(grid0.coords t 0).val, 0]
    ∧ win0_1.index t = ![0, 0, 3 + (grid0.coords t 1).val]
    ∧ win0_2.index t = ![(grid0.coords t 0).val, (grid0.coords t 1).val] := by
  decide +kernel

/-- The body's block: the product of the two blocks. -/
theorem block_apply (x0 : Vec Ideal S1024x4096 .bf16) (x1 : Vec Ideal S1x4096x1024 .bf16) (r s : Fin 1024) :
    out0_2 x0 x1 (ix2 r s) = ∑ k : Fin 4096, x0 (ix2 r k) * x1 (ix3 0 k s) := by
  frame_out
  pointwise [k0_pay1]

variable (m : (ℓ : Loc nD τ sig) → Buf (Elt Ideal) ℓ) (c : Dev nD)

/-- The result array after the run. -/
theorem array_eq : (dats m 0 c).arrAt 2 cfg0.N
    = fun y => resultAt (m ((c.tc : Thread nD τ).loc main_arg0)) (m ((c.tc : Thread nD τ).loc main_arg1)) (y 0) (y 1) := by
  refine (dats m 0 c).arrAt_eq_of_covers 2 _ (by decide +kernel) fun t hf y => ?_
  blk_simp
  rw [after0_2]
  idx_vars y
  refine (block_apply _ _ _ _).trans (Finset.sum_congr rfl fun k _ => congrArg₂ (· * ·) ?_ ?_)
  · blk_ext [iblk, V_main_arg0, idx t]
  · blk_ext [iblk, V_main_arg1, idx t, weightCol]

end Cert.ProjRestIdeal.Gen

namespace Cert.ProjRestReferenceIdeal.Read

open Idealize.ShloMosaic Idealize.ShloMosaic.TcCoe

/-- The reference's result at an index. -/
theorem result_apply (a : (⟨S16384x4096, .bf16⟩ : BufTy).Contents (Elt Ideal)) (b : (⟨S1x4096x22528, .bf16⟩ : BufTy).Contents (Elt Ideal))
    (i : Fin 16384) (j : Fin 19456) : val_main_v5 (F := Ideal) a b (ix2 i j) = Cert.ProjRestIdeal.Gen.resultAt a b i j := by
  rw [val_main_v5_apply]
  refine (val_main_v4_apply a b (ix2 i j)).trans (Finset.sum_congr rfl fun k _ => ?_)
  rw [val_main_v3_apply, val_main_v2_apply, val_main_v1_apply]
  refine congrArg₂ (· * ·) (congrArg a (funext fun d => ?_)) (congrArg b (funext fun d => ?_))
  · fin_cases d <;> rfl
  · fin_cases d
    · rfl
    · refine Fin.ext ?_
      show (k.val * 19456 + j.val) / 19456 % 4096 = k.val
      omega
    · refine Fin.ext ?_
      show 3072 + (k.val * 19456 + j.val) % 19456 = 3072 + j.val
      omega

end Cert.ProjRestReferenceIdeal.Read

namespace Cert.Proof.ProjRest

open Idealize.ShloMosaic Idealize.ShloMosaic.TcCoe Idealize.SL.Sem

/-- The kernel and the reference end with the same result. -/
theorem algebraic : Cert.algebraic_ProjRestIdeal_ProjRestReferenceIdeal := by
  pair_intro
  · run_from Cert.ProjRestIdeal.Value.run_blocks m g
  · run_from Cert.ProjRestReferenceIdeal.Value.run m' g'
    refine Eq.trans ?_ (Cert.ProjRestIdeal.Gen.array_eq m c).symm
    rw [Cert.ProjRestReferenceIdeal.Read.val_main_v5_eq]
    funext y
    exact (congrArg _ (eq_ix2 y)).trans (Cert.ProjRestReferenceIdeal.Read.result_apply _ _ _ _)

/-- The reference ends with its arguments unchanged and every semaphore at zero. -/
theorem reference_frame : Cert.quiescent_ProjRestReferenceIdeal := fun m ρ _ =>
  (θ_run Cert.ProjRestReferenceIdeal.defs _ _).mono
    (fun r h => ⟨fun c => (h c).2, Idealize.ShloMosaic.sem_eq_zero_of_no_sems (by decide) r.2⟩)
    (Cert.ProjRestReferenceIdeal.Value.run (F := Ideal) m ρ)

end Cert.Proof.ProjRest

end
-- ==== Proof.MlpDownFrame.lean ====
/-
  The second feed-forward product: a grid point adds its product of blocks to the residual's block at the first of the
  four inner steps, and to what the output block holds at the others; and every run ends with the arguments unchanged.
-/
module

public import proofs.«01_k».proof.Proof.Gen.MlpDownIdeal.Frame
public import Idealize.ShloMosaic.Lib.Pipeline.Value
public import Idealize.ShloMosaic.Lib.VecWindow
public import Idealize.ShloMosaic.Lib.Claim

@[expose] public section

set_option maxRecDepth 16384
set_option maxHeartbeats 4000000

noncomputable section

namespace Cert.MlpDownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the runs: the generated launch's. -/
local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- Whether a grid point is the first of its four inner steps, as the kernel computes it. -/
def firstStep (i : grid0.Coords) : BitVec 1 := Scalar.cmpi .eq (BitVec.ofNat 32 (i 2).val) 0#32

/-- What a grid point leaves in the output block that held `d`. -/
def step (i : grid0.Coords) (x0 : Vec F S1024x4096 .bf16) (x1 : Vec F S1x4096x1024 .bf16) (x2 d : Vec F S1024x1024 .f32) : Vec F S1024x1024 .f32 :=
  addf (matmul dot_S1024x4096_S4096x1024_S1024x1024_1_0_0_1_n_n none x0 (shapeCast S4096x1024 x1 shapeCasts_S1x4096x1024_S4096x1024 : FVec F S4096x1024 .bf16) (constant S1024x1024 .f32 0x00000000#32))
    (Scalar.select (firstStep i) x2 (shapeCast S1024x1024 d shapeCasts_S1024x1024_S1024x1024))

/-- A store over a whole output block leaves no element out. -/
theorem cover_out (p : Vec F S1024x1024 .f32) (y : S1024x1024.Idx) :
    ∃ pc ∈ ([⟨Rect.unit (s := S1024x1024) ![0, 0] S1024x1024.size inb_S1024x1024_S1024x1024_0_0, p⟩] : List (View.Piece (Elt F) S1024x1024 .f32)), y ∈ pc.1.set :=
  View.cover_of_tiled [⟨Rect.unit (s := S1024x1024) ![0, 0] S1024x1024.size inb_S1024x1024_S1024x1024_0_0, p⟩] S1024x1024.size (by rfl) y

section Body
variable (c : Dev nD) (i : grid0.Coords)
  (arg3 : Memref sig .tc .vmem S1024x4096 .bf16) (harg3 : arg3.IsWhole)
  (arg4 : Memref sig .tc .vmem S1x4096x1024 .bf16) (harg4 : arg4.IsWhole)
  (arg5 : Memref sig .tc .vmem S1024x1024 .f32) (harg5 : arg5.IsWhole)
  (arg6 : Memref sig .tc .vmem S1024x1024 .f32) (harg6 : arg6.IsWhole)
  (x0 : Vec F S1024x4096 .bf16) (x1 : Vec F S1x4096x1024 .bf16) (x2 d : Vec F S1024x1024 .f32)

/-- One grid point, run: the pieces that it stores into the output block, found by the run. -/
def runPieces :
  { L : List (View.Piece (Elt F) S1024x1024 .f32) // ∀ (E : Set ℕ) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare d
        ∗ (iprop(owns (c : Thread nD τ) arg3 fullShare x0 ∗ owns (c : Thread nD τ) arg4 fullShare x1 ∗ owns (c : Thread nD τ) arg5 fullShare x2 ∗ owns (c : Thread nD τ) arg6 fullShare (View.canon L)) -∗ K ⟨⟩))
      ⊢ wp frame (wpE (defs₀ (F := F)) Variants.none c none) E (cc0_mlp_down i arg3 harg3 arg4 harg4 arg5 harg5 arg6 harg6) K } := by
  refine ⟨?_, fun E K => ?run⟩
  case run =>
    unfold cc0_mlp_down
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; isplitr; swap; · iexact H3
    ipureintro; exact View.read_writes_eq_canon _ _ _ (cover_out (F := F) _)

/-- Those pieces are one, the whole block, at `step`. -/
theorem canon_pieces : View.canon (runPieces c i arg3 harg3 arg4 harg4 arg5 harg5 arg6 harg6 x0 x1 x2 d).1 = step i x0 x1 x2 d := by
  unfold runPieces
  dsimp only
  sl_unfold_words
  rw [View.canon_unit_zero hz2]
  simp only [View.readAt_eq_ld, harg3.read_unread, harg4.read_unread, harg5.read_unread, harg6.read_unread]
  simp only [View.ld_unit_zero (S := S1024x4096) hz2, View.ld_unit_zero (S := S1x4096x1024) hz3, View.ld_unit_zero (S := S1024x1024) hz2]
  rfl

/-- One grid point: the output block ends at `step`. -/
theorem run_block (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare d
        ∗ (iprop(owns (c : Thread nD τ) arg3 fullShare x0 ∗ owns (c : Thread nD τ) arg4 fullShare x1 ∗ owns (c : Thread nD τ) arg5 fullShare x2 ∗ owns (c : Thread nD τ) arg6 fullShare (step i x0 x1 x2 d)) -∗ K ⟨⟩))
      ⊢ wp frame (wpE (defs₀ (F := F)) Variants.none c none) E (cc0_mlp_down i arg3 harg3 arg4 harg4 arg5 harg5 arg6 harg6) K := by
  have h := (runPieces c i arg3 harg3 arg4 harg4 arg5 harg5 arg6 harg6 x0 x1 x2 d).2 E K
  rw [canon_pieces] at h
  exact h
end Body

variable (m : (ℓ : Loc nD τ sig) → Buf (Elt F) ℓ) (ρ : Dev nD → PrngReg)

/-- What grid point `t` leaves in the output block that held `d`. -/
def stepAt (c : Dev nD) (t : Fin cfg0.N) (d : Vec F S1024x1024 .f32) : Vec F S1024x1024 .f32 :=
  step (grid0.coords t) (iblk m c 0 t) (iblk m c 1 t) (iblk m c 2 t) d

/-- What the output block holds after grid point `n`. -/
def held (c : Dev nD) : ℕ → Vec F S1024x1024 .f32
  | 0 => stepAt m c ⟨0, by decide⟩ (iblk m c 2 ⟨0, by decide⟩)
  | n + 1 => if h : n + 1 < cfg0.N then stepAt m c ⟨n + 1, h⟩ (held c n) else held c n

/-- The innermost coordinate of a grid point. -/
theorem coord2 : ∀ t : Fin cfg0.N, (grid0.coords t 2).val = t.val % 4 := by
  show ∀ t : Fin grid0.N, (grid0.coords t 2).val = t.val % 4
  decide +kernel

theorem firstStep_eq (t : Fin cfg0.N) : firstStep (grid0.coords t) = if t.val % 4 = 0 then 1#1 else 0#1 := by
  unfold firstStep
  rw [coord2]
  have h : t.val % 4 < 4 := Nat.mod_lt _ (by decide)
  generalize t.val % 4 = k at h
  exact (by decide : ∀ k < 4, Scalar.cmpi .eq (BitVec.ofNat 32 k) 0#32 = if k = 0 then 1#1 else 0#1) k h

/-- At a first inner step what the block held does not matter. -/
theorem stepAt_first (c : Dev nD) (t : Fin cfg0.N) (h : t.val % 4 = 0) (d d' : Vec F S1024x1024 .f32) :
    stepAt m c t d = stepAt m c t d' := by
  unfold stepAt step
  rw [firstStep_eq, if_pos h]
  rfl

/-- At a later point the block's contents follow from those after the point before. -/
theorem held_succ (c : Dev nD) (t : Fin cfg0.N) (h : t.val ≠ 0) : held m c t.val = stepAt m c t (held m c (t.val - 1)) := by
  obtain ⟨n, hn⟩ := t
  cases n with
  | zero => exact absurd rfl h
  | succ n => exact dif_pos hn

/-- The proof data of the pipeline: after the body at point `t` each input's buffer holds its block, and the output's
    holds `held` of the point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => held m c t.val
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = held m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body finds in the output block leads to what it leaves. -/
theorem held_eq (c : Dev nD) (t : Fin cfg0.N) (d) : stepAt m c t ((dats m 0 c).before 3 t d) = held m c t.val := by
  by_cases h : t.val % 4 = 0
  · by_cases h0 : t.val = 0
    · have e : t = ⟨0, by decide⟩ := Fin.ext h0
      subst e
      exact stepAt_first m c _ rfl _ _
    · rw [held_succ m c t h0]
      exact stepAt_first m c t h _ _
  · have h0 : t.val ≠ 0 := fun e => h (by rw [e])
    rw [held_succ m c t h0, (dats m 0 c).before_out_kept 3 rfl t h0 ?_ (fun _ => rfl) (fun _ _ => rfl), after0_3]
    refine Bool.eq_false_iff.mpr fun hf => ?_
    have := (flush0_3 _).mp hf
    dsimp only at this
    omega

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so `run_block` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨Hg, Ho, ⟨%d0, H0⟩, ⟨%d1, H1⟩, ⟨%d2, H2⟩, ⟨%d3, H3⟩⟩
  rw [← held_eq m c t d3]
  iapply (run_block c (grid0.coords t) _ _ _ _ _ _ _ _ (iblk m c 0 t) (iblk m c 1 t) (iblk m c 2 t) ((dats m 0 c).before 3 t d3) Set.univ _)
  isplitl [H0]; · iexact H0
  isplitl [H1]; · iexact H1
  isplitl [H2]; · iexact H2
  isplitl [H3]; · iexact H3
  iintro ⟨H0, H1, H2, H3⟩
  isplitl [Hg]; · iexact Hg
  isplitl [Ho]; · iexact Ho
  isplitl [H0]; · iexact H0
  isplitl [H1]; · iexact H1
  isplitl [H2]; · iexact H2
  iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every run ends with each array as the pipeline leaves it, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- Every run ends with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.MlpDownIdeal.Gen

end
-- ==== Proof.MlpDownClaim.lean ====
/-
  The value claim of the second feed-forward product: at every index the kernel's result and the reference's are the
  residual plus the sum over the feed-forward width of the activation times the weight.
-/
module

public import proofs.«01_k».proof.Defs
public import proofs.«01_k».proof.Proof.MlpDownFrame
public import proofs.«01_k».proof.Proof.Gen.MlpDownReferenceIdeal.Read
public import Idealize.ShloMosaic.Lib.Pipeline.ValueKit
public import Idealize.ShloMosaic.Lib.Pipeline.Covers
public import Idealize.ShloMosaic.Lib.Claim

@[expose] public section

set_option maxRecDepth 16384
set_option maxHeartbeats 1000000

noncomputable section

namespace Cert.MlpDownIdeal.Gen

open Idealize.ShloMosaic Idealize.ShloMosaic.TcCoe Idealize.SL.Sem
open Idealize.ShloMosaic.Pipeline (Dat Cfg Window)

section Spec
variable (u : S16384x16384.Idx → EReal) (w : S1x16384x4096.Idx → EReal) (x : S16384x4096.Idx → EReal) (i : Fin 16384) (j : Fin 4096)

/-- The result at row `i` and column `j`. -/
def resultAt : EReal := x (ix2 i j) + ∑ k : Fin 16384, u (ix2 i k) * w (ix3 0 k j)

/-- The `l`-th position of the `s`-th quarter of the feed-forward width. -/
def quarter (s : Fin 4) (l : Fin 4096) : Fin 16384 := ⟨s.val * 4096 + l.val, by omega⟩

/-- The part of the sum over one quarter of the feed-forward width. -/
def part (s : Fin 4) : EReal := ∑ l : Fin 4096, u (ix2 i (quarter s l)) * w (ix3 0 (quarter s l) j)

/-- The four parts and the residual, added in the kernel's order, are the result. -/
theorem parts_eq : part u w i j 3 + (part u w i j 2 + (part u w i j 1 + (part u w i j 0 + x (ix2 i j)))) = resultAt u w x i j := by
  unfold resultAt
  rw [← Fin.sum_mul_add_fin 4 4096 (fun k : Fin 16384 => u (ix2 i k) * w (ix3 0 k j)), Fin.sum_univ_four]
  show part u w i j 3 + (part u w i j 2 + (part u w i j 1 + (part u w i j 0 + x (ix2 i j))))
    = x (ix2 i j) + (part u w i j 0 + part u w i j 1 + part u w i j 2 + part u w i j 3)
  ac_rfl

end Spec

/-- The block indices at a grid point. -/
theorem idx : ∀ t : Fin cfg0.N,
    win0_0.index t = ![t.val / 16, t.val % 4]
    ∧ win0_1.index t = ![0, t.val % 4, t.val / 4 % 4]
    ∧ win0_2.index t = ![t.val / 16, t.val / 4 % 4]
    ∧ win0_3.index t = ![t.val / 16, t.val / 4 % 4] := by
  show ∀ t : Fin grid0.N, _
  decide +kernel

/-- One step's block at an index. -/
theorem step_apply (i : grid0.Coords) (x0 : Vec Ideal S1024x4096 .bf16) (x1 : Vec Ideal S1x4096x1024 .bf16)
    (x2 d : Vec Ideal S1024x1024 .f32) (r s : Fin 1024) :
    step i x0 x1 x2 d (ix2 r s)
      = (∑ l : Fin 4096, x0 (ix2 r l) * x1 (ix3 0 l s)) + (if firstStep i = 1#1 then x2 (ix2 r s) else d (ix2 r s)) := by
  unfold step
  generalize firstStep i = b
  by_cases h : b = 1#1
  · rw [if_pos h, show Scalar.select b x2 (shapeCast S1024x1024 d shapeCasts_S1024x1024_S1024x1024) = x2 from if_pos h]
    pointwise
  · rw [if_neg h, show Scalar.select b x2 (shapeCast S1024x1024 d shapeCasts_S1024x1024_S1024x1024)
      = shapeCast S1024x1024 d shapeCasts_S1024x1024_S1024x1024 from if_neg h]
    pointwise

variable (m : (ℓ : Loc nD τ sig) → Buf (Elt Ideal) ℓ) (c : Dev nD)

/-- What grid point `t` leaves at an index, in terms of the arguments. -/
theorem stepAt_apply (t : Fin cfg0.N) (d : Vec Ideal S1024x1024 .f32) (r s : Fin 1024) (i : Fin 16384) (j : Fin 4096) (k : Fin 4)
    (hi : i.val = t.val / 16 * 1024 + r.val) (hj : j.val = t.val / 4 % 4 * 1024 + s.val) (hk : k.val = t.val % 4) :
    stepAt m c t d (ix2 r s)
      = part (m ((c.tc : Thread nD τ).loc main_arg0)) (m ((c.tc : Thread nD τ).loc main_arg1)) i j k
        + (if k = 0 then m ((c.tc : Thread nD τ).loc main_arg2) (ix2 i j) else d (ix2 r s)) := by
  refine (step_apply _ _ _ _ _ _ _).trans (congrArg₂ (· + ·) (Finset.sum_congr rfl fun l _ => congrArg₂ (· * ·) ?_ ?_) ?_)
  · blk_ext [iblk, V_main_arg0, idx t, quarter, hi, hk]
  · blk_ext [iblk, V_main_arg1, idx t, quarter, hj, hk]
  · have e : (firstStep (grid0.coords t) = 1#1) ↔ k = 0 := by
      rw [firstStep_eq, ← hk]
      fin_cases k <;> simp
    refine if_congr e ?_ rfl
    blk_ext [iblk, V_main_arg2, idx t, hi, hj]

/-- What the output block holds after its last step. -/
theorem held_last (t : Fin cfg0.N) (ht : t.val % 4 = 3) (r s : Fin 1024) (i : Fin 16384) (j : Fin 4096)
    (hi : i.val = t.val / 16 * 1024 + r.val) (hj : j.val = t.val / 4 % 4 * 1024 + s.val) :
    held m c t.val (ix2 r s)
      = resultAt (m ((c.tc : Thread nD τ).loc main_arg0)) (m ((c.tc : Thread nD τ).loc main_arg1))
          (m ((c.tc : Thread nD τ).loc main_arg2)) i j := by
  have hN : t.val < 256 := t.isLt
  let p (n : ℕ) : Fin cfg0.N := ⟨t.val - n, lt_of_le_of_lt (Nat.sub_le _ _) t.isLt⟩
  have e (n : ℕ) (h : n < 3) : held m c (t.val - n) = stepAt m c (p n) (held m c (t.val - (n + 1))) :=
    held_succ m c (p n) (by show t.val - n ≠ 0; omega)
  have e3 : held m c (t.val - 3) = stepAt m c (p 3) (iblk m c 2 (p 3)) := by
    rw [← held_eq m c (p 3) (iblk m c 2 (p 3))]
    exact stepAt_first m c (p 3) (by show (t.val - 3) % 4 = 0; omega) _ _
  rw [show t.val = t.val - 0 from rfl, e 0 (by decide), e 1 (by decide), e 2 (by decide), e3]
  rw [stepAt_apply m c (p 0) _ r s i j 3 (by show _ = (t.val - 0) / 16 * 1024 + _; omega) (by show _ = (t.val - 0) / 4 % 4 * 1024 + _; omega) (by show 3 = (t.val - 0) % 4; omega),
    stepAt_apply m c (p 1) _ r s i j 2 (by show _ = (t.val - 1) / 16 * 1024 + _; omega) (by show _ = (t.val - 1) / 4 % 4 * 1024 + _; omega) (by show 2 = (t.val - 1) % 4; omega),
    stepAt_apply m c (p 2) _ r s i j 1 (by show _ = (t.val - 2) / 16 * 1024 + _; omega) (by show _ = (t.val - 2) / 4 % 4 * 1024 + _; omega) (by show 1 = (t.val - 2) % 4; omega),
    stepAt_apply m c (p 3) _ r s i j 0 (by show _ = (t.val - 3) / 16 * 1024 + _; omega) (by show _ = (t.val - 3) / 4 % 4 * 1024 + _; omega) (by show 0 = (t.val - 3) % 4; omega)]
  rw [if_neg (by decide), if_neg (by decide), if_neg (by decide), if_pos rfl]
  exact parts_eq _ _ _ i j

/-- The result array after the run. -/
theorem array_eq : (dats m 0 c).arrAt 3 cfg0.N
    = fun y => resultAt (m ((c.tc : Thread nD τ).loc main_arg0)) (m ((c.tc : Thread nD τ).loc main_arg1))
        (m ((c.tc : Thread nD τ).loc main_arg2)) (y 0) (y 1) := by
  refine (dats m 0 c).arrAt_eq_of_covers 3 _ (by decide +kernel) fun t hf y => ?_
  blk_simp
  rw [after0_3]
  idx_vars y
  refine held_last m c t ((flush0_3 t).mp hf) _ _ _ _ ?_ ?_ <;> blk_simp [idx t]

end Cert.MlpDownIdeal.Gen

namespace Cert.MlpDownReferenceIdeal.Read

open Idealize.ShloMosaic Idealize.ShloMosaic.TcCoe

/-- The reference's result at an index. -/
theorem result_apply (u : (⟨S16384x16384, .bf16⟩ : BufTy).Contents (Elt Ideal)) (w : (⟨S1x16384x4096, .bf16⟩ : BufTy).Contents (Elt Ideal))
    (x : (⟨S16384x4096, .f32⟩ : BufTy).Contents (Elt Ideal)) (i : Fin 16384) (j : Fin 4096) :
    val_main_v4 (F := Ideal) u w x (ix2 i j) = Cert.MlpDownIdeal.Gen.resultAt u w x i j := by
  rw [val_main_v4_apply]
  refine congrArg (x (ix2 i j) + ·) ((val_main_v3_apply u w (ix2 i j)).trans (Finset.sum_congr rfl fun k _ => ?_))
  rw [val_main_v2_apply, val_main_v1_apply]
  refine congrArg₂ (· * ·) (congrArg u (funext fun d => ?_)) (congrArg w (funext fun d => ?_))
  · fin_cases d <;> rfl
  · fin_cases d
    · rfl
    · exact Fin.ext (by show (k.val * 4096 + j.val) / 4096 % 16384 = k.val; omega)
    · exact Fin.ext (by show (k.val * 4096 + j.val) % 4096 = j.val; omega)

end Cert.MlpDownReferenceIdeal.Read

namespace Cert.Proof.MlpDown

open Idealize.ShloMosaic Idealize.ShloMosaic.TcCoe Idealize.SL.Sem

/-- The kernel and the reference end with the same result. -/
theorem algebraic : Cert.algebraic_MlpDownIdeal_MlpDownReferenceIdeal := by
  pair_intro
  · run_from Cert.MlpDownIdeal.Gen.run_main m g
  · run_from Cert.MlpDownReferenceIdeal.Value.run m' g'
    refine Eq.trans ?_ (Cert.MlpDownIdeal.Gen.array_eq m c).symm
    rw [Cert.MlpDownReferenceIdeal.Read.val_main_v4_eq]
    funext y
    exact (congrArg _ (eq_ix2 y)).trans (Cert.MlpDownReferenceIdeal.Read.result_apply _ _ _ _ _)

/-- The reference ends with its arguments unchanged and every semaphore at zero. -/
theorem reference_frame : Cert.quiescent_MlpDownReferenceIdeal := fun m ρ _ =>
  (θ_run Cert.MlpDownReferenceIdeal.defs _ _).mono
    (fun r h => ⟨fun c => (h c).2, Idealize.ShloMosaic.sem_eq_zero_of_no_sems (by decide) r.2⟩)
    (Cert.MlpDownReferenceIdeal.Value.run (F := Ideal) m ρ)

end Cert.Proof.MlpDown

end
-- ==== Proof.MlpUpClaim.lean ====
/-
  The value claim of the first half of the feed-forward part: at every index the kernel's result and the reference's are
  the squared positive part of the row's product with the weight, the row scaled by its reciprocal root mean square.
-/
module

public import proofs.«01_k».proof.Defs
public import proofs.«01_k».proof.Proof.Gen.MlpUpIdeal.Value
public import proofs.«01_k».proof.Proof.Gen.MlpUpReferenceIdeal.Read
public import Idealize.ShloMosaic.Lib.Pipeline.ValueKit
public import Idealize.ShloMosaic.Lib.Claim

@[expose] public section

set_option maxRecDepth 16384
set_option maxHeartbeats 1000000

noncomputable section

namespace Cert.MlpUpIdeal.Gen

open Idealize.ShloMosaic Idealize.ShloMosaic.TcCoe Idealize.SL.Sem
open Idealize.ShloMosaic.Pipeline (Dat Cfg Window)

/-- The reciprocal root mean square, from partial sums of a row's squares. -/
def rootScale (s : Fin 512 → EReal) : EReal :=
  Ideal.rsqrt ((∑ l, s l) * ((1 / 4096 : ℝ) : EReal) + Ideal.ofBits .f32 0x358637BD#32)

/-- One element: the product of a row and a column, scaled, its positive part squared. -/
def element (a b : Fin 4096 → EReal) (s : Fin 512 → EReal) : EReal :=
  max ((∑ k, a k * b k) * rootScale s) 0 * max ((∑ k, a k * b k) * rootScale s) 0

/-- The result at row `i` and column `j`. -/
def resultAt (a : S16384x4096.Idx → EReal) (b : S1x4096x16384.Idx → EReal) (s : S16384x512.Idx → EReal)
    (i j : Fin 16384) : EReal :=
  element (fun k => a (ix2 i k)) (fun k => b (ix3 0 k j)) (fun l => s (ix2 i l))

/-- The block indices at a grid point. -/
theorem idx : ∀ t : Fin cfg0.N,
    win0_0.index t = ![(grid0.coords t 0).val, 0]
    ∧ win0_1.index t = ![0, 0, (grid0.coords t 1).val]
    ∧ win0_2.index t = ![(grid0.coords t 0).val, 0]
    ∧ win0_3.index t = ![(grid0.coords t 0).val, (grid0.coords t 1).val] := by
  decide +kernel

/-- The reciprocal of the model's width, as the kernel multiplies by it. -/
theorem width_inv : Ideal.ofBits .f32 0x39800000#32 = ((1 / 4096 : ℝ) : EReal) := by
  simp [Ideal.ofBits, Ideal.ieee, -EReal.coe_mul]; norm_num

/-- The model's width, as the reference divides by it. -/
theorem width : Ideal.ofBits .f32 0x45800000#32 = ((4096 : ℝ) : EReal) := by
  simp [Ideal.ofBits, Ideal.ieee, -EReal.coe_mul]; norm_num

/-- The body's block. -/
theorem block_apply (x0 : Vec Ideal S1024x4096 .bf16) (x1 : Vec Ideal S1x4096x1024 .bf16) (x2 : Vec Ideal S1024x512 .f32) (r s : Fin 1024) :
    out0_3 x0 x1 x2 (ix2 r s) = element (fun k => x0 (ix2 r k)) (fun k => x1 (ix3 0 k s)) (fun l => x2 (ix2 r l)) := by
  frame_out
  pointwise [k0_pay1]
  rw [width_inv]
  rfl

variable (m : (ℓ : Loc nD τ sig) → Buf (Elt Ideal) ℓ) (c : Dev nD)

/-- The result array after the run. -/
theorem array_eq : (dats m 0 c).arrAt 3 cfg0.N
    = fun y => resultAt (m ((c.tc : Thread nD τ).loc main_arg0)) (m ((c.tc : Thread nD τ).loc main_arg1))
        (m ((c.tc : Thread nD τ).loc main_arg2)) (y 0) (y 1) := by
  refine (dats m 0 c).arrAt_eq_of_covers 3 _ (by decide +kernel) fun t hf y => ?_
  blk_simp
  rw [after0_3]
  idx_vars y
  refine (block_apply _ _ _ _ _).trans ?_
  unfold resultAt
  congr 1
  · funext k; blk_ext [iblk, V_main_arg0, idx t]
  · funext k; blk_ext [iblk, V_main_arg1, idx t]
  · funext k; blk_ext [iblk, V_main_arg2, idx t]

end Cert.MlpUpIdeal.Gen

namespace Cert.MlpUpReferenceIdeal.Read

open Idealize.ShloMosaic Idealize.ShloMosaic.TcCoe

/-- The reference's scale of a row. -/
theorem scale_apply (s : (⟨S16384x512, .f32⟩ : BufTy).Contents (Elt Ideal)) (i : Fin 16384) (j : Fin 16384) :
    val_main_v11 (F := Ideal) s (ix2 i j) = Cert.MlpUpIdeal.Gen.rootScale (fun l => s (ix2 i l)) := by
  rw [val_main_v11_apply, val_main_v10_apply, val_main_v9_apply, val_main_v3_apply, val_main_v1_apply, val_main_v0_apply,
    val_main_v2_apply, val_main_v8_apply]
  show Ideal.rsqrt (Ideal.div (Ideal.ofBits .f32 0x00000000#32 + _) (Ideal.ofBits .f32 0x45800000#32) + Ideal.ofBits .f32 0x358637BD#32) = _
  rw [Cert.MlpUpIdeal.Gen.width, Ideal.div_coe (by norm_num), show Ideal.ofBits .f32 0x00000000#32 = 0 by simp [Ideal.ofBits, Ideal.ieee], zero_add]
  unfold Cert.MlpUpIdeal.Gen.rootScale
  refine congrArg (fun z => Ideal.rsqrt (z * _ + _)) (Finset.sum_congr rfl fun k _ => congrArg s (funext fun d => ?_))
  fin_cases d <;> rfl

/-- The reference's product at an index. -/
theorem product_apply (a : (⟨S16384x4096, .bf16⟩ : BufTy).Contents (Elt Ideal)) (b : (⟨S1x4096x16384, .bf16⟩ : BufTy).Contents (Elt Ideal))
    (i j : Fin 16384) : val_main_v7 (F := Ideal) a b (ix2 i j) = ∑ k : Fin 4096, a (ix2 i k) * b (ix3 0 k j) := by
  refine (val_main_v7_apply a b (ix2 i j)).trans (Finset.sum_congr rfl fun k _ => ?_)
  rw [val_main_v6_apply, val_main_v5_apply]
  refine congrArg₂ (· * ·) (congrArg a (funext fun d => ?_)) (congrArg b (funext fun d => ?_))
  · fin_cases d <;> rfl
  · fin_cases d
    · rfl
    · refine Fin.ext ?_
      show (k.val * 16384 + j.val) / 16384 % 4096 = k.val
      omega
    · refine Fin.ext ?_
      show (k.val * 16384 + j.val) % 16384 = j.val
      omega

/-- The reference's result at an index. -/
theorem result_apply (a : (⟨S16384x4096, .bf16⟩ : BufTy).Contents (Elt Ideal)) (b : (⟨S1x4096x16384, .bf16⟩ : BufTy).Contents (Elt Ideal))
    (s : (⟨S16384x512, .f32⟩ : BufTy).Contents (Elt Ideal)) (i j : Fin 16384) :
    val_main_v16 (F := Ideal) a b s (ix2 i j) = Cert.MlpUpIdeal.Gen.resultAt a b s i j := by
  rw [val_main_v16_apply, val_main_v15_apply, val_main_v14_apply, val_main_v12_apply, val_main_v13_apply, scale_apply, product_apply]
  show max _ (Ideal.ofBits .f32 0x00000000#32) * max _ (Ideal.ofBits .f32 0x00000000#32) = _
  rw [show Ideal.ofBits .f32 0x00000000#32 = 0 by simp [Ideal.ofBits, Ideal.ieee]]
  rfl

end Cert.MlpUpReferenceIdeal.Read

namespace Cert.Proof.MlpUp

open Idealize.ShloMosaic Idealize.ShloMosaic.TcCoe Idealize.SL.Sem

/-- The kernel and the reference end with the same result. -/
theorem algebraic : Cert.algebraic_MlpUpIdeal_MlpUpReferenceIdeal := by
  pair_intro
  · run_from Cert.MlpUpIdeal.Value.run_blocks m g
  · run_from Cert.MlpUpReferenceIdeal.Value.run m' g'
    refine Eq.trans ?_ (Cert.MlpUpIdeal.Gen.array_eq m c).symm
    rw [Cert.MlpUpReferenceIdeal.Read.val_main_v16_eq]
    funext y
    exact (congrArg _ (eq_ix2 y)).trans (Cert.MlpUpReferenceIdeal.Read.result_apply _ _ _ _ _)

/-- The reference ends with its arguments unchanged and every semaphore at zero. -/
theorem reference_frame : Cert.quiescent_MlpUpReferenceIdeal := fun m ρ _ =>
  (θ_run Cert.MlpUpReferenceIdeal.defs _ _).mono
    (fun r h => ⟨fun c => (h c).2, Idealize.ShloMosaic.sem_eq_zero_of_no_sems (by decide) r.2⟩)
    (Cert.MlpUpReferenceIdeal.Value.run (F := Ideal) m ρ)

end Cert.Proof.MlpUp

end
-- ==== Proof.ProjOutClaim.lean ====
/-
  The value claim of the output projection: the kernel's three results and the reference's are the residual row plus the
  product with the weight, the same rounded, and the partial sums of its squares that the next norm takes.
-/
module

public import proofs.«01_k».proof.Defs
public import proofs.«01_k».proof.Proof.Gen.ProjOutIdeal.Value
public import proofs.«01_k».proof.Proof.Gen.ProjOutReferenceIdeal.Read
public import Idealize.ShloMosaic.Lib.Pipeline.ValueKit
public import Idealize.ShloMosaic.Lib.IdealHost
public import Idealize.ShloMosaic.Lib.Claim

@[expose] public section

set_option maxRecDepth 16384
set_option maxHeartbeats 1000000

noncomputable section

namespace Cert.ProjOutIdeal.Gen

open Idealize.ShloMosaic Idealize.ShloMosaic.TcCoe Idealize.SL.Sem
open Idealize.ShloMosaic.Pipeline (Dat Cfg Window)

/-- One element: the residual plus the product of a row and a column. -/
def element (a b : Fin 4096 → EReal) (x : EReal) : EReal := x + ∑ k, a k * b k

/-- The first two results at row `i` and column `j`. -/
def resultAt (a : S16384x4096.Idx → EReal) (b : S1x4096x4096.Idx → EReal) (x : S16384x4096.Idx → EReal)
    (i : Fin 16384) (j : Fin 4096) : EReal :=
  element (fun k => a (ix2 i k)) (fun k => b (ix3 0 k j)) (x (ix2 i j))

/-- The `l`-th of the eight columns whose squares partial sum `j` takes. -/
def foldCol (j : Fin 512) (l : Fin 8) : Fin 4096 := ⟨j.val / 128 * 1024 + (l.val * 128 + j.val % 128), by omega⟩

/-- The third result at row `i` and partial sum `j`. -/
def squaresAt (a : S16384x4096.Idx → EReal) (b : S1x4096x4096.Idx → EReal) (x : S16384x4096.Idx → EReal)
    (i : Fin 16384) (j : Fin 512) : EReal :=
  ∑ l : Fin 8, resultAt a b x i (foldCol j l) * resultAt a b x i (foldCol j l)

/-- The block indices at a grid point. -/
theorem idx : ∀ t : Fin cfg0.N,
    win0_0.index t = ![(grid0.coords t 0).val, 0]
    ∧ win0_1.index t = ![0, 0, (grid0.coords t 1).val]
    ∧ win0_2.index t = ![(grid0.coords t 0).val, (grid0.coords t 1).val]
    ∧ win0_3.index t = ![(grid0.coords t 0).val, (grid0.coords t 1).val]
    ∧ win0_4.index t = ![(grid0.coords t 0).val, (grid0.coords t 1).val]
    ∧ win0_5.index t = ![(grid0.coords t 0).val, (grid0.coords t 1).val] := by
  decide +kernel

section Block
variable (x0 : Vec Ideal S1024x4096 .bf16) (x1 : Vec Ideal S1x4096x1024 .bf16) (x2 : Vec Ideal S1024x1024 .f32)

/-- The body's sum of the residual and the product. -/
theorem sum_apply (r s : Fin 1024) :
    k0_pay1 x0 x1 x2 (ix2 r s) = element (fun k => x0 (ix2 r k)) (fun k => x1 (ix3 0 k s)) (x2 (ix2 r s)) := by
  pointwise [k0_pay1]
  exact add_comm (G := EReal) _ _

/-- The body's first block. -/
theorem block3_apply (r s : Fin 1024) :
    out0_3 x0 x1 x2 (ix2 r s) = element (fun k => x0 (ix2 r k)) (fun k => x1 (ix3 0 k s)) (x2 (ix2 r s)) := by
  frame_out
  exact sum_apply x0 x1 x2 r s

/-- The body's second block. -/
theorem block4_apply (r s : Fin 1024) :
    out0_4 x0 x1 x2 (ix2 r s) = element (fun k => x0 (ix2 r k)) (fun k => x1 (ix3 0 k s)) (x2 (ix2 r s)) := by
  frame_out
  pointwise [k0_pay2]
  exact sum_apply x0 x1 x2 r s

/-- The `l`-th of the eight columns of a block whose squares lane `s` takes. -/
def laneCol (s : Fin 128) (l : Fin 8) : Fin 1024 := ⟨l.val * 128 + s.val, by omega⟩

/-- The body's third block. -/
theorem block5_apply (r : Fin 1024) (s : Fin 128) :
    out0_5 x0 x1 x2 (ix2 r s) = ∑ l : Fin 8,
      element (fun k => x0 (ix2 r k)) (fun k => x1 (ix3 0 k (laneCol s l))) (x2 (ix2 r (laneCol s l)))
        * element (fun k => x0 (ix2 r k)) (fun k => x1 (ix3 0 k (laneCol s l))) (x2 (ix2 r (laneCol s l))) := by
  frame_out
  simp only [← sum_apply]
  rw [Fin.sum_univ_eight]
  unfold k0_pay3
  generalize k0_pay1 x0 x1 x2 = w
  pointwise
  simp [laneCol]

end Block

variable (m : (ℓ : Loc nD τ sig) → Buf (Elt Ideal) ℓ) (c : Dev nD)

/-- The first result array after the run. -/
theorem array3_eq : (dats m 0 c).arrAt 3 cfg0.N
    = fun y => resultAt (m ((c.tc : Thread nD τ).loc main_arg0)) (m ((c.tc : Thread nD τ).loc main_arg1))
        (m ((c.tc : Thread nD τ).loc main_arg2)) (y 0) (y 1) := by
  refine (dats m 0 c).arrAt_eq_of_covers 3 _ (by decide +kernel) fun t hf y => ?_
  blk_simp
  rw [after0_3]
  idx_vars y
  refine (block3_apply _ _ _ _ _).trans ?_
  unfold resultAt
  congr 1
  · funext k; blk_ext [iblk, V_main_arg0, idx t]
  · funext k; blk_ext [iblk, V_main_arg1, idx t]
  · blk_ext [iblk, V_main_arg2, idx t]

/-- The second result array after the run. -/
theorem array4_eq : (dats m 0 c).arrAt 4 cfg0.N
    = fun y => resultAt (m ((c.tc : Thread nD τ).loc main_arg0)) (m ((c.tc : Thread nD τ).loc main_arg1))
        (m ((c.tc : Thread nD τ).loc main_arg2)) (y 0) (y 1) := by
  refine (dats m 0 c).arrAt_eq_of_covers 4 _ (by decide +kernel) fun t hf y => ?_
  blk_simp
  rw [after0_4]
  idx_vars y
  refine (block4_apply _ _ _ _ _).trans ?_
  unfold resultAt
  congr 1
  · funext k; blk_ext [iblk, V_main_arg0, idx t]
  · funext k; blk_ext [iblk, V_main_arg1, idx t]
  · blk_ext [iblk, V_main_arg2, idx t]

/-- The third result array after the run. -/
theorem array5_eq : (dats m 0 c).arrAt 5 cfg0.N
    = fun y => squaresAt (m ((c.tc : Thread nD τ).loc main_arg0)) (m ((c.tc : Thread nD τ).loc main_arg1))
        (m ((c.tc : Thread nD τ).loc main_arg2)) (y 0) (y 1) := by
  refine (dats m 0 c).arrAt_eq_of_covers 5 _ (by decide +kernel) fun t hf y => ?_
  blk_simp
  rw [after0_5]
  idx_vars y
  refine (block5_apply _ _ _ _ _).trans (Finset.sum_congr rfl fun l _ => ?_)
  refine congrArg (fun z : EReal => z * z) ?_
  unfold resultAt
  congr 1
  · funext k; blk_ext [iblk, V_main_arg0, idx t]
  · funext k; blk_ext [iblk, V_main_arg1, idx t, foldCol, laneCol]
  · blk_ext [iblk, V_main_arg2, idx t, foldCol, laneCol]

end Cert.ProjOutIdeal.Gen

namespace Cert.ProjOutReferenceIdeal.Read

open Idealize.ShloMosaic Idealize.ShloMosaic.TcCoe

section Reference
variable (a : (⟨S16384x4096, .bf16⟩ : BufTy).Contents (Elt Ideal)) (b : (⟨S1x4096x4096, .bf16⟩ : BufTy).Contents (Elt Ideal))
  (x : (⟨S16384x4096, .f32⟩ : BufTy).Contents (Elt Ideal)) (i : Fin 16384)

/-- The reference's first result at an index. -/
theorem result_apply (j : Fin 4096) : val_main_v4 (F := Ideal) a b x (ix2 i j) = Cert.ProjOutIdeal.Gen.resultAt a b x i j := by
  rw [val_main_v4_apply]
  refine congrArg (x (ix2 i j) + ·) ((val_main_v3_apply a b (ix2 i j)).trans (Finset.sum_congr rfl fun k _ => ?_))
  rw [val_main_v2_apply, val_main_v1_apply]
  refine congrArg₂ (· * ·) (congrArg a (funext fun d => ?_)) (congrArg b (funext fun d => ?_))
  · fin_cases d <;> rfl
  · fin_cases d
    · rfl
    · exact Fin.ext (by show (k.val * 4096 + j.val) / 4096 % 4096 = k.val; omega)
    · exact Fin.ext (by show (k.val * 4096 + j.val) % 4096 = j.val; omega)

/-- The reference's second result at an index. -/
theorem rounded_apply (j : Fin 4096) : val_main_v9 (F := Ideal) a b x (ix2 i j) = Cert.ProjOutIdeal.Gen.resultAt a b x i j :=
  result_apply a b x i j

/-- The reference's third result at an index. -/
theorem squares_apply (j : Fin 512) : val_main_v8 (F := Ideal) a b x (ix2 i j) = Cert.ProjOutIdeal.Gen.squaresAt a b x i j := by
  rw [val_main_v8_apply, val_main_v7_apply]
  refine (congrArg (· + _) (show val_main_cst (F := Ideal) _ = 0 by rw [val_main_cst_apply]; exact Ideal.ofBits_zero_f32)).trans ((zero_add _).trans ?_)
  refine Finset.sum_congr rfl fun l _ => ?_
  rw [val_main_v6_apply, val_main_v5_apply]
  have e : idx_main_v6 (idx_main_v7 (idx_main_v8 (ix2 i j)) l) = ix2 i (Cert.ProjOutIdeal.Gen.foldCol j l) := by
    funext d
    fin_cases d
    · exact Fin.ext (by
        show ((((i.val * 512 + j.val) / 512 * 4 + (i.val * 512 + j.val) / 128 % 4) * 8 + l.val) * 128 + (i.val * 512 + j.val) % 128) / 4096 = i.val
        omega)
    · exact Fin.ext (by
        show ((((i.val * 512 + j.val) / 512 * 4 + (i.val * 512 + j.val) / 128 % 4) * 8 + l.val) * 128 + (i.val * 512 + j.val) % 128) % 4096
          = j.val / 128 * 1024 + (l.val * 128 + j.val % 128)
        omega)
  rw [e, result_apply]
  rfl

end Reference

end Cert.ProjOutReferenceIdeal.Read

namespace Cert.Proof.ProjOut

open Idealize.ShloMosaic Idealize.ShloMosaic.TcCoe Idealize.SL.Sem

/-- The kernel and the reference end with the same three results. -/
theorem algebraic : Cert.algebraic_ProjOutIdeal_ProjOutReferenceIdeal := by
  pair_intro
  · run_from Cert.ProjOutIdeal.Value.run_blocks m g
  · refine θ_run_mono (Cert.ProjOutReferenceIdeal.Value.run m' g') ?_
    intro r hr c
    obtain ⟨h4, h9, h8, k0, k1, k2⟩ := hr c
    obtain ⟨a0, a1, a2⟩ := hagree c
    refine ⟨h4.trans ?_, h9.trans ?_, h8.trans ?_, k0, k1, k2⟩ <;> rw [a0, a1, a2]
    · refine Eq.trans ?_ (Cert.ProjOutIdeal.Gen.array3_eq m c).symm
      rw [Cert.ProjOutReferenceIdeal.Read.val_main_v4_eq]
      funext y
      exact (congrArg _ (eq_ix2 y)).trans (Cert.ProjOutReferenceIdeal.Read.result_apply _ _ _ _ _)
    · refine Eq.trans ?_ (Cert.ProjOutIdeal.Gen.array4_eq m c).symm
      rw [Cert.ProjOutReferenceIdeal.Read.val_main_v9_eq]
      funext y
      exact (congrArg _ (eq_ix2 y)).trans (Cert.ProjOutReferenceIdeal.Read.rounded_apply _ _ _ _ _)
    · refine Eq.trans ?_ (Cert.ProjOutIdeal.Gen.array5_eq m c).symm
      rw [Cert.ProjOutReferenceIdeal.Read.val_main_v8_eq]
      funext y
      exact (congrArg _ (eq_ix2 y)).trans (Cert.ProjOutReferenceIdeal.Read.squares_apply _ _ _ _ _)

/-- The reference ends with its arguments unchanged and every semaphore at zero. -/
theorem reference_frame : Cert.quiescent_ProjOutReferenceIdeal := fun m ρ _ =>
  (θ_run Cert.ProjOutReferenceIdeal.defs _ _).mono
    (fun r h => ⟨fun c => (h c).2.2.2, Idealize.ShloMosaic.sem_eq_zero_of_no_sems (by decide) r.2⟩)
    (Cert.ProjOutReferenceIdeal.Value.run (F := Ideal) m ρ)

end Cert.Proof.ProjOut

end
-- ==== Proof.MergeClaim.lean ====
/-
  The value claim of the gated merge: at every index the kernel's result and the reference's are the sum, over the three
  mixers, of the gate's sigmoid times the mixer's row times its weight's column.
-/
module

public import proofs.«01_k».proof.Defs
public import proofs.«01_k».proof.Proof.Gen.MergeIdeal.Value
public import proofs.«01_k».proof.Proof.Gen.MergeReferenceIdeal.Read
public import Idealize.ShloMosaic.Lib.Pipeline.ValueKit
public import Idealize.ShloMosaic.Lib.IdealHost
public import Idealize.ShloMosaic.Lib.Claim

@[expose] public section

set_option maxRecDepth 16384
set_option maxHeartbeats 1000000

noncomputable section

namespace Cert.MergeIdeal.Gen

open Idealize.ShloMosaic Idealize.ShloMosaic.TcCoe Idealize.SL.Sem
open Idealize.ShloMosaic.Pipeline (Dat Cfg Window)

/-- The sigmoid. -/
def sigmoid (x : EReal) : EReal := Ideal.div 1 (1 + Ideal.exp (-x))

/-- One mixer's term: the gate's sigmoid times the product of a row and a column. -/
def term {n : ℕ} (g : EReal) (a b : Fin n → EReal) : EReal := sigmoid g * ∑ k, a k * b k

/-- The column of a mixer's gate: the three gates lie one after another behind the values. -/
def gateCol (n : Fin 3) (j : Fin 4096) : Fin 19456 := ⟨7168 + 4096 * n.val + j.val, by omega⟩

/-- The result at row `i` and column `j`. -/
def resultAt (oa : S16384x1536.Idx → EReal) (ob : S16384x1024.Idx → EReal) (oc : S16384x1536.Idx → EReal)
    (wa : S1x1536x4096.Idx → EReal) (wb : S1x1024x4096.Idx → EReal) (wc : S1x1536x4096.Idx → EReal)
    (g : S16384x19456.Idx → EReal) (i : Fin 16384) (j : Fin 4096) : EReal :=
  term (g (ix2 i (gateCol 0 j))) (fun k => oa (ix2 i k)) (fun k => wa (ix3 0 k j))
    + term (g (ix2 i (gateCol 1 j))) (fun k => ob (ix2 i k)) (fun k => wb (ix3 0 k j))
    + term (g (ix2 i (gateCol 2 j))) (fun k => oc (ix2 i k)) (fun k => wc (ix3 0 k j))

/-- The block indices at a grid point. -/
theorem idx : ∀ t : Fin cfg0.N,
    win0_0.index t = ![(grid0.coords t 1).val, 0]
    ∧ win0_1.index t = ![(grid0.coords t 1).val, 0]
    ∧ win0_2.index t = ![(grid0.coords t 1).val, 0]
    ∧ win0_3.index t = ![0, 0, (grid0.coords t 0).val]
    ∧ win0_4.index t = ![0, 0, (grid0.coords t 0).val]
    ∧ win0_5.index t = ![0, 0, (grid0.coords t 0).val]
    ∧ win0_6.index t = ![(grid0.coords t 1).val, 7 + (grid0.coords t 0).val]
    ∧ win0_7.index t = ![(grid0.coords t 1).val, 11 + (grid0.coords t 0).val]
    ∧ win0_8.index t = ![(grid0.coords t 1).val, 15 + (grid0.coords t 0).val]
    ∧ win0_9.index t = ![(grid0.coords t 1).val, (grid0.coords t 0).val] := by
  decide +kernel

/-- The body's block. -/
theorem block_apply (x0 : Vec Ideal S1024x1536 .bf16) (x1 : Vec Ideal S1024x1024 .bf16) (x2 : Vec Ideal S1024x1536 .bf16)
    (x3 : Vec Ideal S1x1536x1024 .bf16) (x4 : Vec Ideal S1x1024x1024 .bf16) (x5 : Vec Ideal S1x1536x1024 .bf16)
    (x6 x7 x8 : Vec Ideal S1024x1024 .bf16) (r s : Fin 1024) :
    out0_9 x0 x1 x2 x3 x4 x5 x6 x7 x8 (ix2 r s)
      = term (x6 (ix2 r s)) (fun k => x0 (ix2 r k)) (fun k => x3 (ix3 0 k s))
        + term (x7 (ix2 r s)) (fun k => x1 (ix2 r k)) (fun k => x4 (ix3 0 k s))
        + term (x8 (ix2 r s)) (fun k => x2 (ix2 r k)) (fun k => x5 (ix3 0 k s)) := by
  frame_out
  pointwise [k0_pay1]
  rfl

variable (m : (ℓ : Loc nD τ sig) → Buf (Elt Ideal) ℓ) (c : Dev nD)

/-- The result array after the run. -/
theorem array_eq : (dats m 0 c).arrAt 9 cfg0.N
    = fun y => resultAt (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (y 0) (y 1) := by
  refine (dats m 0 c).arrAt_eq_of_covers 9 _ (by decide +kernel) fun t hf y => ?_
  blk_simp
  rw [after0_9]
  idx_vars y
  refine (block_apply _ _ _ _ _ _ _ _ _ _ _).trans ?_
  unfold resultAt
  congr 1
  · congr 1
    · congr 1
      · blk_ext [iblk, V_main_arg6, idx t, gateCol]
      · funext k; blk_ext [iblk, V_main_arg0, idx t]
      · funext k; blk_ext [iblk, V_main_arg3, idx t]
    · congr 1
      · blk_ext [iblk, V_main_arg6, idx t, gateCol]
      · funext k; blk_ext [iblk, V_main_arg1, idx t]
      · funext k; blk_ext [iblk, V_main_arg4, idx t]
  · congr 1
    · blk_ext [iblk, V_main_arg6, idx t, gateCol]
    · funext k; blk_ext [iblk, V_main_arg2, idx t]
    · funext k; blk_ext [iblk, V_main_arg5, idx t]

end Cert.MergeIdeal.Gen

namespace Cert.MergeReferenceIdeal.Read

open Idealize.ShloMosaic Idealize.ShloMosaic.TcCoe

/-- The first mixer's product at an index. -/
theorem product_a (a : (⟨S16384x1536, .bf16⟩ : BufTy).Contents (Elt Ideal)) (b : (⟨S1x1536x4096, .bf16⟩ : BufTy).Contents (Elt Ideal))
    (i : Fin 16384) (j : Fin 4096) : val_main_v11 (F := Ideal) a b (ix2 i j) = ∑ k : Fin 1536, a (ix2 i k) * b (ix3 0 k j) := by
  refine (val_main_v11_apply a b (ix2 i j)).trans (Finset.sum_congr rfl fun k _ => ?_)
  rw [val_main_v10_apply, val_main_v9_apply]
  refine congrArg₂ (· * ·) (congrArg a (funext fun d => ?_)) (congrArg b (funext fun d => ?_))
  · fin_cases d <;> rfl
  · fin_cases d
    · rfl
    · exact Fin.ext (by show (k.val * 4096 + j.val) / 4096 % 1536 = k.val; omega)
    · exact Fin.ext (by show (k.val * 4096 + j.val) % 4096 = j.val; omega)

/-- The second mixer's product at an index. -/
theorem product_b (a : (⟨S16384x1024, .bf16⟩ : BufTy).Contents (Elt Ideal)) (b : (⟨S1x1024x4096, .bf16⟩ : BufTy).Contents (Elt Ideal))
    (i : Fin 16384) (j : Fin 4096) : val_main_v24 (F := Ideal) a b (ix2 i j) = ∑ k : Fin 1024, a (ix2 i k) * b (ix3 0 k j) := by
  refine (val_main_v24_apply a b (ix2 i j)).trans (Finset.sum_congr rfl fun k _ => ?_)
  rw [val_main_v23_apply, val_main_v22_apply]
  refine congrArg₂ (· * ·) (congrArg a (funext fun d => ?_)) (congrArg b (funext fun d => ?_))
  · fin_cases d <;> rfl
  · fin_cases d
    · rfl
    · exact Fin.ext (by show (k.val * 4096 + j.val) / 4096 % 1024 = k.val; omega)
    · exact Fin.ext (by show (k.val * 4096 + j.val) % 4096 = j.val; omega)

/-- The third mixer's product at an index: the operations of the first on other arguments. -/
theorem product_c (a : (⟨S16384x1536, .bf16⟩ : BufTy).Contents (Elt Ideal)) (b : (⟨S1x1536x4096, .bf16⟩ : BufTy).Contents (Elt Ideal))
    (i : Fin 16384) (j : Fin 4096) : val_main_v38 (F := Ideal) a b (ix2 i j) = ∑ k : Fin 1536, a (ix2 i k) * b (ix3 0 k j) :=
  product_a a b i j

/-- The first gate's sigmoid at an index. -/
theorem gate_a (g : (⟨S16384x19456, .bf16⟩ : BufTy).Contents (Elt Ideal)) (i : Fin 16384) (j : Fin 4096) :
    val_main_v7 (F := Ideal) g (ix2 i j) = Cert.MergeIdeal.Gen.sigmoid (g (ix2 i (Cert.MergeIdeal.Gen.gateCol 0 j))) := by
  rw [val_main_v7_apply, val_main_v6_apply, val_main_v5_apply, val_main_v4_apply, val_main_v3_apply, val_main_v2_apply, val_main_v1_apply, val_main_v0_apply]
  show Ideal.div (Ideal.ofBits .f32 0x3F800000#32) (Ideal.ofBits .f32 0x3F800000#32 + Ideal.exp (-(g _))) = _
  rw [Ideal.ofBits_one_f32]
  refine congrArg (fun z => Cert.MergeIdeal.Gen.sigmoid (g z)) (funext fun d => ?_)
  fin_cases d
  · rfl
  · exact Fin.ext (by show 7168 + j.val = 7168 + 4096 * 0 + j.val; omega)

/-- The second gate's sigmoid at an index. -/
theorem gate_b (g : (⟨S16384x19456, .bf16⟩ : BufTy).Contents (Elt Ideal)) (i : Fin 16384) (j : Fin 4096) :
    val_main_v20 (F := Ideal) g (ix2 i j) = Cert.MergeIdeal.Gen.sigmoid (g (ix2 i (Cert.MergeIdeal.Gen.gateCol 1 j))) := by
  rw [val_main_v20_apply, val_main_v19_apply, val_main_v18_apply, val_main_v17_apply, val_main_v16_apply, val_main_v15_apply, val_main_v14_apply, val_main_v13_apply]
  show Ideal.div (Ideal.ofBits .f32 0x3F800000#32) (Ideal.ofBits .f32 0x3F800000#32 + Ideal.exp (-(g _))) = _
  rw [Ideal.ofBits_one_f32]
  refine congrArg (fun z => Cert.MergeIdeal.Gen.sigmoid (g z)) (funext fun d => ?_)
  fin_cases d
  · rfl
  · exact Fin.ext (by show 11264 + j.val = 7168 + 4096 * 1 + j.val; omega)

/-- The third gate's sigmoid at an index. -/
theorem gate_c (g : (⟨S16384x19456, .bf16⟩ : BufTy).Contents (Elt Ideal)) (i : Fin 16384) (j : Fin 4096) :
    val_main_v34 (F := Ideal) g (ix2 i j) = Cert.MergeIdeal.Gen.sigmoid (g (ix2 i (Cert.MergeIdeal.Gen.gateCol 2 j))) := by
  rw [val_main_v34_apply, val_main_v33_apply, val_main_v32_apply, val_main_v31_apply, val_main_v30_apply, val_main_v29_apply, val_main_v28_apply, val_main_v27_apply]
  show Ideal.div (Ideal.ofBits .f32 0x3F800000#32) (Ideal.ofBits .f32 0x3F800000#32 + Ideal.exp (-(g _))) = _
  rw [Ideal.ofBits_one_f32]
  refine congrArg (fun z => Cert.MergeIdeal.Gen.sigmoid (g z)) (funext fun d => ?_)
  fin_cases d
  · rfl
  · exact Fin.ext (by show 15360 + j.val = 7168 + 4096 * 2 + j.val; omega)

/-- The reference's result at an index. -/
theorem result_apply (oa : (⟨S16384x1536, .bf16⟩ : BufTy).Contents (Elt Ideal)) (ob : (⟨S16384x1024, .bf16⟩ : BufTy).Contents (Elt Ideal))
    (oc : (⟨S16384x1536, .bf16⟩ : BufTy).Contents (Elt Ideal)) (wa : (⟨S1x1536x4096, .bf16⟩ : BufTy).Contents (Elt Ideal))
    (wb : (⟨S1x1024x4096, .bf16⟩ : BufTy).Contents (Elt Ideal)) (wc : (⟨S1x1536x4096, .bf16⟩ : BufTy).Contents (Elt Ideal))
    (g : (⟨S16384x19456, .bf16⟩ : BufTy).Contents (Elt Ideal)) (i : Fin 16384) (j : Fin 4096) :
    val_main_v41 (F := Ideal) oa ob oc wa wb wc g (ix2 i j) = Cert.MergeIdeal.Gen.resultAt oa ob oc wa wb wc g i j := by
  rw [val_main_v41_apply, val_main_v40_apply, val_main_v26_apply, val_main_v12_apply, val_main_v25_apply, val_main_v39_apply,
    gate_a, gate_b, gate_c, product_a, product_b, product_c]
  rfl

end Cert.MergeReferenceIdeal.Read

namespace Cert.Proof.Merge

open Idealize.ShloMosaic Idealize.ShloMosaic.TcCoe Idealize.SL.Sem

/-- The kernel and the reference end with the same result. -/
theorem algebraic : Cert.algebraic_MergeIdeal_MergeReferenceIdeal := by
  pair_intro
  · run_from Cert.MergeIdeal.Value.run_blocks m g
  · run_from Cert.MergeReferenceIdeal.Value.run m' g'
    refine Eq.trans ?_ (Cert.MergeIdeal.Gen.array_eq m c).symm
    rw [Cert.MergeReferenceIdeal.Read.val_main_v41_eq]
    funext y
    exact (congrArg _ (eq_ix2 y)).trans (Cert.MergeReferenceIdeal.Read.result_apply _ _ _ _ _ _ _ _ _)

/-- The reference ends with its arguments unchanged and every semaphore at zero. -/
theorem reference_frame : Cert.quiescent_MergeReferenceIdeal := fun m ρ _ =>
  (θ_run Cert.MergeReferenceIdeal.defs _ _).mono
    (fun r h => ⟨fun c => (h c).2, Idealize.ShloMosaic.sem_eq_zero_of_no_sems (by decide) r.2⟩)
    (Cert.MergeReferenceIdeal.Value.run (F := Ideal) m ρ)

end Cert.Proof.Merge

end
-- ==== Proof.ProjQkClaim.lean ====
/-
  The value claim of the projection of the neighbourhood attention's queries and keys: at every index the kernel's result
  and the reference's are the row's product with the weight's column, times the reciprocal root mean square of the 128
  columns of its head, times the gain.
-/
module

public import proofs.«01_k».proof.Defs
public import proofs.«01_k».proof.Proof.Gen.ProjQkIdeal.Value
public import proofs.«01_k».proof.Proof.Gen.ProjQkReferenceIdeal.Read
public import Idealize.ShloMosaic.Lib.Pipeline.ValueKit
public import Idealize.ShloMosaic.Lib.Pipeline.Covers
public import Idealize.ShloMosaic.Lib.Claim

@[expose] public section

set_option maxRecDepth 16384
set_option maxHeartbeats 1000000

noncomputable section

namespace Cert.ProjQkIdeal.Gen

open Idealize.ShloMosaic Idealize.ShloMosaic.TcCoe Idealize.SL.Sem
open Idealize.ShloMosaic.Pipeline (Dat Cfg Window)

/-- The element `y` of a head with the elements `v`, normed and times the gain `g`. -/
def headNorm (v : Fin 128 → EReal) (y g : EReal) : EReal :=
  y * Ideal.rsqrt (Ideal.div (∑ d, v d * v d) (Ideal.ofBits .f32 0x43000000#32) + Ideal.ofBits .f32 0x358637BD#32) * g

/-- The block's column `d` of the head that holds the block's column `s`. -/
def headCol (s : Fin 1024) (d : Fin 128) : Fin 1024 := ⟨s.val / 128 * 128 + d.val, by omega⟩

/-- The product of two blocks at an index. -/
theorem product_apply (x0 : Vec Ideal S1024x4096 .bf16) (x1 : Vec Ideal S1x4096x1024 .bf16) (r s : Fin 1024) :
    k0_pay2 x0 x1 (ix2 r s) = ∑ k : Fin 4096, x0 (ix2 r k) * x1 (ix3 0 k s) := by
  pointwise [k0_pay2]

/-- The first block is loaded whole. -/
theorem whole0 (x0 : Vec Ideal S1024x4096 .bf16) : View.ld x0 r0_0 = x0 :=
  funext fun x => View.ld_unit_apply_of _ _ _ _ x x fun a => by fin_cases a <;> simp

/-- The second block is loaded whole. -/
theorem whole1 (x1 : Vec Ideal S1x4096x1024 .bf16) : View.ld x1 r0_1 = x1 :=
  funext fun x => View.ld_unit_apply_of _ _ _ _ x x fun a => by fin_cases a <;> simp

/-- The columns `o` to `o + 127` of a product, normed, at the row `r` and their column `d`. -/
def headAt (P : FVec Ideal S1024x1024 .f32) (g : Vec Ideal S1x128 .f32) (o : ℕ) (ho : o + 128 ≤ 1024) (r : Fin 1024) (d : Fin 128) : EReal :=
  headNorm (fun e => P (ix2 r ⟨o + e.val, by omega⟩)) (P (ix2 r ⟨o + d.val, by omega⟩)) (g (ix2 0 d))

section Heads

variable (P : FVec Ideal S1024x1024 .f32) (x0 : Vec Ideal S1024x4096 .bf16) (x1 : Vec Ideal S1x4096x1024 .bf16)
variable (g : Vec Ideal S1x128 .f32) (r : Fin 1024) (d : Fin 128)

/-- The first head. -/
theorem head0_apply : k0_pay3 x0 x1 g (ix2 r d) = headAt (k0_pay2 x0 x1) g 0 (by norm_num) r d := by
  have e : ∀ Q : FVec Ideal S1024x1024 .f32, Q = k0_pay2 x0 x1 → k0_pay3 x0 x1 g (ix2 r d) = headAt Q g 0 (by norm_num) r d := by
    intro Q hQ
    unfold k0_pay3
    rw [← hQ]
    pointwise
    simp only [headAt, headNorm, Nat.zero_add]
  exact e _ rfl

/-- The second head. -/
theorem head1_apply : k0_pay4 x0 x1 g (ix2 r d) = headAt (k0_pay2 x0 x1) g 128 (by norm_num) r d := by
  have e : ∀ Q : FVec Ideal S1024x1024 .f32, Q = k0_pay2 x0 x1 → k0_pay4 x0 x1 g (ix2 r d) = headAt Q g 128 (by norm_num) r d := by
    intro Q hQ
    unfold k0_pay4
    rw [← hQ]
    pointwise
    rfl
  exact e _ rfl

/-- The third head. -/
theorem head2_apply : k0_pay5 P g (ix2 r d) = headAt P g 256 (by norm_num) r d := by
  pointwise [k0_pay5]
  rfl

/-- The fourth head. -/
theorem head3_apply : k0_pay6 P g (ix2 r d) = headAt P g 384 (by norm_num) r d := by
  pointwise [k0_pay6]
  rfl

/-- The fifth head. -/
theorem head4_apply : k0_pay9 (k0_pay7 P) (k0_pay8 P) g (ix2 r d) = headAt P g 512 (by norm_num) r d := by
  pointwise [k0_pay9, k0_pay8, k0_pay7]
  rfl

/-- The sixth head. -/
theorem head5_apply : k0_pay10 P g (ix2 r d) = headAt P g 640 (by norm_num) r d := by
  pointwise [k0_pay10]
  rfl

/-- The seventh head. -/
theorem head6_apply : k0_pay11 P g (ix2 r d) = headAt P g 768 (by norm_num) r d := by
  pointwise [k0_pay11]
  rfl

/-- The eighth head. -/
theorem head7_apply : k0_pay1 P g (ix2 r d) = headAt P g 896 (by norm_num) r d := by
  pointwise [k0_pay1]
  rfl

end Heads

/-- A head's columns are the block's. -/
theorem headAt_eq (P : FVec Ideal S1024x1024 .f32) (x2 : Vec Ideal S1x1024 .f32) (g : Vec Ideal S1x128 .f32) (o : ℕ) (ho : o + 128 ≤ 1024)
    (h128 : o % 128 = 0) (r r' s : Fin 1024) (d : Fin 128) (h0 : r.val = r'.val) (h1 : s.val = o + d.val) (hg : g (ix2 0 d) = x2 (ix2 0 s)) :
    headAt P g o ho r' d = headNorm (fun e => P (ix2 r (headCol s e))) (P (ix2 r s)) (x2 (ix2 0 s)) := by
  obtain rfl : r = r' := Fin.ext h0
  unfold headAt
  rw [hg, show (⟨o + d.val, by omega⟩ : Fin 1024) = s from Fin.ext h1.symm]
  refine congrArg (fun v => headNorm v _ _) (funext fun e => congrArg P (congrArg (ix2 r) (Fin.ext ?_)))
  show o + e.val = s.val / 128 * 128 + e.val
  have := d.isLt
  omega

/-- The body's block. -/
theorem block_apply (a : Vec Ideal S1024x4096 .bf16) (b : Vec Ideal S1x4096x1024 .bf16) (c : Vec Ideal S1x1024 .f32) (r s : Fin 1024) :
    out0_3 a b c (ix2 r s) = headNorm (fun d => k0_pay2 a b (ix2 r (headCol s d))) (k0_pay2 a b (ix2 r s)) (c (ix2 0 s)) := by
  canon_tiles x h using Gen.cover0_3 ..
  all_goals
    idx_vars x
    simp only [k0_pay12, whole0, whole1]
  · refine (head7_apply _ _ _ _).trans (headAt_eq _ c _ _ _ (by norm_num) _ _ _ _ h0 h1 ?_)
    exact View.ld_unit_apply_of _ _ _ _ _ _ fun a => by fin_cases a <;> simp_all
  · refine (head6_apply _ _ _ _).trans (headAt_eq _ c _ _ _ (by norm_num) _ _ _ _ h0 h1 ?_)
    exact View.ld_unit_apply_of _ _ _ _ _ _ fun a => by fin_cases a <;> simp_all
  · refine (head5_apply _ _ _ _).trans (headAt_eq _ c _ _ _ (by norm_num) _ _ _ _ h0 h1 ?_)
    exact View.ld_unit_apply_of _ _ _ _ _ _ fun a => by fin_cases a <;> simp_all
  · refine (head4_apply _ _ _ _).trans (headAt_eq _ c _ _ _ (by norm_num) _ _ _ _ h0 h1 ?_)
    exact View.ld_unit_apply_of _ _ _ _ _ _ fun a => by fin_cases a <;> simp_all
  · refine (head3_apply _ _ _ _).trans (headAt_eq _ c _ _ _ (by norm_num) _ _ _ _ h0 h1 ?_)
    exact View.ld_unit_apply_of _ _ _ _ _ _ fun a => by fin_cases a <;> simp_all
  · refine (head2_apply _ _ _ _).trans (headAt_eq _ c _ _ _ (by norm_num) _ _ _ _ h0 h1 ?_)
    exact View.ld_unit_apply_of _ _ _ _ _ _ fun a => by fin_cases a <;> simp_all
  · rw [head1_apply]
    refine (headAt_eq (k0_pay2 a b) c _ _ _ (by norm_num) _ _ _ _ h0 h1 ?_)
    exact View.ld_unit_apply_of _ _ _ _ _ _ fun a => by fin_cases a <;> simp_all
  · rw [head0_apply]
    refine (headAt_eq (k0_pay2 a b) c _ _ _ (by norm_num) _ _ _ _ h0 (h1.trans (Nat.zero_add _).symm) ?_)
    exact View.ld_unit_apply_of _ _ _ _ _ _ fun a => by fin_cases a <;> simp_all

/-- The result's column `d` of the head that holds the column `j`, as the weight's column. -/
def weightCol (j : Fin 3072) (d : Fin 128) : Fin 22528 := ⟨j.val / 128 * 128 + d.val, by omega⟩

/-- The product at row `i` and the weight's column `n`. -/
def productAt (a : S16384x4096.Idx → EReal) (b : S1x4096x22528.Idx → EReal) (i : Fin 16384) (n : Fin 22528) : EReal :=
  ∑ k : Fin 4096, a (ix2 i k) * b (ix3 0 k n)

/-- The result at row `i` and column `j`. -/
def resultAt (a : S16384x4096.Idx → EReal) (b : S1x4096x22528.Idx → EReal) (g : S1x3072.Idx → EReal) (i : Fin 16384) (j : Fin 3072) : EReal :=
  headNorm (fun d => productAt a b i (weightCol j d)) (productAt a b i ⟨j.val, by omega⟩) (g (ix2 0 j))

/-- The block indices at a grid point. -/
theorem idx : ∀ t : Fin cfg0.N,
    win0_0.index t = ![(grid0.coords t 0).val, 0]
    ∧ win0_1.index t = ![0, 0, (grid0.coords t 1).val]
    ∧ win0_2.index t = ![0, (grid0.coords t 1).val]
    ∧ win0_3.index t = ![(grid0.coords t 0).val, (grid0.coords t 1).val] := by
  decide +kernel

variable (m : (ℓ : Loc nD τ sig) → Buf (Elt Ideal) ℓ) (c : Dev nD)

/-- The result array after the run. -/
theorem array_eq : (dats m 0 c).arrAt 3 cfg0.N
    = fun y => resultAt (m ((c.tc : Thread nD τ).loc main_arg0)) (m ((c.tc : Thread nD τ).loc main_arg1))
        (m ((c.tc : Thread nD τ).loc main_arg2)) (y 0) (y 1) := by
  refine (dats m 0 c).arrAt_eq_of_covers 3 _ (by decide +kernel) fun t hf y => ?_
  blk_simp
  rw [after0_3]
  idx_vars y
  refine (block_apply _ _ _ _ _).trans ?_
  unfold resultAt
  simp only [product_apply, productAt]
  congr 1
  · funext d
    refine Finset.sum_congr rfl fun k _ => congrArg₂ (· * ·) ?_ ?_
    · blk_ext [iblk, V_main_arg0, idx t]
    · blk_ext [iblk, V_main_arg1, idx t, weightCol, headCol]
  · refine Finset.sum_congr rfl fun k _ => congrArg₂ (· * ·) ?_ ?_
    · blk_ext [iblk, V_main_arg0, idx t]
    · blk_ext [iblk, V_main_arg1, idx t]
  · blk_ext [iblk, V_main_arg2, idx t]

end Cert.ProjQkIdeal.Gen

namespace Cert.ProjQkReferenceIdeal.Read

open Idealize.ShloMosaic Idealize.ShloMosaic.TcCoe

variable (a : (⟨S16384x4096, .bf16⟩ : BufTy).Contents (Elt Ideal)) (b : (⟨S1x4096x22528, .bf16⟩ : BufTy).Contents (Elt Ideal))
variable (g : (⟨S1x3072, .f32⟩ : BufTy).Contents (Elt Ideal)) (i : Fin 16384)

/-- The reference's product at an index. -/
theorem product_apply (j : Fin 3072) : val_main_v4 (F := Ideal) a b (ix2 i j) = Cert.ProjQkIdeal.Gen.productAt a b i ⟨j.val, by omega⟩ := by
  refine (val_main_v4_apply a b (ix2 i j)).trans (Finset.sum_congr rfl fun k _ => ?_)
  rw [val_main_v3_apply, val_main_v2_apply, val_main_v1_apply]
  refine congrArg₂ (· * ·) (congrArg a (funext fun d => ?_)) (congrArg b (funext fun d => ?_))
  · fin_cases d <;> rfl
  · fin_cases d
    · rfl
    · refine Fin.ext ?_
      show (k.val * 3072 + j.val) / 3072 % 4096 = k.val
      omega
    · refine Fin.ext ?_
      show (k.val * 3072 + j.val) % 3072 = j.val
      omega

/-- The product by heads. -/
theorem heads_apply (h : Fin 24) (d : Fin 128) :
    val_main_v5 (F := Ideal) a b (ix3 i h d) = Cert.ProjQkIdeal.Gen.productAt a b i ⟨h.val * 128 + d.val, by omega⟩ := by
  rw [val_main_v5_apply]
  refine Eq.trans (congrArg _ (funext fun e => ?_)) (product_apply a b i ⟨h.val * 128 + d.val, by omega⟩)
  fin_cases e
  · refine Fin.ext ?_
    show ((i.val * 24 + h.val) * 128 + d.val) / 3072 = i.val
    omega
  · refine Fin.ext ?_
    show ((i.val * 24 + h.val) * 128 + d.val) % 3072 = h.val * 128 + d.val
    omega

/-- The normed heads. -/
theorem normed_apply (h : Fin 24) (d : Fin 128) :
    val_main_v19 (F := Ideal) a b g (ix3 i h d)
      = Cert.ProjQkIdeal.Gen.headNorm (fun e => Cert.ProjQkIdeal.Gen.productAt a b i ⟨h.val * 128 + e.val, by omega⟩)
          (Cert.ProjQkIdeal.Gen.productAt a b i ⟨h.val * 128 + d.val, by omega⟩) (g (ix2 0 ⟨h.val * 128 + d.val, by omega⟩)) := by
  rw [val_main_v19_apply, val_main_v15_apply, val_main_v14_apply, val_main_v13_apply, val_main_v12_apply, val_main_v10_apply,
    val_main_v8_apply, val_main_v7_apply, val_main_v9_apply, val_main_v11_apply, val_main_v18_apply, val_main_v17_apply, val_main_v16_apply,
    heads_apply]
  show _ * Ideal.rsqrt (Ideal.div (Ideal.ofBits .f32 0x00000000#32 + _) (Ideal.ofBits .f32 0x43000000#32) + Ideal.ofBits .f32 0x358637BD#32) * _ = _
  rw [show Ideal.ofBits .f32 0x00000000#32 = 0 by simp [Ideal.ofBits, Ideal.ieee], zero_add]
  unfold Cert.ProjQkIdeal.Gen.headNorm
  refine congrArg₂ (· * ·) (congrArg (fun z => _ * Ideal.rsqrt (Ideal.div z _ + _)) (Finset.sum_congr rfl fun e _ => ?_)) (congrArg g (funext fun e => ?_))
  · rw [val_main_v6_apply]
    beta_reduce
    rw [← heads_apply a b i h e]
    refine congrArg (fun y => val_main_v5 (F := Ideal) a b y * val_main_v5 (F := Ideal) a b y) (funext fun e => ?_)
    fin_cases e <;> rfl
  · fin_cases e
    · rfl
    · refine Fin.ext ?_
      show (h.val * 128 + d.val) % 3072 = h.val * 128 + d.val
      omega

/-- The reference's result at an index. -/
theorem result_apply (j : Fin 3072) : val_main_v21 (F := Ideal) a b g (ix2 i j) = Cert.ProjQkIdeal.Gen.resultAt a b g i j := by
  rw [val_main_v21_apply, val_main_v20_apply]
  refine Eq.trans (congrArg (val_main_v19 (F := Ideal) a b g) (funext fun e => ?_))
    ((normed_apply a b g i ⟨j.val / 128, by omega⟩ ⟨j.val % 128, by omega⟩).trans ?_)
  · fin_cases e
    · refine Fin.ext ?_
      show (i.val * 3072 + j.val) / 3072 = i.val
      omega
    · refine Fin.ext ?_
      show (i.val * 3072 + j.val) / 128 % 24 = j.val / 128
      omega
    · refine Fin.ext ?_
      show (i.val * 3072 + j.val) % 128 = j.val % 128
      omega
  · unfold Cert.ProjQkIdeal.Gen.resultAt Cert.ProjQkIdeal.Gen.weightCol
    simp only [Nat.div_add_mod']

end Cert.ProjQkReferenceIdeal.Read

namespace Cert.Proof.ProjQk

open Idealize.ShloMosaic Idealize.ShloMosaic.TcCoe Idealize.SL.Sem

/-- The kernel and the reference end with the same result. -/
theorem algebraic : Cert.algebraic_ProjQkIdeal_ProjQkReferenceIdeal := by
  pair_intro
  · run_from Cert.ProjQkIdeal.Value.run_blocks m g
  · run_from Cert.ProjQkReferenceIdeal.Value.run m' g'
    refine Eq.trans ?_ (Cert.ProjQkIdeal.Gen.array_eq m c).symm
    rw [Cert.ProjQkReferenceIdeal.Read.val_main_v21_eq]
    funext y
    exact (congrArg _ (eq_ix2 y)).trans (Cert.ProjQkReferenceIdeal.Read.result_apply _ _ _ _ _)

/-- The reference ends with its arguments unchanged and every semaphore at zero. -/
theorem reference_frame : Cert.quiescent_ProjQkReferenceIdeal := fun m ρ _ =>
  (θ_run Cert.ProjQkReferenceIdeal.defs _ _).mono
    (fun r h => ⟨fun c => (h c).2, Idealize.ShloMosaic.sem_eq_zero_of_no_sems (by decide) r.2⟩)
    (Cert.ProjQkReferenceIdeal.Value.run (F := Ideal) m ρ)

end Cert.Proof.ProjQk

end
-- ==== Proof.RowNormClaim.lean ====
/-
  The value claim of the row norm: at every index the kernel's result and the reference's are the element times its row's
  reciprocal root mean square and the gain.
-/
module

public import proofs.«01_k».proof.Defs
public import proofs.«01_k».proof.Proof.Gen.RowNormIdeal.Value
public import proofs.«01_k».proof.Proof.Gen.RowNormReferenceIdeal.Read
public import Idealize.ShloMosaic.Lib.Pipeline.ValueKit
public import Idealize.ShloMosaic.Lib.Pipeline.Covers
public import Idealize.ShloMosaic.Lib.Claim

@[expose] public section

set_option maxRecDepth 16384
set_option maxHeartbeats 1000000

noncomputable section

namespace Cert.RowNormIdeal.Gen

open Idealize.ShloMosaic Idealize.ShloMosaic.TcCoe Idealize.SL.Sem
open Idealize.ShloMosaic.Pipeline (Dat Cfg Window)

/-- The element `y` of a row with the elements `v`, normed and times the gain `g`. -/
def rowNorm (v : Fin 4096 → EReal) (y g : EReal) : EReal :=
  y * Ideal.rsqrt (Ideal.div (∑ d, v d * v d) (Ideal.ofBits .f32 0x45800000#32) + Ideal.ofBits .f32 0x358637BD#32) * g

/-- The body's block. -/
theorem block_apply (x0 : Vec Ideal S512x4096 .f32) (x1 : Vec Ideal S1x4096 .f32) (r : Fin 512) (s : Fin 4096) :
    out0_2 x0 x1 (ix2 r s) = rowNorm (fun d => x0 (ix2 r d)) (x0 (ix2 r s)) (x1 (ix2 0 s)) := by
  frame_out
  pointwise [k0_pay1]
  rfl

/-- The result at row `i` and column `j`. -/
def resultAt (a : S16384x4096.Idx → EReal) (g : S4096.Idx → EReal) (i : Fin 16384) (j : Fin 4096) : EReal :=
  rowNorm (fun d => a (ix2 i d)) (a (ix2 i j)) (g (ix1 j))

/-- The block indices at a grid point. -/
theorem idx : ∀ t : Fin cfg0.N,
    win0_0.index t = ![(grid0.coords t 0).val, 0]
    ∧ win0_1.index t = ![0, 0]
    ∧ win0_2.index t = ![(grid0.coords t 0).val, 0] := by
  decide +kernel

variable (m : (ℓ : Loc nD τ sig) → Buf (Elt Ideal) ℓ) (c : Dev nD)

/-- The gain as a row, where the region is entered. -/
theorem gain_apply (j : Fin 4096) : V m c main_v0 (ix2 0 j) = m ((c.tc : Thread nD τ).loc main_arg1) (ix1 j) := by
  have e : V m c main_v0 = shapeCast S1x4096 (m ((c.tc : Thread nD τ).loc main_arg1)) shapeCasts_S4096_S1x4096 := by
    simp only [V, hostOps0, StableHlo.after_cons, StableHlo.after_nil]
    rfl
  rw [e]
  exact shapeCast_apply _ shapeCasts_S4096_S1x4096 (ix2 0 j) (ix1 j)
    (by rewrite [Shape.rowMajor_val_one, Shape.rowMajor_val_two]; show j.val = 0 * 4096 + j.val; omega)

/-- The result array after the run. -/
theorem array_eq : (dats m 0 c).arrAt 2 cfg0.N
    = fun y => resultAt (m ((c.tc : Thread nD τ).loc main_arg0)) (m ((c.tc : Thread nD τ).loc main_arg1)) (y 0) (y 1) := by
  refine (dats m 0 c).arrAt_eq_of_covers 2 _ (by decide +kernel) fun t hf y => ?_
  blk_simp
  rw [after0_2]
  idx_vars y
  refine (block_apply _ _ _ _).trans ?_
  unfold resultAt
  congr 1
  · funext d; blk_ext [iblk, V_main_arg0, idx t]
  · blk_ext [iblk, V_main_arg0, idx t]
  · refine Eq.trans ?_ (gain_apply m c _)
    blk_ext [iblk, idx t]

end Cert.RowNormIdeal.Gen

namespace Cert.RowNormReferenceIdeal.Read

open Idealize.ShloMosaic Idealize.ShloMosaic.TcCoe

/-- The reference's result at an index. -/
theorem result_apply (a : (⟨S16384x4096, .f32⟩ : BufTy).Contents (Elt Ideal)) (g : (⟨S4096, .f32⟩ : BufTy).Contents (Elt Ideal))
    (i : Fin 16384) (j : Fin 4096) : val_main_v13 (F := Ideal) a g (ix2 i j) = Cert.RowNormIdeal.Gen.resultAt a g i j := by
  rw [val_main_v13_apply, val_main_v12_apply, val_main_v9_apply, val_main_v8_apply, val_main_v7_apply, val_main_v6_apply, val_main_v4_apply,
    val_main_v2_apply, val_main_v1_apply, val_main_v3_apply, val_main_v5_apply, val_main_v11_apply, val_main_v10_apply]
  show _ * Ideal.rsqrt (Ideal.div (Ideal.ofBits .f32 0x00000000#32 + _) (Ideal.ofBits .f32 0x45800000#32) + Ideal.ofBits .f32 0x358637BD#32) * _ = _
  rw [show Ideal.ofBits .f32 0x00000000#32 = 0 by simp [Ideal.ofBits, Ideal.ieee], zero_add]
  unfold Cert.RowNormIdeal.Gen.resultAt Cert.RowNormIdeal.Gen.rowNorm
  refine congrArg₂ (· * ·) (congrArg (fun z => _ * Ideal.rsqrt (Ideal.div z _ + _)) (Finset.sum_congr rfl fun e _ => ?_)) (congrArg g (funext fun e => ?_))
  · rw [val_main_v0_apply]
    refine congrArg (fun y => a y * a y) (funext fun e => ?_)
    fin_cases e <;> rfl
  · fin_cases e
    rfl

end Cert.RowNormReferenceIdeal.Read

namespace Cert.Proof.RowNorm

open Idealize.ShloMosaic Idealize.ShloMosaic.TcCoe Idealize.SL.Sem

/-- The kernel and the reference end with the same result. -/
theorem algebraic : Cert.algebraic_RowNormIdeal_RowNormReferenceIdeal := by
  pair_intro
  · run_from Cert.RowNormIdeal.Value.run_blocks m g
  · run_from Cert.RowNormReferenceIdeal.Value.run m' g'
    refine Eq.trans ?_ (Cert.RowNormIdeal.Gen.array_eq m c).symm
    rw [Cert.RowNormReferenceIdeal.Read.val_main_v13_eq]
    funext y
    exact (congrArg _ (eq_ix2 y)).trans (Cert.RowNormReferenceIdeal.Read.result_apply _ _ _ _)

/-- The reference ends with its arguments unchanged and every semaphore at zero. -/
theorem reference_frame : Cert.quiescent_RowNormReferenceIdeal := fun m ρ _ =>
  (θ_run Cert.RowNormReferenceIdeal.defs _ _).mono
    (fun r h => ⟨fun c => (h c).2, Idealize.ShloMosaic.sem_eq_zero_of_no_sems (by decide) r.2⟩)
    (Cert.RowNormReferenceIdeal.Value.run (F := Ideal) m ρ)

end Cert.Proof.RowNorm

end
-- ==== Proof.RotaryBClaim.lean ====
/-
  The value claim of the differential attention's head norm with its rotation: at every index the kernel's result and the
  reference's are the head's element, times the reciprocal root mean square of its head, times the gain, times the cosine,
  plus the element half a head away, normed alike, times the signed sine.
-/
module

public import proofs.«01_k».proof.Defs
public import proofs.«01_k».proof.Proof.Gen.RotaryBIdeal.Value
public import proofs.«01_k».proof.Proof.Gen.RotaryBReferenceIdeal.Read
public import Idealize.ShloMosaic.Lib.Pipeline.ValueKit
public import Idealize.ShloMosaic.Lib.Pipeline.Covers
public import Idealize.ShloMosaic.Lib.KernelVsHost
public import Idealize.ShloMosaic.Lib.Claim

@[expose] public section

set_option maxRecDepth 16384
set_option maxHeartbeats 1000000

noncomputable section

namespace Cert.RotaryBIdeal.Gen

open Idealize.ShloMosaic Idealize.ShloMosaic.TcCoe Idealize.SL.Sem
open Idealize.ShloMosaic.Pipeline (Dat Cfg Window)

/-- The element `y` of a head with the elements `v`, normed and times the gain `g`. -/
def headNorm (v : Fin 128 → EReal) (y g : EReal) : EReal :=
  y * Ideal.rsqrt (Ideal.div (∑ d, v d * v d) (Ideal.ofBits .f32 0x43000000#32) + Ideal.ofBits .f32 0x358637BD#32) * g

/-- The place half a head away. -/
def half (d : Fin 128) : Fin 128 := ⟨(d.val + 64) % 128, by omega⟩

/-- A sum of squares, each times 1/128, is the sum over 128. -/
theorem mean_eq (v : Fin 128 → EReal) :
    ∑ d, v d * v d * Ideal.ofBits .bf16 0x3C00#16 = Ideal.div (∑ d, v d * v d) (Ideal.ofBits .f32 0x43000000#32) := by
  have e1 : Ideal.ofBits .bf16 0x3C00#16 = ((1 / 128 : ℝ) : EReal) := by
    simp [Ideal.ofBits, Ideal.ieee]
    exact (EReal.coe_mul _ _).symm.trans (congrArg _ (by norm_num))
  have e2 : Ideal.ofBits .f32 0x43000000#32 = ((128 : ℝ) : EReal) := by
    simp [Ideal.ofBits, Ideal.ieee]
    exact (EReal.coe_mul _ _).symm.trans (congrArg _ (by norm_num))
  rw [e1, e2, Ideal.div_coe (by norm_num)]
  have h : ∀ s : Finset (Fin 128), ∑ d ∈ s, v d * v d * ((1 / 128 : ℝ) : EReal) = (∑ d ∈ s, v d * v d) * ((1 / 128 : ℝ) : EReal) := by
    intro s
    induction s using Finset.induction_on with
    | empty => simp
    | insert a s ha ih =>
      rw [Finset.sum_insert ha, Finset.sum_insert ha, ih,
        EReal.right_distrib_of_nonneg_of_ne_top (EReal.coe_nonneg.2 (by norm_num)) (EReal.coe_ne_top _)]
  exact h _

/-- The norm of a head's block. -/
def normBlock (Q : FVec Ideal S1024x128 .f32) (g : Vec Ideal S1x128 .f32) : FVec Ideal S1024x128 .f32 :=
  mulf (mulf Q (rsqrt (addf (matmul dot_S1024x128_S128x128_S1024x128_1_0_0_1_n_n none (truncf .bf16 (mulf Q Q) bitsLt_bf16_f32)
    (k0_pay3 (F := Ideal)) (constant S1024x128 .f32 0x00000000#32)) (broadcast S1024x128 (Scalar.ofBits .f32 0x358637BD#32)))))
    (broadcastTo S1024x128 g broadcasts_S1x128_S1024x128)

/-- The rotation of a head's block. -/
def turnBlock (Y : FVec Ideal S1024x128 .f32) (u w : Vec Ideal S1024x128 .f32) : FVec Ideal S1024x128 .bf16 :=
  truncf .bf16 (addf (mulf Y (shapeCast S1024x128 u shapeCasts_S1024x128_S1024x128))
    (mulf (dynamicRotate 1 64#32 none Y rotates_S1024x128_d1) (shapeCast S1024x128 w shapeCasts_S1024x128_S1024x128))) bitsLt_bf16_f32

/-- The norm of a head's block at an index. -/
theorem normBlock_apply (Q : FVec Ideal S1024x128 .f32) (g : Vec Ideal S1x128 .f32) (r : Fin 1024) (d : Fin 128) :
    normBlock Q g (ix2 r d) = headNorm (fun e => Q (ix2 r e)) (Q (ix2 r d)) (g (ix2 0 d)) := by
  unfold headNorm
  rw [← mean_eq]
  pointwise [normBlock, k0_pay3]

/-- The rotation of a head's block at an index. -/
theorem turnBlock_apply (Y : FVec Ideal S1024x128 .f32) (u w : Vec Ideal S1024x128 .f32) (r : Fin 1024) (d : Fin 128) :
    turnBlock Y u w (ix2 r d) = Y (ix2 r d) * u (ix2 r d) + Y (ix2 r (half d)) * w (ix2 r d) := by
  have e : dynamicRotate 1 64#32 none Y rotates_S1024x128_d1 (ix2 r d) = Y (ix2 r (half d)) := by
    refine dynamicRotate_apply _ _ _ _ _ _ fun b => ?_
    fin_cases b
    · rfl
    · show (d.val + 64) % 128 = (d.val + 128 - 64 % 128) % 128
      omega
  have e1 : ∀ x : Vec Ideal S1024x128 .f32, shapeCast S1024x128 x shapeCasts_S1024x128_S1024x128 (ix2 r d) = x (ix2 r d) := fun x =>
    shapeCast_apply x shapeCasts_S1024x128_S1024x128 (ix2 r d) (ix2 r d) rfl
  show Y (ix2 r d) * _ + _ * _ = _
  rw [e, e1, e1]

/-- The block's column `d` of the head that holds the block's column `s`. -/
def headCol (s : Fin 512) (d : Fin 128) : Fin 512 := ⟨s.val / 128 * 128 + d.val, by omega⟩

/-- A column's place in its head. -/
def place (s : ℕ) : Fin 128 := ⟨s % 128, by omega⟩

/-- The value at a column: the elements `x` and the gains `g` of its head, its place `d`, the cosine `u` and the sine `w`. -/
def turned (x g : Fin 128 → EReal) (d : Fin 128) (u w : EReal) : EReal :=
  headNorm x (x d) (g d) * u + headNorm x (x (half d)) (g (half d)) * w

/-- The slice of a block from the column `o`. -/
theorem head_apply (v : Vec Ideal S1024x512 .bf16) (x1 : Vec Ideal S1x512 .f32) (u w : Vec Ideal S1024x128 .f32)
    (g : Vec Ideal S1x128 .f32) (u' w' : Vec Ideal S1024x128 .f32) (o : ℕ) (ho : o + 128 ≤ 512) (h128 : o % 128 = 0)
    (h : S1024x512.Slices ![0, o] S1024x128) (r r' : Fin 1024) (s : Fin 512) (d : Fin 128) (h0 : r.val = r'.val) (h1 : s.val = o + d.val)
    (hg : ∀ e : Fin 128, g (ix2 0 e) = x1 (ix2 0 ⟨o + e.val, by omega⟩)) (hu : u' = u) (hw : w' = w) :
    turnBlock (normBlock (extractStridedSlice S1024x128 ![0, o] (k0_pay2 v) h) g) u' w' (ix2 r' d)
      = turned (fun e => v (ix2 r (headCol s e))) (fun e => x1 (ix2 0 (headCol s e))) (place s.val) (u (ix2 r (place s.val))) (w (ix2 r (place s.val))) := by
  obtain rfl : r = r' := Fin.ext h0
  subst hu hw
  have ed : place s.val = d := Fin.ext (by show s.val % 128 = d.val; omega)
  have ec : ∀ e : Fin 128, headCol s e = ⟨o + e.val, by omega⟩ := fun e => Fin.ext (by show s.val / 128 * 128 + e.val = o + e.val; omega)
  have es : ∀ e : Fin 128, extractStridedSlice S1024x128 ![0, o] (k0_pay2 v) h (ix2 r e) = v (ix2 r (headCol s e)) := fun e => by
    refine (extractStridedSlice_apply ![0, o] (k0_pay2 v) h (ix2 r e) (ix2 r (headCol s e)) fun a => ?_).trans rfl
    fin_cases a
    · exact (Nat.zero_add _).symm
    · show s.val / 128 * 128 + e.val = o + e.val
      omega
  rw [turnBlock_apply, normBlock_apply, normBlock_apply]
  simp only [es, hg, ← ec, ed, turned]

/-- The first block is loaded whole. -/
theorem whole0 (x0 : Vec Ideal S1024x512 .bf16) : View.ld x0 r0_0 = x0 :=
  funext fun x => View.ld_unit_apply_of _ _ _ _ x x fun a => by fin_cases a <;> simp

/-- The tables' blocks are loaded whole. -/
theorem whole2 (x2 : Vec Ideal S1024x128 .f32) : View.ld x2 r0_2 = x2 :=
  funext fun x => View.ld_unit_apply_of _ _ _ _ x x fun a => by fin_cases a <;> simp

/-- The body's block. -/
theorem block_apply (a : Vec Ideal S1024x512 .bf16) (b : Vec Ideal S1x512 .f32) (u w : Vec Ideal S1024x128 .f32) (r : Fin 1024) (s : Fin 512) :
    out0_4 a b u w (ix2 r s) = turned (fun e => a (ix2 r (headCol s e))) (fun e => b (ix2 0 (headCol s e))) (place s.val)
      (u (ix2 r (place s.val))) (w (ix2 r (place s.val))) := by
  canon_tiles x h using Gen.cover0_4 ..
  all_goals
    idx_vars x
    simp only [k0_pay10, k0_pay11, whole0]
  · refine head_apply a b u w _ _ _ 384 (by norm_num) (by norm_num) _ _ _ _ _ h0 h1 (fun e => ?_) (whole2 u) (whole2 w)
    exact View.ld_unit_apply_of _ _ _ _ _ _ fun a => by fin_cases a <;> simp_all
  · refine head_apply a b u w _ _ _ 256 (by norm_num) (by norm_num) _ _ _ _ _ h0 h1 (fun e => ?_) (whole2 u) (whole2 w)
    exact View.ld_unit_apply_of _ _ _ _ _ _ fun a => by fin_cases a <;> simp_all
  · refine head_apply a b u w _ _ _ 128 (by norm_num) (by norm_num) _ _ _ _ _ h0 h1 (fun e => ?_) (whole2 u) (whole2 w)
    exact View.ld_unit_apply_of _ _ _ _ _ _ fun a => by fin_cases a <;> simp_all
  · refine head_apply a b u w _ _ _ 0 (by norm_num) (by norm_num) _ _ _ _ _ h0 (h1.trans (Nat.zero_add _).symm) (fun e => ?_) (whole2 u) (whole2 w)
    exact View.ld_unit_apply_of _ _ _ _ _ _ fun a => by fin_cases a <;> simp_all

/-- The angle at a place of a head. -/
def angleAt (t : S4096x64.Idx → EReal) (p : Fin 4096) (d : Fin 128) : EReal := t (ix2 p ⟨d.val % 64, by omega⟩)

/-- The signed sine at a place of a head. -/
def sineAt (t : S4096x64.Idx → EReal) (p : Fin 4096) (d : Fin 128) : EReal :=
  if d.val < 64 then -Ideal.sin (angleAt t p d) else Ideal.sin (angleAt t p d)

/-- The result at row `i` and column `j`. -/
def resultAt (a : S16384x19456.Idx → EReal) (g : S1x2048.Idx → EReal) (t : S4096x64.Idx → EReal) (i : Fin 16384) (j : Fin 2048) : EReal :=
  turned (fun e => a (ix2 i ⟨1536 + (j.val / 128 * 128 + e.val), by omega⟩)) (fun e => g (ix2 0 ⟨j.val / 128 * 128 + e.val, by omega⟩)) (place j.val)
    (Ideal.cos (angleAt t ⟨i.val % 4096, by omega⟩ (place j.val))) (sineAt t ⟨i.val % 4096, by omega⟩ (place j.val))

/-- The block indices at a grid point. -/
theorem idx : ∀ t : Fin cfg0.N,
    win0_0.index t = ![(grid0.coords t 0).val, 3 + (grid0.coords t 1).val]
    ∧ win0_1.index t = ![0, (grid0.coords t 1).val]
    ∧ win0_2.index t = ![(grid0.coords t 0).val % 4, 0]
    ∧ win0_3.index t = ![(grid0.coords t 0).val % 4, 0]
    ∧ win0_4.index t = ![(grid0.coords t 0).val, (grid0.coords t 1).val] := by
  decide +kernel

variable (m : (ℓ : Loc nD τ sig) → Buf (Elt Ideal) ℓ) (c : Dev nD)

/-- Two tables of half a head side by side, at a place of a head. -/
theorem pair_apply (f g : FVec Ideal S4096x64 .f32) (p : Fin 4096) (d : Fin 128) :
    concatenate S4096x128 1 [⟨S4096x64, f⟩, ⟨S4096x64, g⟩] concatenates_S4096x64_S4096x64_S4096x128_d1 (ix2 p d)
      = if d.val < 64 then f (ix2 p ⟨d.val % 64, by omega⟩) else g (ix2 p ⟨d.val % 64, by omega⟩) := by
  by_cases h : d.val < 64
  · rw [if_pos h]
    refine concatenate_pair_apply_left (1 : Fin S4096x128.rank) f g _ (ix2 p d) rfl (ix2 p ⟨d.val % 64, by omega⟩) fun b => ?_
    fin_cases b
    · rfl
    · exact Nat.mod_eq_of_lt h
  · rw [if_neg h]
    refine concatenate_pair_apply_right (1 : Fin S4096x128.rank) f g _ (ix2 p d) rfl rfl (ix2 p ⟨d.val % 64, by omega⟩) (fun b hb => ?_) ?_
    · fin_cases b
      · rfl
      · exact absurd rfl hb
    · show d.val % 64 + 64 = d.val
      omega

/-- The cosines that the call reads. -/
theorem cos_apply (p : Fin 4096) (d : Fin 128) :
    V m c main_v2 (ix2 p d) = Ideal.cos (angleAt (m ((c.tc : Thread nD τ).loc main_arg2)) p d) := by
  have e : V m c main_v2 = concatenate S4096x128 1 [⟨S4096x64, (Host.cos (m ((c.tc : Thread nD τ).loc main_arg2) : FVec Ideal S4096x64 .f32) : FVec Ideal S4096x64 .f32)⟩,
      ⟨S4096x64, (Host.cos (m ((c.tc : Thread nD τ).loc main_arg2) : FVec Ideal S4096x64 .f32) : FVec Ideal S4096x64 .f32)⟩] concatenates_S4096x64_S4096x64_S4096x128_d1 := by
    simp only [V, hostOps0, StableHlo.after_cons, StableHlo.after_nil]
    rfl
  rw [e, pair_apply, ite_self]
  rfl

/-- The signed sines that the call reads. -/
theorem sin_apply (p : Fin 4096) (d : Fin 128) :
    V m c main_v6 (ix2 p d) = sineAt (m ((c.tc : Thread nD τ).loc main_arg2)) p d := by
  have e : V m c main_v6 = concatenate S4096x128 1 [⟨S4096x64, (Host.negf (Host.sin (m ((c.tc : Thread nD τ).loc main_arg2) : FVec Ideal S4096x64 .f32)) : FVec Ideal S4096x64 .f32)⟩,
      ⟨S4096x64, (Host.sin (m ((c.tc : Thread nD τ).loc main_arg2) : FVec Ideal S4096x64 .f32) : FVec Ideal S4096x64 .f32)⟩] concatenates_S4096x64_S4096x64_S4096x128_d1 := by
    simp only [V, hostOps0, StableHlo.after_cons, StableHlo.after_nil]
    rfl
  rw [e, pair_apply]
  rfl

/-- The value at a column is that of the head's elements, gains, cosine and sine. -/
theorem turned_congr {x x' g g' : Fin 128 → EReal} {d d' : Fin 128} {u u' w w' : EReal} (hx : ∀ e, x e = x' e) (hg : ∀ e, g e = g' e)
    (hd : d = d') (hu : u = u') (hw : w = w') : turned x g d u w = turned x' g' d' u' w' := by
  obtain rfl : x = x' := funext hx
  obtain rfl : g = g' := funext hg
  rw [hd, hu, hw]

/-- The result array after the run. -/
theorem array_eq : (dats m 0 c).arrAt 4 cfg0.N
    = fun y => resultAt (m ((c.tc : Thread nD τ).loc main_arg0)) (m ((c.tc : Thread nD τ).loc main_arg1))
        (m ((c.tc : Thread nD τ).loc main_arg2)) (y 0) (y 1) := by
  refine (dats m 0 c).arrAt_eq_of_covers 4 _ (by decide +kernel) fun t hf y => ?_
  blk_simp
  rw [after0_4]
  idx_vars y
  refine (block_apply _ _ _ _ _ _).trans ?_
  unfold resultAt
  rw [← cos_apply m c, ← sin_apply m c]
  refine turned_congr (fun e => ?_) (fun e => ?_) ?_ ?_ ?_
  · blk_ext [iblk, V_main_arg0, idx t, headCol]
  · blk_ext [iblk, V_main_arg1, idx t, headCol]
  · refine Fin.ext ?_
    have hy := (idx t).2.2.2.2
    show y1.val % 128 = (win0_4.index t 1 * 512 + 1 * y1.val) % 128
    rw [hy]
    show y1.val % 128 = ((grid0.coords t 1).val * 512 + 1 * y1.val) % 128
    omega
  · blk_ext [iblk, idx t, place]
  · blk_ext [iblk, idx t, place]

end Cert.RotaryBIdeal.Gen

namespace Cert.RotaryBReferenceIdeal.Read

open Idealize.ShloMosaic Idealize.ShloMosaic.TcCoe
open Cert.RotaryBIdeal.Gen (headNorm half turned angleAt sineAt place resultAt)

variable (a : (⟨S16384x19456, .bf16⟩ : BufTy).Contents (Elt Ideal)) (g : (⟨S1x2048, .f32⟩ : BufTy).Contents (Elt Ideal))
variable (t : (⟨S4096x64, .f32⟩ : BufTy).Contents (Elt Ideal)) (b : Fin 4) (p : Fin 4096) (h : Fin 16)

/-- The elements by heads. -/
theorem heads_apply (d : Fin 128) :
    val_main_v2 (F := Ideal) a (ix4 b p h d) = a (ix2 ⟨b.val * 4096 + p.val, by omega⟩ ⟨1536 + (h.val * 128 + d.val), by omega⟩) := by
  rw [val_main_v2_apply, val_main_v1_apply, val_main_v0_apply]
  refine congrArg a (funext fun e => ?_)
  fin_cases e
  · refine Fin.ext ?_
    show (((b.val * 4096 + p.val) * 16 + h.val) * 128 + d.val) / 2048 = b.val * 4096 + p.val
    omega
  · refine Fin.ext ?_
    show 1536 + (((b.val * 4096 + p.val) * 16 + h.val) * 128 + d.val) % 2048 = 1536 + (h.val * 128 + d.val)
    omega

/-- The normed heads. -/
theorem normed_apply (d : Fin 128) :
    val_main_v16 (F := Ideal) a g (ix4 b p h d)
      = headNorm (fun e => a (ix2 ⟨b.val * 4096 + p.val, by omega⟩ ⟨1536 + (h.val * 128 + e.val), by omega⟩))
          (a (ix2 ⟨b.val * 4096 + p.val, by omega⟩ ⟨1536 + (h.val * 128 + d.val), by omega⟩)) (g (ix2 0 ⟨h.val * 128 + d.val, by omega⟩)) := by
  rw [val_main_v16_apply, val_main_v12_apply, val_main_v11_apply, val_main_v10_apply, val_main_v9_apply, val_main_v7_apply,
    val_main_v5_apply, val_main_v4_apply, val_main_v6_apply, val_main_v8_apply, val_main_v15_apply, val_main_v14_apply, val_main_v13_apply,
    heads_apply]
  show _ * Ideal.rsqrt (Ideal.div (Ideal.ofBits .f32 0x00000000#32 + _) (Ideal.ofBits .f32 0x43000000#32) + Ideal.ofBits .f32 0x358637BD#32) * _ = _
  rw [show Ideal.ofBits .f32 0x00000000#32 = 0 by simp [Ideal.ofBits, Ideal.ieee], zero_add]
  unfold headNorm
  refine congrArg₂ (· * ·) (congrArg (fun z => _ * Ideal.rsqrt (Ideal.div z _ + _)) (Finset.sum_congr rfl fun e _ => ?_)) (congrArg g (funext fun e => ?_))
  · rw [val_main_v3_apply]
    beta_reduce
    rw [← heads_apply a b p h e]
    refine congrArg (fun y => val_main_v2 (F := Ideal) a y * val_main_v2 (F := Ideal) a y) (funext fun e => ?_)
    fin_cases e <;> rfl
  · fin_cases e
    · rfl
    · refine Fin.ext ?_
      show (h.val * 128 + d.val) % 2048 = h.val * 128 + d.val
      omega

/-- The rotated heads. -/
theorem turned_apply (d : Fin 128) :
    val_main_v33 (F := Ideal) a g t (ix4 b p h d)
      = turned (fun e => a (ix2 ⟨b.val * 4096 + p.val, by omega⟩ ⟨1536 + (h.val * 128 + e.val), by omega⟩))
          (fun e => g (ix2 0 ⟨h.val * 128 + e.val, by omega⟩)) d (Ideal.cos (angleAt t p d)) (sineAt t p d) := by
  unfold val_main_v33 turned sineAt
  by_cases hd : d.val < 64
  · rw [if_pos hd]
    refine (concatenate_pair_apply_left (3 : Fin S4x4096x16x128.rank) (val_main_v27 (F := Ideal) a g t) (val_main_v32 (F := Ideal) a g t) _ (ix4 b p h d) rfl (ix4 b p h ⟨d.val, hd⟩) fun b => ?_).trans ?_
    · fin_cases b <;> rfl
    rw [val_main_v27_apply, val_main_v24_apply, val_main_v26_apply, val_main_v21_apply, val_main_v22_apply, val_main_v23_apply, val_main_v25_apply,
      val_main_v18_apply, val_main_v17_apply, val_main_v20_apply, val_main_v19_apply, ← normed_apply, ← normed_apply]
    show _ * Ideal.cos _ - _ * Ideal.sin _ = _
    rw [sub_eq_add_neg, ← mul_neg]
    refine congrArg₂ (· + ·) (congrArg₂ (· * ·) (congrArg (val_main_v16 (F := Ideal) a g) (funext fun e => ?_)) (congrArg Ideal.cos (congrArg t (funext fun e => ?_))))
      (congrArg₂ (· * ·) (congrArg (val_main_v16 (F := Ideal) a g) (funext fun e => ?_)) (congrArg (fun z => -Ideal.sin z) (congrArg t (funext fun e => ?_))))
    all_goals
      fin_cases e
      all_goals first | rfl | refine Fin.ext ?_
    · show d.val = d.val % 64
      omega
    · show 64 + d.val = (d.val + 64) % 128
      omega
    · show d.val = d.val % 64
      omega
  · rw [if_neg hd]
    refine (concatenate_pair_apply_right (3 : Fin S4x4096x16x128.rank) (val_main_v27 (F := Ideal) a g t) (val_main_v32 (F := Ideal) a g t) _ (ix4 b p h d) rfl rfl (ix4 b p h ⟨d.val - 64, by omega⟩) (fun b hb => ?_) ?_).trans ?_
    · fin_cases b
      · rfl
      · rfl
      · rfl
      · exact absurd rfl hb
    · show d.val - 64 + 64 = d.val
      omega
    rw [val_main_v32_apply, val_main_v29_apply, val_main_v31_apply, val_main_v21_apply, val_main_v22_apply, val_main_v28_apply, val_main_v30_apply,
      val_main_v18_apply, val_main_v17_apply, val_main_v20_apply, val_main_v19_apply, ← normed_apply, ← normed_apply]
    show _ * Ideal.cos _ + _ * Ideal.sin _ = _
    refine congrArg₂ (· + ·) (congrArg₂ (· * ·) (congrArg (val_main_v16 (F := Ideal) a g) (funext fun e => ?_)) (congrArg Ideal.cos (congrArg t (funext fun e => ?_))))
      (congrArg₂ (· * ·) (congrArg (val_main_v16 (F := Ideal) a g) (funext fun e => ?_)) (congrArg Ideal.sin (congrArg t (funext fun e => ?_))))
    all_goals
      fin_cases e
      all_goals first | rfl | refine Fin.ext ?_
    · show 64 + (d.val - 64) = d.val
      omega
    · show d.val - 64 = d.val % 64
      omega
    · show d.val - 64 = (d.val + 64) % 128
      omega
    · show d.val - 64 = d.val % 64
      omega

/-- The reference's result at an index. -/
theorem result_apply (i : Fin 16384) (j : Fin 2048) : val_main_v35 (F := Ideal) a g t (ix2 i j) = resultAt a g t i j := by
  rw [val_main_v35_apply, val_main_v34_apply]
  refine Eq.trans (congrArg (val_main_v33 (F := Ideal) a g t) (funext fun e => ?_))
    ((turned_apply a g t ⟨i.val / 4096, by omega⟩ ⟨i.val % 4096, by omega⟩ ⟨j.val / 128, by omega⟩ (place j.val)).trans ?_)
  · fin_cases e
    · refine Fin.ext ?_
      show (i.val * 2048 + j.val) / 8388608 = i.val / 4096
      omega
    · refine Fin.ext ?_
      show (i.val * 2048 + j.val) / 2048 % 4096 = i.val % 4096
      omega
    · refine Fin.ext ?_
      show (i.val * 2048 + j.val) / 128 % 16 = j.val / 128
      omega
    · refine Fin.ext ?_
      show (i.val * 2048 + j.val) % 128 = j.val % 128
      omega
  · unfold resultAt
    simp only [Nat.div_add_mod']

end Cert.RotaryBReferenceIdeal.Read

namespace Cert.Proof.RotaryB

open Idealize.ShloMosaic Idealize.ShloMosaic.TcCoe Idealize.SL.Sem

/-- The kernel and the reference end with the same result. -/
theorem algebraic : Cert.algebraic_RotaryBIdeal_RotaryBReferenceIdeal := by
  pair_intro
  · run_from Cert.RotaryBIdeal.Value.run_blocks m g
  · run_from Cert.RotaryBReferenceIdeal.Value.run m' g'
    refine Eq.trans ?_ (Cert.RotaryBIdeal.Gen.array_eq m c).symm
    rw [Cert.RotaryBReferenceIdeal.Read.val_main_v35_eq, (hagree c).1, (hagree c).2.1, (hagree c).2.2]
    funext y
    exact (congrArg _ (eq_ix2 y)).trans (Cert.RotaryBReferenceIdeal.Read.result_apply _ _ _ _ _)

/-- The reference ends with its arguments unchanged and every semaphore at zero. -/
theorem reference_frame : Cert.quiescent_RotaryBReferenceIdeal := fun m ρ _ =>
  (θ_run Cert.RotaryBReferenceIdeal.defs _ _).mono
    (fun r h => ⟨fun c => (h c).2, Idealize.ShloMosaic.sem_eq_zero_of_no_sems (by decide) r.2⟩)
    (Cert.RotaryBReferenceIdeal.Value.run (F := Ideal) m ρ)

end Cert.Proof.RotaryB

end
-- ==== Proof.RotaryCClaim.lean ====
/-
  The value claim of the grouped attention's head norm with its rotation by two angles: at every index the kernel's
  result and the reference's are the head's element, times the reciprocal root mean square of its head, times the gain,
  times the cosine, plus the element a quarter of a head away in its half, normed alike, times the signed sine.
-/
module

public import proofs.«01_k».proof.Defs
public import proofs.«01_k».proof.Proof.Gen.RotaryCIdeal.Value
public import proofs.«01_k».proof.Proof.Gen.RotaryCReferenceIdeal.Read
public import Idealize.ShloMosaic.Lib.Pipeline.ValueKit
public import Idealize.ShloMosaic.Lib.Pipeline.Covers
public import Idealize.ShloMosaic.Lib.KernelVsHost
public import Idealize.ShloMosaic.Lib.Claim

@[expose] public section

set_option maxRecDepth 16384
set_option maxHeartbeats 1000000

noncomputable section

namespace Cert.RotaryCIdeal.Gen

open Idealize.ShloMosaic Idealize.ShloMosaic.TcCoe Idealize.SL.Sem
open Idealize.ShloMosaic.Pipeline (Dat Cfg Window)

/-- The element `y` of a head with the elements `v`, normed and times the gain `g`. -/
def headNorm (v : Fin 128 → EReal) (y g : EReal) : EReal :=
  y * Ideal.rsqrt (Ideal.div (∑ d, v d * v d) (Ideal.ofBits .f32 0x43000000#32) + Ideal.ofBits .f32 0x358637BD#32) * g

/-- The place a quarter of a head away, in the same half. -/
def pairPlace (d : Fin 128) : Fin 128 := if h : d.val % 64 < 32 then ⟨d.val + 32, by omega⟩ else ⟨d.val - 32, by omega⟩

/-- In the first quarter of a half the place is 32 further. -/
theorem pairPlace_first {d : Fin 128} (h : d.val % 64 < 32) : (pairPlace d).val = d.val + 32 := by rw [pairPlace, dif_pos h]

/-- In the second quarter of a half the place is 32 back. -/
theorem pairPlace_second {d : Fin 128} (h : ¬ d.val % 64 < 32) : (pairPlace d).val = d.val - 32 := by rw [pairPlace, dif_neg h]

/-- A sum of squares, each times 1/128, is the sum over 128. -/
theorem mean_eq (v : Fin 128 → EReal) :
    ∑ d, v d * v d * Ideal.ofBits .bf16 0x3C00#16 = Ideal.div (∑ d, v d * v d) (Ideal.ofBits .f32 0x43000000#32) := by
  have e1 : Ideal.ofBits .bf16 0x3C00#16 = ((1 / 128 : ℝ) : EReal) := by
    simp [Ideal.ofBits, Ideal.ieee]
    exact (EReal.coe_mul _ _).symm.trans (congrArg _ (by norm_num))
  have e2 : Ideal.ofBits .f32 0x43000000#32 = ((128 : ℝ) : EReal) := by
    simp [Ideal.ofBits, Ideal.ieee]
    exact (EReal.coe_mul _ _).symm.trans (congrArg _ (by norm_num))
  rw [e1, e2, Ideal.div_coe (by norm_num)]
  have h : ∀ s : Finset (Fin 128), ∑ d ∈ s, v d * v d * ((1 / 128 : ℝ) : EReal) = (∑ d ∈ s, v d * v d) * ((1 / 128 : ℝ) : EReal) := by
    intro s
    induction s using Finset.induction_on with
    | empty => simp
    | insert a s ha ih =>
      rw [Finset.sum_insert ha, Finset.sum_insert ha, ih,
        EReal.right_distrib_of_nonneg_of_ne_top (EReal.coe_nonneg.2 (by norm_num)) (EReal.coe_ne_top _)]
  exact h _

/-- The norm of a head's block. -/
def normBlock (Q : FVec Ideal S1024x128 .f32) (g : Vec Ideal S1x128 .f32) : FVec Ideal S1024x128 .f32 :=
  mulf (mulf Q (rsqrt (addf (matmul dot_S1024x128_S128x128_S1024x128_1_0_0_1_n_n none (truncf .bf16 (mulf Q Q) bitsLt_bf16_f32)
    (k0_pay3 (F := Ideal)) (constant S1024x128 .f32 0x00000000#32)) (broadcast S1024x128 (Scalar.ofBits .f32 0x358637BD#32)))))
    (broadcastTo S1024x128 g broadcasts_S1x128_S1024x128)

/-- The rotation of a head's block. -/
def turnBlock (Y : FVec Ideal S1024x128 .f32) (u w : Vec Ideal S1024x128 .f32) : FVec Ideal S1024x128 .bf16 :=
  truncf .bf16 (addf (mulf Y (shapeCast S1024x128 u shapeCasts_S1024x128_S1024x128))
    (mulf (select k0_pay10 (dynamicRotate 1 96#32 none Y rotates_S1024x128_d1) (dynamicRotate 1 32#32 none Y rotates_S1024x128_d1)) (shapeCast S1024x128 w shapeCasts_S1024x128_S1024x128))) bitsLt_bf16_f32

/-- The norm of a head's block at an index. -/
theorem normBlock_apply (Q : FVec Ideal S1024x128 .f32) (g : Vec Ideal S1x128 .f32) (r : Fin 1024) (d : Fin 128) :
    normBlock Q g (ix2 r d) = headNorm (fun e => Q (ix2 r e)) (Q (ix2 r d)) (g (ix2 0 d)) := by
  unfold headNorm
  rw [← mean_eq]
  pointwise [normBlock, k0_pay3]

/-- The mask holds in the first quarter of each half. -/
theorem mask_apply (r : Fin 1024) (d : Fin 128) : k0_pay10 (ix2 r d) = if d.val % 64 < 32 then 1#1 else 0#1 := by
  pointwise [k0_pay10]
  revert d
  decide +kernel

/-- The rotation of a head's block at an index. -/
theorem turnBlock_apply (Y : FVec Ideal S1024x128 .f32) (u w : Vec Ideal S1024x128 .f32) (r : Fin 1024) (d : Fin 128) :
    turnBlock Y u w (ix2 r d) = Y (ix2 r d) * u (ix2 r d) + Y (ix2 r (pairPlace d)) * w (ix2 r d) := by
  have e : select k0_pay10 (dynamicRotate 1 96#32 none Y rotates_S1024x128_d1) (dynamicRotate 1 32#32 none Y rotates_S1024x128_d1) (ix2 r d)
      = Y (ix2 r (pairPlace d)) := by
    show (if k0_pay10 (ix2 r d) = 1#1 then _ else _) = _
    rw [mask_apply]
    by_cases h : d.val % 64 < 32
    · rw [if_pos h, if_pos rfl]
      refine dynamicRotate_apply _ _ _ _ _ _ fun b => ?_
      fin_cases b
      · rfl
      · show (pairPlace d).val = (d.val + 128 - 96 % 128) % 128
        rw [pairPlace_first h]
        omega
    · rw [if_neg h, if_neg (by decide)]
      refine dynamicRotate_apply _ _ _ _ _ _ fun b => ?_
      fin_cases b
      · rfl
      · show (pairPlace d).val = (d.val + 128 - 32 % 128) % 128
        rw [pairPlace_second h]
        omega
  have e1 : ∀ x : Vec Ideal S1024x128 .f32, shapeCast S1024x128 x shapeCasts_S1024x128_S1024x128 (ix2 r d) = x (ix2 r d) := fun x =>
    shapeCast_apply x shapeCasts_S1024x128_S1024x128 (ix2 r d) (ix2 r d) rfl
  show Y (ix2 r d) * _ + _ * _ = _
  rw [e, e1, e1]

/-- The block's column `d` of the head that holds the block's column `s`. -/
def headCol (s : Fin 512) (d : Fin 128) : Fin 512 := ⟨s.val / 128 * 128 + d.val, by omega⟩

/-- A column's place in its head. -/
def place (s : ℕ) : Fin 128 := ⟨s % 128, by omega⟩

/-- The value at a column: the elements `x` and the gains `g` of its head, its place `d`, the cosine `u` and the sine `w`. -/
def turned (x g : Fin 128 → EReal) (d : Fin 128) (u w : EReal) : EReal :=
  headNorm x (x d) (g d) * u + headNorm x (x (pairPlace d)) (g (pairPlace d)) * w

/-- The slice of a block from the column `o`. -/
theorem head_apply (v : Vec Ideal S1024x512 .bf16) (x1 : Vec Ideal S1x512 .f32) (u w : Vec Ideal S1024x128 .f32)
    (g : Vec Ideal S1x128 .f32) (u' w' : Vec Ideal S1024x128 .f32) (o : ℕ) (ho : o + 128 ≤ 512) (h128 : o % 128 = 0)
    (h : S1024x512.Slices ![0, o] S1024x128) (r r' : Fin 1024) (s : Fin 512) (d : Fin 128) (h0 : r.val = r'.val) (h1 : s.val = o + d.val)
    (hg : ∀ e : Fin 128, g (ix2 0 e) = x1 (ix2 0 ⟨o + e.val, by omega⟩)) (hu : u' = u) (hw : w' = w) :
    turnBlock (normBlock (extractStridedSlice S1024x128 ![0, o] (k0_pay2 v) h) g) u' w' (ix2 r' d)
      = turned (fun e => v (ix2 r (headCol s e))) (fun e => x1 (ix2 0 (headCol s e))) (place s.val) (u (ix2 r (place s.val))) (w (ix2 r (place s.val))) := by
  obtain rfl : r = r' := Fin.ext h0
  subst hu hw
  have ed : place s.val = d := Fin.ext (by show s.val % 128 = d.val; omega)
  have ec : ∀ e : Fin 128, headCol s e = ⟨o + e.val, by omega⟩ := fun e => Fin.ext (by show s.val / 128 * 128 + e.val = o + e.val; omega)
  have es : ∀ e : Fin 128, extractStridedSlice S1024x128 ![0, o] (k0_pay2 v) h (ix2 r e) = v (ix2 r (headCol s e)) := fun e => by
    refine (extractStridedSlice_apply ![0, o] (k0_pay2 v) h (ix2 r e) (ix2 r (headCol s e)) fun a => ?_).trans rfl
    fin_cases a
    · exact (Nat.zero_add _).symm
    · show s.val / 128 * 128 + e.val = o + e.val
      omega
  rw [turnBlock_apply, normBlock_apply, normBlock_apply]
  simp only [es, hg, ← ec, ed, turned]

/-- The first block is loaded whole. -/
theorem whole0 (x0 : Vec Ideal S1024x512 .bf16) : View.ld x0 r0_0 = x0 :=
  funext fun x => View.ld_unit_apply_of _ _ _ _ x x fun a => by fin_cases a <;> simp

/-- The tables' blocks are loaded whole. -/
theorem whole2 (x2 : Vec Ideal S1024x128 .f32) : View.ld x2 r0_2 = x2 :=
  funext fun x => View.ld_unit_apply_of _ _ _ _ x x fun a => by fin_cases a <;> simp

/-- The body's block. -/
theorem block_apply (a : Vec Ideal S1024x512 .bf16) (b : Vec Ideal S1x512 .f32) (u w : Vec Ideal S1024x128 .f32) (r : Fin 1024) (s : Fin 512) :
    out0_4 a b u w (ix2 r s) = turned (fun e => a (ix2 r (headCol s e))) (fun e => b (ix2 0 (headCol s e))) (place s.val)
      (u (ix2 r (place s.val))) (w (ix2 r (place s.val))) := by
  canon_tiles x h using Gen.cover0_4 ..
  all_goals
    idx_vars x
    simp only [k0_pay22, k0_pay23, whole0]
  · refine head_apply a b u w _ _ _ 384 (by norm_num) (by norm_num) _ _ _ _ _ h0 h1 (fun e => ?_) (whole2 u) (whole2 w)
    exact View.ld_unit_apply_of _ _ _ _ _ _ fun a => by fin_cases a <;> simp_all
  · refine head_apply a b u w _ _ _ 256 (by norm_num) (by norm_num) _ _ _ _ _ h0 h1 (fun e => ?_) (whole2 u) (whole2 w)
    exact View.ld_unit_apply_of _ _ _ _ _ _ fun a => by fin_cases a <;> simp_all
  · refine head_apply a b u w _ _ _ 128 (by norm_num) (by norm_num) _ _ _ _ _ h0 h1 (fun e => ?_) (whole2 u) (whole2 w)
    exact View.ld_unit_apply_of _ _ _ _ _ _ fun a => by fin_cases a <;> simp_all
  · refine head_apply a b u w _ _ _ 0 (by norm_num) (by norm_num) _ _ _ _ _ h0 (h1.trans (Nat.zero_add _).symm) (fun e => ?_) (whole2 u) (whole2 w)
    exact View.ld_unit_apply_of _ _ _ _ _ _ fun a => by fin_cases a <;> simp_all

/-- The angle at a place of a head. -/
def angleAt (t q : S4096x32.Idx → EReal) (p : Fin 4096) (d : Fin 128) : EReal :=
  if d.val < 64 then t (ix2 p ⟨d.val % 32, by omega⟩) else q (ix2 p ⟨d.val % 32, by omega⟩)

/-- The signed sine at a place of a head. -/
def sineAt (t q : S4096x32.Idx → EReal) (p : Fin 4096) (d : Fin 128) : EReal :=
  if d.val % 64 < 32 then -Ideal.sin (angleAt t q p d) else Ideal.sin (angleAt t q p d)

/-- The result at row `i` and column `j`. -/
def resultAt (a : S16384x19456.Idx → EReal) (g : S1x2048.Idx → EReal) (t q : S4096x32.Idx → EReal) (i : Fin 16384) (j : Fin 2048) : EReal :=
  turned (fun e => a (ix2 i ⟨4608 + (j.val / 128 * 128 + e.val), by omega⟩)) (fun e => g (ix2 0 ⟨j.val / 128 * 128 + e.val, by omega⟩)) (place j.val)
    (Ideal.cos (angleAt t q ⟨i.val % 4096, by omega⟩ (place j.val))) (sineAt t q ⟨i.val % 4096, by omega⟩ (place j.val))

/-- The block indices at a grid point. -/
theorem idx : ∀ t : Fin cfg0.N,
    win0_0.index t = ![(grid0.coords t 0).val, 9 + (grid0.coords t 1).val]
    ∧ win0_1.index t = ![0, (grid0.coords t 1).val]
    ∧ win0_2.index t = ![(grid0.coords t 0).val % 4, 0]
    ∧ win0_3.index t = ![(grid0.coords t 0).val % 4, 0]
    ∧ win0_4.index t = ![(grid0.coords t 0).val, (grid0.coords t 1).val] := by
  decide +kernel

variable (m : (ℓ : Loc nD τ sig) → Buf (Elt Ideal) ℓ) (c : Dev nD)

/-- Four tables of a quarter of a head side by side, at a place of a head. -/
theorem quad_apply (f g k l : FVec Ideal S4096x32 .f32) (p : Fin 4096) (d : Fin 128) :
    concatenate S4096x128 1 [⟨S4096x32, f⟩, ⟨S4096x32, g⟩, ⟨S4096x32, k⟩, ⟨S4096x32, l⟩] concatenates_S4096x32_S4096x32_S4096x32_S4096x32_S4096x128_d1 (ix2 p d)
      = if d.val < 64 then if d.val % 64 < 32 then f (ix2 p ⟨d.val % 32, by omega⟩) else g (ix2 p ⟨d.val % 32, by omega⟩)
        else if d.val % 64 < 32 then k (ix2 p ⟨d.val % 32, by omega⟩) else l (ix2 p ⟨d.val % 32, by omega⟩) := by
  have hd := d.isLt
  by_cases h1 : d.val < 32
  · rw [if_pos (by omega), if_pos (by omega)]
    pointwise
    refine (dif_pos h1).trans ?_
    exact congrArg (fun e => f (ix2 p e)) (Fin.ext (by show d.val = d.val % 32; omega))
  by_cases h2 : d.val - 32 < 32
  · rw [if_pos (by omega), if_neg (by omega)]
    pointwise
    refine (dif_neg h1).trans ((dif_pos h2).trans ?_)
    exact congrArg (fun e => g (ix2 p e)) (Fin.ext (by show d.val - 32 = d.val % 32; omega))
  by_cases h3 : d.val - 32 - 32 < 32
  · rw [if_neg (by omega), if_pos (by omega)]
    pointwise
    refine (dif_neg h1).trans ((dif_neg h2).trans ((dif_pos h3).trans ?_))
    exact congrArg (fun e => k (ix2 p e)) (Fin.ext (by show d.val - 32 - 32 = d.val % 32; omega))
  rw [if_neg (by omega), if_neg (by omega)]
  pointwise
  refine (dif_neg h1).trans ((dif_neg h2).trans ((dif_neg h3).trans ?_))
  exact congrArg (fun e => l (ix2 p e)) (Fin.ext (by show d.val - 32 - 32 - 32 = d.val % 32; omega))

/-- The cosines that the call reads. -/
theorem cos_apply (p : Fin 4096) (d : Fin 128) :
    V m c main_v4 (ix2 p d) = Ideal.cos (angleAt (m ((c.tc : Thread nD τ).loc main_arg2)) (m ((c.tc : Thread nD τ).loc main_arg3)) p d) := by
  have e : V m c main_v4 = concatenate S4096x128 1 [⟨S4096x32, (Host.cos (m ((c.tc : Thread nD τ).loc main_arg2) : FVec Ideal S4096x32 .f32) : FVec Ideal S4096x32 .f32)⟩,
      ⟨S4096x32, (Host.cos (m ((c.tc : Thread nD τ).loc main_arg2) : FVec Ideal S4096x32 .f32) : FVec Ideal S4096x32 .f32)⟩,
      ⟨S4096x32, (Host.cos (m ((c.tc : Thread nD τ).loc main_arg3) : FVec Ideal S4096x32 .f32) : FVec Ideal S4096x32 .f32)⟩,
      ⟨S4096x32, (Host.cos (m ((c.tc : Thread nD τ).loc main_arg3) : FVec Ideal S4096x32 .f32) : FVec Ideal S4096x32 .f32)⟩] concatenates_S4096x32_S4096x32_S4096x32_S4096x32_S4096x128_d1 := by
    simp only [V, hostOps0, StableHlo.after_cons, StableHlo.after_nil]
    rfl
  rw [e, quad_apply]
  unfold angleAt
  split_ifs <;> rfl

/-- The signed sines that the call reads. -/
theorem sin_apply (p : Fin 4096) (d : Fin 128) :
    V m c main_v11 (ix2 p d) = sineAt (m ((c.tc : Thread nD τ).loc main_arg2)) (m ((c.tc : Thread nD τ).loc main_arg3)) p d := by
  have e : V m c main_v11 = concatenate S4096x128 1 [⟨S4096x32, (Host.negf (Host.sin (m ((c.tc : Thread nD τ).loc main_arg2) : FVec Ideal S4096x32 .f32)) : FVec Ideal S4096x32 .f32)⟩,
      ⟨S4096x32, (Host.sin (m ((c.tc : Thread nD τ).loc main_arg2) : FVec Ideal S4096x32 .f32) : FVec Ideal S4096x32 .f32)⟩,
      ⟨S4096x32, (Host.negf (Host.sin (m ((c.tc : Thread nD τ).loc main_arg3) : FVec Ideal S4096x32 .f32)) : FVec Ideal S4096x32 .f32)⟩,
      ⟨S4096x32, (Host.sin (m ((c.tc : Thread nD τ).loc main_arg3) : FVec Ideal S4096x32 .f32) : FVec Ideal S4096x32 .f32)⟩] concatenates_S4096x32_S4096x32_S4096x32_S4096x32_S4096x128_d1 := by
    simp only [V, hostOps0, StableHlo.after_cons, StableHlo.after_nil]
    rfl
  rw [e, quad_apply]
  unfold sineAt angleAt
  split_ifs <;> rfl

/-- The value at a column is that of the head's elements, gains, cosine and sine. -/
theorem turned_congr {x x' g g' : Fin 128 → EReal} {d d' : Fin 128} {u u' w w' : EReal} (hx : ∀ e, x e = x' e) (hg : ∀ e, g e = g' e)
    (hd : d = d') (hu : u = u') (hw : w = w') : turned x g d u w = turned x' g' d' u' w' := by
  obtain rfl : x = x' := funext hx
  obtain rfl : g = g' := funext hg
  rw [hd, hu, hw]

/-- The result array after the run. -/
theorem array_eq : (dats m 0 c).arrAt 4 cfg0.N
    = fun y => resultAt (m ((c.tc : Thread nD τ).loc main_arg0)) (m ((c.tc : Thread nD τ).loc main_arg1))
        (m ((c.tc : Thread nD τ).loc main_arg2)) (m ((c.tc : Thread nD τ).loc main_arg3)) (y 0) (y 1) := by
  refine (dats m 0 c).arrAt_eq_of_covers 4 _ (by decide +kernel) fun t hf y => ?_
  blk_simp
  rw [after0_4]
  idx_vars y
  refine (block_apply _ _ _ _ _ _).trans ?_
  unfold resultAt
  rw [← cos_apply m c, ← sin_apply m c]
  refine turned_congr (fun e => ?_) (fun e => ?_) ?_ ?_ ?_
  · blk_ext [iblk, V_main_arg0, idx t, headCol]
  · blk_ext [iblk, V_main_arg1, idx t, headCol]
  · refine Fin.ext ?_
    have hy := (idx t).2.2.2.2
    show y1.val % 128 = (win0_4.index t 1 * 512 + 1 * y1.val) % 128
    rw [hy]
    show y1.val % 128 = ((grid0.coords t 1).val * 512 + 1 * y1.val) % 128
    omega
  · blk_ext [iblk, idx t, place]
  · blk_ext [iblk, idx t, place]

end Cert.RotaryCIdeal.Gen

namespace Cert.RotaryCReferenceIdeal.Read

open Idealize.ShloMosaic Idealize.ShloMosaic.TcCoe
open Cert.RotaryCIdeal.Gen (headNorm pairPlace pairPlace_first pairPlace_second turned angleAt sineAt place resultAt)

variable (a : (⟨S16384x19456, .bf16⟩ : BufTy).Contents (Elt Ideal)) (g : (⟨S1x2048, .f32⟩ : BufTy).Contents (Elt Ideal))
variable (t q : (⟨S4096x32, .f32⟩ : BufTy).Contents (Elt Ideal)) (b : Fin 4) (p : Fin 4096) (h : Fin 16)

/-- The elements by heads. -/
theorem heads_apply (d : Fin 128) :
    val_main_v2 (F := Ideal) a (ix4 b p h d) = a (ix2 ⟨b.val * 4096 + p.val, by omega⟩ ⟨4608 + (h.val * 128 + d.val), by omega⟩) := by
  rw [val_main_v2_apply, val_main_v1_apply, val_main_v0_apply]
  refine congrArg a (funext fun e => ?_)
  fin_cases e
  · refine Fin.ext ?_
    show (((b.val * 4096 + p.val) * 16 + h.val) * 128 + d.val) / 2048 = b.val * 4096 + p.val
    omega
  · refine Fin.ext ?_
    show 4608 + (((b.val * 4096 + p.val) * 16 + h.val) * 128 + d.val) % 2048 = 4608 + (h.val * 128 + d.val)
    omega

/-- The normed heads. -/
theorem normed_apply (d : Fin 128) :
    val_main_v16 (F := Ideal) a g (ix4 b p h d)
      = headNorm (fun e => a (ix2 ⟨b.val * 4096 + p.val, by omega⟩ ⟨4608 + (h.val * 128 + e.val), by omega⟩))
          (a (ix2 ⟨b.val * 4096 + p.val, by omega⟩ ⟨4608 + (h.val * 128 + d.val), by omega⟩)) (g (ix2 0 ⟨h.val * 128 + d.val, by omega⟩)) := by
  rw [val_main_v16_apply, val_main_v12_apply, val_main_v11_apply, val_main_v10_apply, val_main_v9_apply, val_main_v7_apply,
    val_main_v5_apply, val_main_v4_apply, val_main_v6_apply, val_main_v8_apply, val_main_v15_apply, val_main_v14_apply, val_main_v13_apply,
    heads_apply]
  show _ * Ideal.rsqrt (Ideal.div (Ideal.ofBits .f32 0x00000000#32 + _) (Ideal.ofBits .f32 0x43000000#32) + Ideal.ofBits .f32 0x358637BD#32) * _ = _
  rw [show Ideal.ofBits .f32 0x00000000#32 = 0 by simp [Ideal.ofBits, Ideal.ieee], zero_add]
  unfold headNorm
  refine congrArg₂ (· * ·) (congrArg (fun z => _ * Ideal.rsqrt (Ideal.div z _ + _)) (Finset.sum_congr rfl fun e _ => ?_)) (congrArg g (funext fun e => ?_))
  · rw [val_main_v3_apply]
    beta_reduce
    rw [← heads_apply a b p h e]
    refine congrArg (fun y => val_main_v2 (F := Ideal) a y * val_main_v2 (F := Ideal) a y) (funext fun e => ?_)
    fin_cases e <;> rfl
  · fin_cases e
    · rfl
    · refine Fin.ext ?_
      show (h.val * 128 + d.val) % 2048 = h.val * 128 + d.val
      omega

/-- The rotated heads' first half. -/
theorem turned_first (d : Fin 64) :
    val_main_v34 (F := Ideal) a g t (ix4 b p h d)
      = turned (fun e => a (ix2 ⟨b.val * 4096 + p.val, by omega⟩ ⟨4608 + (h.val * 128 + e.val), by omega⟩))
          (fun e => g (ix2 0 ⟨h.val * 128 + e.val, by omega⟩)) ⟨d.val, by omega⟩ (Ideal.cos (angleAt t q p ⟨d.val, by omega⟩)) (sineAt t q p ⟨d.val, by omega⟩) := by
  have hA : angleAt t q p ⟨d.val, by omega⟩ = t (ix2 p ⟨d.val % 32, by omega⟩) := by
    unfold angleAt
    rw [if_pos (by show d.val < 64; omega)]
  unfold turned sineAt
  rw [hA]
  unfold val_main_v34
  by_cases hd : d.val < 32
  · have hh : d.val % 64 < 32 := by omega
    have hp : (pairPlace ⟨d.val, by omega⟩).val = d.val + 32 := pairPlace_first hh
    rw [if_pos hh]
    refine (concatenate_pair_apply_left (3 : Fin S4x4096x16x64.rank) (val_main_v28 (F := Ideal) a g t) (val_main_v33 (F := Ideal) a g t) _ (ix4 b p h d) rfl (ix4 b p h ⟨d.val, hd⟩) fun b => ?_).trans ?_
    · fin_cases b <;> rfl
    rw [val_main_v28_apply, val_main_v25_apply, val_main_v27_apply, val_main_v22_apply, val_main_v23_apply, val_main_v17_apply, val_main_v17_apply, val_main_v24_apply, val_main_v26_apply, val_main_v19_apply, val_main_v18_apply, val_main_v21_apply, val_main_v20_apply, ← normed_apply, ← normed_apply]
    show _ * Ideal.cos _ - _ * Ideal.sin _ = _
    rw [sub_eq_add_neg, ← mul_neg]
    refine congrArg₂ (· + ·) (congrArg₂ (· * ·) (congrArg (val_main_v16 (F := Ideal) a g) (funext fun e => ?_)) (congrArg Ideal.cos (congrArg t (funext fun e => ?_))))
      (congrArg₂ (· * ·) (congrArg (val_main_v16 (F := Ideal) a g) (funext fun e => ?_)) (congrArg (fun z => -Ideal.sin z) (congrArg t (funext fun e => ?_))))
    all_goals
      fin_cases e
      all_goals first | rfl | refine Fin.ext ?_
    · show d.val = d.val % 32
      omega
    · show 32 + d.val = (pairPlace ⟨d.val, by omega⟩).val
      rw [hp]
      omega
    · show d.val = d.val % 32
      omega
  · have hh : ¬ d.val % 64 < 32 := by omega
    have hp : (pairPlace ⟨d.val, by omega⟩).val = d.val - 32 := pairPlace_second hh
    rw [if_neg hh]
    refine (concatenate_pair_apply_right (3 : Fin S4x4096x16x64.rank) (val_main_v28 (F := Ideal) a g t) (val_main_v33 (F := Ideal) a g t) _ (ix4 b p h d) rfl rfl (ix4 b p h ⟨d.val - 32, by omega⟩) (fun b hb => ?_) ?_).trans ?_
    · fin_cases b
      · rfl
      · rfl
      · rfl
      · exact absurd rfl hb
    · show d.val - 32 + 32 = d.val
      omega
    rw [val_main_v33_apply, val_main_v30_apply, val_main_v32_apply, val_main_v22_apply, val_main_v23_apply, val_main_v17_apply, val_main_v17_apply, val_main_v29_apply, val_main_v31_apply, val_main_v19_apply, val_main_v18_apply, val_main_v21_apply, val_main_v20_apply, ← normed_apply, ← normed_apply]
    show _ * Ideal.cos _ + _ * Ideal.sin _ = _
    refine congrArg₂ (· + ·) (congrArg₂ (· * ·) (congrArg (val_main_v16 (F := Ideal) a g) (funext fun e => ?_)) (congrArg Ideal.cos (congrArg t (funext fun e => ?_))))
      (congrArg₂ (· * ·) (congrArg (val_main_v16 (F := Ideal) a g) (funext fun e => ?_)) (congrArg Ideal.sin (congrArg t (funext fun e => ?_))))
    all_goals
      fin_cases e
      all_goals first | rfl | refine Fin.ext ?_
    · show 32 + (d.val - 32) = d.val
      omega
    · show d.val - 32 = d.val % 32
      omega
    · exact hp.symm
    · show d.val - 32 = d.val % 32
      omega

/-- The rotated heads' second half. -/
theorem turned_second (d : Fin 64) :
    val_main_v52 (F := Ideal) a g q (ix4 b p h d)
      = turned (fun e => a (ix2 ⟨b.val * 4096 + p.val, by omega⟩ ⟨4608 + (h.val * 128 + e.val), by omega⟩))
          (fun e => g (ix2 0 ⟨h.val * 128 + e.val, by omega⟩)) ⟨64 + d.val, by omega⟩ (Ideal.cos (angleAt t q p ⟨64 + d.val, by omega⟩)) (sineAt t q p ⟨64 + d.val, by omega⟩) := by
  have hA : angleAt t q p ⟨64 + d.val, by omega⟩ = q (ix2 p ⟨d.val % 32, by omega⟩) := by
    unfold angleAt
    rw [if_neg (by show ¬ 64 + d.val < 64; omega)]
    exact congrArg (fun k => q (ix2 p k)) (Fin.ext (by show (64 + d.val) % 32 = d.val % 32; omega))
  unfold turned sineAt
  rw [hA]
  unfold val_main_v52
  by_cases hd : d.val < 32
  · have hh : (64 + d.val) % 64 < 32 := by omega
    have hp : (pairPlace ⟨64 + d.val, by omega⟩).val = 64 + d.val + 32 := pairPlace_first hh
    rw [if_pos hh]
    refine (concatenate_pair_apply_left (3 : Fin S4x4096x16x64.rank) (val_main_v46 (F := Ideal) a g q) (val_main_v51 (F := Ideal) a g q) _ (ix4 b p h d) rfl (ix4 b p h ⟨d.val, hd⟩) fun b => ?_).trans ?_
    · fin_cases b <;> rfl
    rw [val_main_v46_apply, val_main_v43_apply, val_main_v45_apply, val_main_v40_apply, val_main_v41_apply, val_main_v35_apply, val_main_v35_apply, val_main_v42_apply, val_main_v44_apply, val_main_v37_apply, val_main_v36_apply, val_main_v39_apply, val_main_v38_apply, ← normed_apply, ← normed_apply]
    show _ * Ideal.cos _ - _ * Ideal.sin _ = _
    rw [sub_eq_add_neg, ← mul_neg]
    refine congrArg₂ (· + ·) (congrArg₂ (· * ·) (congrArg (val_main_v16 (F := Ideal) a g) (funext fun e => ?_)) (congrArg Ideal.cos (congrArg q (funext fun e => ?_))))
      (congrArg₂ (· * ·) (congrArg (val_main_v16 (F := Ideal) a g) (funext fun e => ?_)) (congrArg (fun z => -Ideal.sin z) (congrArg q (funext fun e => ?_))))
    all_goals
      fin_cases e
      all_goals first | rfl | refine Fin.ext ?_
    · show d.val = d.val % 32
      omega
    · show 64 + (32 + d.val) = (pairPlace ⟨64 + d.val, by omega⟩).val
      rw [hp]
      omega
    · show d.val = d.val % 32
      omega
  · have hh : ¬ (64 + d.val) % 64 < 32 := by omega
    have hp : (pairPlace ⟨64 + d.val, by omega⟩).val = 64 + d.val - 32 := pairPlace_second hh
    rw [if_neg hh]
    refine (concatenate_pair_apply_right (3 : Fin S4x4096x16x64.rank) (val_main_v46 (F := Ideal) a g q) (val_main_v51 (F := Ideal) a g q) _ (ix4 b p h d) rfl rfl (ix4 b p h ⟨d.val - 32, by omega⟩) (fun b hb => ?_) ?_).trans ?_
    · fin_cases b
      · rfl
      · rfl
      · rfl
      · exact absurd rfl hb
    · show d.val - 32 + 32 = d.val
      omega
    rw [val_main_v51_apply, val_main_v48_apply, val_main_v50_apply, val_main_v40_apply, val_main_v41_apply, val_main_v35_apply, val_main_v35_apply, val_main_v47_apply, val_main_v49_apply, val_main_v37_apply, val_main_v36_apply, val_main_v39_apply, val_main_v38_apply, ← normed_apply, ← normed_apply]
    show _ * Ideal.cos _ + _ * Ideal.sin _ = _
    refine congrArg₂ (· + ·) (congrArg₂ (· * ·) (congrArg (val_main_v16 (F := Ideal) a g) (funext fun e => ?_)) (congrArg Ideal.cos (congrArg q (funext fun e => ?_))))
      (congrArg₂ (· * ·) (congrArg (val_main_v16 (F := Ideal) a g) (funext fun e => ?_)) (congrArg Ideal.sin (congrArg q (funext fun e => ?_))))
    all_goals
      fin_cases e
      all_goals first | rfl | refine Fin.ext ?_
    · show 64 + (32 + (d.val - 32)) = 64 + d.val
      omega
    · show d.val - 32 = d.val % 32
      omega
    · show 64 + (d.val - 32) = (pairPlace ⟨64 + d.val, by omega⟩).val
      rw [hp]
      omega
    · show d.val - 32 = d.val % 32
      omega

/-- The rotated heads. -/
theorem turned_apply (d : Fin 128) :
    val_main_v53 (F := Ideal) a g t q (ix4 b p h d)
      = turned (fun e => a (ix2 ⟨b.val * 4096 + p.val, by omega⟩ ⟨4608 + (h.val * 128 + e.val), by omega⟩))
          (fun e => g (ix2 0 ⟨h.val * 128 + e.val, by omega⟩)) d (Ideal.cos (angleAt t q p d)) (sineAt t q p d) := by
  unfold val_main_v53
  by_cases hd : d.val < 64
  · refine (concatenate_pair_apply_left (3 : Fin S4x4096x16x128.rank) (val_main_v34 (F := Ideal) a g t) (val_main_v52 (F := Ideal) a g q) _ (ix4 b p h d) rfl (ix4 b p h (⟨d.val, hd⟩ : Fin 64)) fun b => ?_).trans ?_
    · fin_cases b <;> rfl
    exact turned_first a g t q b p h ⟨d.val, hd⟩
  · refine (concatenate_pair_apply_right (3 : Fin S4x4096x16x128.rank) (val_main_v34 (F := Ideal) a g t) (val_main_v52 (F := Ideal) a g q) _ (ix4 b p h d) rfl rfl (ix4 b p h (⟨d.val - 64, by omega⟩ : Fin 64)) (fun b hb => ?_) ?_).trans ?_
    · fin_cases b
      · rfl
      · rfl
      · rfl
      · exact absurd rfl hb
    · show d.val - 64 + 64 = d.val
      omega
    have e : (⟨64 + (d.val - 64), by omega⟩ : Fin 128) = d := Fin.ext (by show 64 + (d.val - 64) = d.val; omega)
    have := turned_second a g t q b p h ⟨d.val - 64, by omega⟩
    simp only [e] at this
    exact this

/-- The reference's result at an index. -/
theorem result_apply (i : Fin 16384) (j : Fin 2048) : val_main_v55 (F := Ideal) a g t q (ix2 i j) = resultAt a g t q i j := by
  rw [val_main_v55_apply, val_main_v54_apply]
  refine Eq.trans (congrArg (val_main_v53 (F := Ideal) a g t q) (funext fun e => ?_))
    ((turned_apply a g t q ⟨i.val / 4096, by omega⟩ ⟨i.val % 4096, by omega⟩ ⟨j.val / 128, by omega⟩ (place j.val)).trans ?_)
  · fin_cases e
    · refine Fin.ext ?_
      show (i.val * 2048 + j.val) / 8388608 = i.val / 4096
      omega
    · refine Fin.ext ?_
      show (i.val * 2048 + j.val) / 2048 % 4096 = i.val % 4096
      omega
    · refine Fin.ext ?_
      show (i.val * 2048 + j.val) / 128 % 16 = j.val / 128
      omega
    · refine Fin.ext ?_
      show (i.val * 2048 + j.val) % 128 = j.val % 128
      omega
  · unfold resultAt
    simp only [Nat.div_add_mod']

end Cert.RotaryCReferenceIdeal.Read

namespace Cert.Proof.RotaryC

open Idealize.ShloMosaic Idealize.ShloMosaic.TcCoe Idealize.SL.Sem

/-- The kernel and the reference end with the same result. -/
theorem algebraic : Cert.algebraic_RotaryCIdeal_RotaryCReferenceIdeal := by
  pair_intro
  · run_from Cert.RotaryCIdeal.Value.run_blocks m g
  · run_from Cert.RotaryCReferenceIdeal.Value.run m' g'
    refine Eq.trans ?_ (Cert.RotaryCIdeal.Gen.array_eq m c).symm
    rw [Cert.RotaryCReferenceIdeal.Read.val_main_v55_eq, (hagree c).1, (hagree c).2.1, (hagree c).2.2.1, (hagree c).2.2.2]
    funext y
    exact (congrArg _ (eq_ix2 y)).trans (Cert.RotaryCReferenceIdeal.Read.result_apply _ _ _ _ _ _)

/-- The reference ends with its arguments unchanged and every semaphore at zero. -/
theorem reference_frame : Cert.quiescent_RotaryCReferenceIdeal := fun m ρ _ =>
  (θ_run Cert.RotaryCReferenceIdeal.defs _ _).mono
    (fun r h => ⟨fun c => (h c).2, Idealize.ShloMosaic.sem_eq_zero_of_no_sems (by decide) r.2⟩)
    (Cert.RotaryCReferenceIdeal.Value.run (F := Ideal) m ρ)

end Cert.Proof.RotaryC

end
-- ==== Proof.ValuesTClaim.lean ====
/-
  The value claim of the grouped attention's values transposed: at every index the kernel's result and the reference's are
  the projection's element at the exchanged index, in the values' columns.
-/
module

public import proofs.«01_k».proof.Defs
public import proofs.«01_k».proof.Proof.Gen.ValuesTIdeal.Value
public import proofs.«01_k».proof.Proof.Gen.ValuesTReferenceIdeal.Read
public import Idealize.ShloMosaic.Lib.Pipeline.ValueKit
public import Idealize.ShloMosaic.Lib.Pipeline.Covers
public import Idealize.ShloMosaic.Lib.Claim

@[expose] public section

set_option maxRecDepth 16384
set_option maxHeartbeats 1000000

noncomputable section

namespace Cert.ValuesTIdeal.Gen

open Idealize.ShloMosaic Idealize.ShloMosaic.TcCoe Idealize.SL.Sem
open Idealize.ShloMosaic.Pipeline (Dat Cfg Window)

/-- The body's block. -/
theorem block_apply (x0 : Vec Ideal S1024x512 .bf16) (r : Fin 512) (s : Fin 1024) : out0_1 x0 (ix2 r s) = x0 (ix2 s r) := by
  frame_out
  pointwise [k0_pay1]

/-- The result at row `i` and column `j`. -/
def resultAt (a : S16384x19456.Idx → EReal) (i : Fin 512) (j : Fin 16384) : EReal := a (ix2 j ⟨6656 + i.val, by omega⟩)

/-- The block indices at a grid point. -/
theorem idx : ∀ t : Fin cfg0.N,
    win0_0.index t = ![(grid0.coords t 0).val, 13]
    ∧ win0_1.index t = ![0, (grid0.coords t 0).val] := by
  decide +kernel

variable (m : (ℓ : Loc nD τ sig) → Buf (Elt Ideal) ℓ) (c : Dev nD)

/-- The result array after the run. -/
theorem array_eq : (dats m 0 c).arrAt 1 cfg0.N = fun y => resultAt (m ((c.tc : Thread nD τ).loc main_arg0)) (y 0) (y 1) := by
  refine (dats m 0 c).arrAt_eq_of_covers 1 _ (by decide +kernel) fun t hf y => ?_
  blk_simp
  rw [after0_1]
  idx_vars y
  refine (block_apply _ _ _).trans ?_
  unfold resultAt
  blk_ext [iblk, V_main_arg0, idx t]

end Cert.ValuesTIdeal.Gen

namespace Cert.ValuesTReferenceIdeal.Read

open Idealize.ShloMosaic Idealize.ShloMosaic.TcCoe

/-- The reference's result at an index. -/
theorem result_apply (a : (⟨S16384x19456, .bf16⟩ : BufTy).Contents (Elt Ideal)) (i : Fin 512) (j : Fin 16384) :
    val_main_v1 (F := Ideal) a (ix2 i j) = Cert.ValuesTIdeal.Gen.resultAt a i j := by
  rw [val_main_v1_apply, val_main_v0_apply]
  refine congrArg a (funext fun e => ?_)
  fin_cases e <;> rfl

end Cert.ValuesTReferenceIdeal.Read

namespace Cert.Proof.ValuesT

open Idealize.ShloMosaic Idealize.ShloMosaic.TcCoe Idealize.SL.Sem

/-- The kernel and the reference end with the same result. -/
theorem algebraic : Cert.algebraic_ValuesTIdeal_ValuesTReferenceIdeal := by
  pair_intro
  · run_from Cert.ValuesTIdeal.Value.run_blocks m g
  · run_from Cert.ValuesTReferenceIdeal.Value.run m' g'
    refine Eq.trans ?_ (Cert.ValuesTIdeal.Gen.array_eq m c).symm
    rw [Cert.ValuesTReferenceIdeal.Read.val_main_v1_eq]
    funext y
    exact (congrArg _ (eq_ix2 y)).trans (Cert.ValuesTReferenceIdeal.Read.result_apply _ _ _)

/-- The reference ends with its arguments unchanged and every semaphore at zero. -/
theorem reference_frame : Cert.quiescent_ValuesTReferenceIdeal := fun m ρ _ =>
  (θ_run Cert.ValuesTReferenceIdeal.defs _ _).mono
    (fun r h => ⟨fun c => (h c).2, Idealize.ShloMosaic.sem_eq_zero_of_no_sems (by decide) r.2⟩)
    (Cert.ValuesTReferenceIdeal.Value.run (F := Ideal) m ρ)

end Cert.Proof.ValuesT

end
-- ==== Proof.lean ====
/-
  The certificate: for each of the layer's calls taken, the frames of the kernel, of its ideal reading and of the
  reference, and the value claim of the ideal reading against the reference.
-/
module

public import proofs.«01_k».proof.Defs
public import proofs.«01_k».proof.Proof.DiffFrameBits
public import proofs.«01_k».proof.Proof.DiffClaim
public import proofs.«01_k».proof.Proof.ProjRestClaim
public import proofs.«01_k».proof.Proof.MlpDownFrameBits
public import proofs.«01_k».proof.Proof.MlpDownClaim
public import proofs.«01_k».proof.Proof.MlpUpClaim
public import proofs.«01_k».proof.Proof.ProjOutClaim
public import proofs.«01_k».proof.Proof.MergeClaim
public import proofs.«01_k».proof.Proof.ProjQkClaim
public import proofs.«01_k».proof.Proof.RowNormClaim
public import proofs.«01_k».proof.Proof.RotaryBClaim
public import proofs.«01_k».proof.Proof.RotaryCClaim
public import proofs.«01_k».proof.Proof.ValuesTClaim
public import proofs.«01_k».proof.Proof.Gen.ProjRest.Frame
public import proofs.«01_k».proof.Proof.Gen.MlpUp.Frame
public import proofs.«01_k».proof.Proof.Gen.ProjOut.Frame
public import proofs.«01_k».proof.Proof.Gen.Merge.Frame
public import proofs.«01_k».proof.Proof.Gen.ProjQk.Frame
public import proofs.«01_k».proof.Proof.Gen.RowNorm.Frame
public import proofs.«01_k».proof.Proof.Gen.RotaryB.Frame
public import proofs.«01_k».proof.Proof.Gen.RotaryC.Frame
public import proofs.«01_k».proof.Proof.Gen.ValuesT.Frame

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.ProjRest.Gen.facts, Cert.ProjRestIdeal.Gen.facts, Cert.ProjRestReferenceIdeal.Gen.facts,
    Cert.MlpDown.Gen.facts, Cert.MlpDownIdeal.Gen.facts, Cert.MlpDownReferenceIdeal.Gen.facts,
    Cert.MlpUp.Gen.facts, Cert.MlpUpIdeal.Gen.facts, Cert.MlpUpReferenceIdeal.Gen.facts,
    Cert.ProjOut.Gen.facts, Cert.ProjOutIdeal.Gen.facts, Cert.ProjOutReferenceIdeal.Gen.facts,
    Cert.Merge.Gen.facts, Cert.MergeIdeal.Gen.facts, Cert.MergeReferenceIdeal.Gen.facts,
    Cert.ProjQk.Gen.facts, Cert.ProjQkIdeal.Gen.facts, Cert.ProjQkReferenceIdeal.Gen.facts,
    Cert.RowNorm.Gen.facts, Cert.RowNormIdeal.Gen.facts, Cert.RowNormReferenceIdeal.Gen.facts,
    Cert.RotaryB.Gen.facts, Cert.RotaryBIdeal.Gen.facts, Cert.RotaryBReferenceIdeal.Gen.facts,
    Cert.RotaryC.Gen.facts, Cert.RotaryCIdeal.Gen.facts, Cert.RotaryCReferenceIdeal.Gen.facts,
    Cert.ValuesT.Gen.facts, Cert.ValuesTIdeal.Gen.facts, Cert.ValuesTReferenceIdeal.Gen.facts,
    Cert.Pre_finite.facts,
    fun m ρ _ => Cert.Kernel.Gen.frame m ρ,
    fun m ρ _ => Cert.KernelIdeal.Gen.frame m ρ,
    fun m ρ _ => Cert.KernelIdeal.Gen.frame m ρ,
    fun m ρ _ => Diff.reference_frame m ρ trivial,
    fun m ρ _ => Diff.reference_frame m ρ trivial,
    fun m ρ _ => Cert.ProjRest.Gen.frame m ρ, fun m ρ _ => Cert.ProjRestIdeal.Gen.frame m ρ, ProjRest.reference_frame,
    fun m ρ _ => Cert.MlpDown.Gen.frame m ρ, fun m ρ _ => Cert.MlpDownIdeal.Gen.frame m ρ, MlpDown.reference_frame,
    fun m ρ _ => Cert.MlpUp.Gen.frame m ρ, fun m ρ _ => Cert.MlpUpIdeal.Gen.frame m ρ, MlpUp.reference_frame,
    fun m ρ _ => Cert.ProjOut.Gen.frame m ρ, fun m ρ _ => Cert.ProjOutIdeal.Gen.frame m ρ, ProjOut.reference_frame,
    fun m ρ _ => Cert.Merge.Gen.frame m ρ, fun m ρ _ => Cert.MergeIdeal.Gen.frame m ρ, Merge.reference_frame,
    fun m ρ _ => Cert.ProjQk.Gen.frame m ρ, fun m ρ _ => Cert.ProjQkIdeal.Gen.frame m ρ, ProjQk.reference_frame,
    fun m ρ _ => Cert.RowNorm.Gen.frame m ρ, fun m ρ _ => Cert.RowNormIdeal.Gen.frame m ρ, RowNorm.reference_frame,
    fun m ρ _ => Cert.RotaryB.Gen.frame m ρ, fun m ρ _ => Cert.RotaryBIdeal.Gen.frame m ρ, RotaryB.reference_frame,
    fun m ρ _ => Cert.RotaryC.Gen.frame m ρ, fun m ρ _ => Cert.RotaryCIdeal.Gen.frame m ρ, RotaryC.reference_frame,
    fun m ρ _ => Cert.ValuesT.Gen.frame m ρ, fun m ρ _ => Cert.ValuesTIdeal.Gen.frame m ρ, ValuesT.reference_frame,
    trivial, Diff.algebraic,
    trivial, ProjRest.algebraic,
    trivial, MlpDown.algebraic,
    trivial, MlpUp.algebraic,
    trivial, ProjOut.algebraic,
    trivial, Merge.algebraic,
    trivial, ProjQk.algebraic,
    trivial, RowNorm.algebraic,
    trivial, RotaryB.algebraic,
    trivial, RotaryC.algebraic,
    trivial, ValuesT.algebraic⟩

end Cert.Proof

end
